-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12)
      ∧ r.2.mem ((c.tc : Thread Cert.Sample.nD Cert.Sample.τ).loc Cert.Sample.main_arg13) = m ((c.tc : Thread Cert.Sample.nD Cert.Sample.τ).loc Cert.Sample.main_arg13)
      ∧ r.2.mem ((c.tc : Thread Cert.Sample.nD Cert.Sample.τ).loc Cert.Sample.main_arg14) = m ((c.tc : Thread Cert.Sample.nD Cert.Sample.τ).loc Cert.Sample.main_arg14))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10)
      ∧ r.2.mem ((c.tc : Thread Cert.SampleRefIdeal.nD Cert.SampleRefIdeal.τ).loc Cert.SampleRefIdeal.main_arg11) = m ((c.tc : Thread Cert.SampleRefIdeal.nD Cert.SampleRefIdeal.τ).loc Cert.SampleRefIdeal.main_arg11)
      ∧ r.2.mem ((c.tc : Thread Cert.SampleRefIdeal.nD Cert.SampleRefIdeal.τ).loc Cert.SampleRefIdeal.main_arg12) = m ((c.tc : Thread Cert.SampleRefIdeal.nD Cert.SampleRefIdeal.τ).loc Cert.SampleRefIdeal.main_arg12)
      ∧ r.2.mem ((c.tc : Thread Cert.SampleRefIdeal.nD Cert.SampleRefIdeal.τ).loc Cert.SampleRefIdeal.main_arg13) = m ((c.tc : Thread Cert.SampleRefIdeal.nD Cert.SampleRefIdeal.τ).loc Cert.SampleRefIdeal.main_arg13)
      ∧ r.2.mem ((c.tc : Thread Cert.SampleRefIdeal.nD Cert.SampleRefIdeal.τ).loc Cert.SampleRefIdeal.main_arg14) = m ((c.tc : Thread Cert.SampleRefIdeal.nD Cert.SampleRefIdeal.τ).loc Cert.SampleRefIdeal.main_arg14))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v22) = v0 c
          ∧ r.2.mem ((c.tc : Thread Cert.FfnRefIdeal.nD Cert.FfnRefIdeal.τ).loc Cert.FfnRefIdeal.main_v45) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Sample_SampleIdeal : Prop :=
  IdealRules.named_const.Statement Cert.SampleIdeal.κ "mask" .f32 0xF149F2CA#32 ⊥

def algebraic_SampleIdeal_SampleRefIdeal_on_key_if_finite [hSampleIdeal : Cert.SampleIdeal.Facts] [hSampleRefIdeal : Cert.SampleRefIdeal.Facts] [hOn_key_if_finite : Cert.On_key_if_finite.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)
      ∧ m' ((c.tc : Thread Cert.SampleRefIdeal.nD Cert.SampleRefIdeal.τ).loc Cert.SampleRefIdeal.main_arg11) = m ((c.tc : Thread Cert.SampleIdeal.nD Cert.SampleIdeal.τ).loc Cert.SampleIdeal.main_arg11)
      ∧ m' ((c.tc : Thread Cert.SampleRefIdeal.nD Cert.SampleRefIdeal.τ).loc Cert.SampleRefIdeal.main_arg12) = m ((c.tc : Thread Cert.SampleIdeal.nD Cert.SampleIdeal.τ).loc Cert.SampleIdeal.main_arg12)
      ∧ m' ((c.tc : Thread Cert.SampleRefIdeal.nD Cert.SampleRefIdeal.τ).loc Cert.SampleRefIdeal.main_arg13) = m ((c.tc : Thread Cert.SampleIdeal.nD Cert.SampleIdeal.τ).loc Cert.SampleIdeal.main_arg13)
      ∧ m' ((c.tc : Thread Cert.SampleRefIdeal.nD Cert.SampleRefIdeal.τ).loc Cert.SampleRefIdeal.main_arg14) = m ((c.tc : Thread Cert.SampleIdeal.nD Cert.SampleIdeal.τ).loc Cert.SampleIdeal.main_arg14)) →
    ∃ (v0 : (c : Dev Cert.SampleIdeal.nD) → Buf (Elt Ideal) ((c.tc : Thread Cert.SampleIdeal.nD Cert.SampleIdeal.τ).loc Cert.SampleIdeal.main_v92)) (v1 : (c : Dev Cert.SampleIdeal.nD) → Buf (Elt Ideal) ((c.tc : Thread Cert.SampleIdeal.nD Cert.SampleIdeal.τ).loc Cert.SampleIdeal.main_v93)) (v2 : (c : Dev Cert.SampleIdeal.nD) → Buf (Elt Ideal) ((c.tc : Thread Cert.SampleIdeal.nD Cert.SampleIdeal.τ).loc Cert.SampleIdeal.main_v94)) (v3 : (c : Dev Cert.SampleIdeal.nD) → Buf (Elt Ideal) ((c.tc : Thread Cert.SampleIdeal.nD Cert.SampleIdeal.τ).loc Cert.SampleIdeal.main_v95)) (v4 : (c : Dev Cert.SampleIdeal.nD) → Buf (Elt Ideal) ((c.tc : Thread Cert.SampleIdeal.nD Cert.SampleIdeal.τ).loc Cert.SampleIdeal.main_v97)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          (∀ i : (⟨5, ![1, 128, 128, 2, 64]⟩ : Shape).Idx, (Cert.On_key_if_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14))).1 i = 1#1 → r.2.mem ((c.tc : Thread Cert.SampleIdeal.nD Cert.SampleIdeal.τ).loc Cert.SampleIdeal.main_v92) i = v0 c i)
          ∧ (∀ i : (⟨5, ![1, 128, 4, 128, 128]⟩ : Shape).Idx, (Cert.On_key_if_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14))).2.1 i = 1#1 → r.2.mem ((c.tc : Thread Cert.SampleIdeal.nD Cert.SampleIdeal.τ).loc Cert.SampleIdeal.main_v93) i = v1 c i)
          ∧ (∀ i : (⟨4, ![1, 128, 4, 128]⟩ : Shape).Idx, (Cert.On_key_if_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14))).2.2.1 i = 1#1 → r.2.mem ((c.tc : Thread Cert.SampleIdeal.nD Cert.SampleIdeal.τ).loc Cert.SampleIdeal.main_v94) i = v2 c i)
          ∧ (∀ i : (⟨3, ![1, 128, 4]⟩ : Shape).Idx, (Cert.On_key_if_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14))).2.2.2.1 i = 1#1 → r.2.mem ((c.tc : Thread Cert.SampleIdeal.nD Cert.SampleIdeal.τ).loc Cert.SampleIdeal.main_v95) i = v3 c i)
          ∧ (∀ i : (⟨5, ![1, 128, 128, 2, 64]⟩ : Shape).Idx, (Cert.On_key_if_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14))).2.2.2.2 i = 1#1 → r.2.mem ((c.tc : Thread Cert.SampleIdeal.nD Cert.SampleIdeal.τ).loc Cert.SampleIdeal.main_v97) i = v4 c i)
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
          ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
          ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          (∀ i : (⟨5, ![1, 128, 128, 2, 64]⟩ : Shape).Idx, (Cert.On_key_if_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14))).1 i = 1#1 → r.2.mem ((c.tc : Thread Cert.SampleRefIdeal.nD Cert.SampleRefIdeal.τ).loc Cert.SampleRefIdeal.main_v94) i = v0 c i)
          ∧ (∀ i : (⟨5, ![1, 128, 4, 128, 128]⟩ : Shape).Idx, (Cert.On_key_if_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14))).2.1 i = 1#1 → r.2.mem ((c.tc : Thread Cert.SampleRefIdeal.nD Cert.SampleRefIdeal.τ).loc Cert.SampleRefIdeal.main_v95) i = v1 c i)
          ∧ (∀ i : (⟨4, ![1, 128, 4, 128]⟩ : Shape).Idx, (Cert.On_key_if_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14))).2.2.1 i = 1#1 → r.2.mem ((c.tc : Thread Cert.SampleRefIdeal.nD Cert.SampleRefIdeal.τ).loc Cert.SampleRefIdeal.main_v96) i = v2 c i)
          ∧ (∀ i : (⟨3, ![1, 128, 4]⟩ : Shape).Idx, (Cert.On_key_if_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14))).2.2.2.1 i = 1#1 → r.2.mem ((c.tc : Thread Cert.SampleRefIdeal.nD Cert.SampleRefIdeal.τ).loc Cert.SampleRefIdeal.main_v97) i = v3 c i)
          ∧ (∀ i : (⟨5, ![1, 128, 128, 2, 64]⟩ : Shape).Idx, (Cert.On_key_if_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14))).2.2.2.2 i = 1#1 → r.2.mem ((c.tc : Thread Cert.SampleRefIdeal.nD Cert.SampleRefIdeal.τ).loc Cert.SampleRefIdeal.main_v151) i = v4 c i)
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10)
          ∧ r.2.mem ((c.tc : Thread Cert.SampleRefIdeal.nD Cert.SampleRefIdeal.τ).loc Cert.SampleRefIdeal.main_arg11) = m' ((c.tc : Thread Cert.SampleRefIdeal.nD Cert.SampleRefIdeal.τ).loc Cert.SampleRefIdeal.main_arg11)
          ∧ r.2.mem ((c.tc : Thread Cert.SampleRefIdeal.nD Cert.SampleRefIdeal.τ).loc Cert.SampleRefIdeal.main_arg12) = m' ((c.tc : Thread Cert.SampleRefIdeal.nD Cert.SampleRefIdeal.τ).loc Cert.SampleRefIdeal.main_arg12)
          ∧ r.2.mem ((c.tc : Thread Cert.SampleRefIdeal.nD Cert.SampleRefIdeal.τ).loc Cert.SampleRefIdeal.main_arg13) = m' ((c.tc : Thread Cert.SampleRefIdeal.nD Cert.SampleRefIdeal.τ).loc Cert.SampleRefIdeal.main_arg13)
          ∧ r.2.mem ((c.tc : Thread Cert.SampleRefIdeal.nD Cert.SampleRefIdeal.τ).loc Cert.SampleRefIdeal.main_arg14) = m' ((c.tc : Thread Cert.SampleRefIdeal.nD Cert.SampleRefIdeal.τ).loc Cert.SampleRefIdeal.main_arg14))

def Claim : Prop :=
  ∃ (hFfn : Cert.Ffn.Facts) (hFfnIdeal : Cert.FfnIdeal.Facts) (hFfnRefIdeal : Cert.FfnRefIdeal.Facts) (hSample : Cert.Sample.Facts) (hSampleIdeal : Cert.SampleIdeal.Facts) (hSampleRefIdeal : Cert.SampleRefIdeal.Facts) (hOn_key_if_finite : Cert.On_key_if_finite.Facts),
    quiescent_Ffn (hFfn := hFfn)
    ∧ quiescent_FfnIdeal (hFfnIdeal := hFfnIdeal)
    ∧ quiescent_FfnRefIdeal (hFfnRefIdeal := hFfnRefIdeal)
    ∧ quiescent_Sample (hSample := hSample)
    ∧ quiescent_SampleIdeal (hSampleIdeal := hSampleIdeal)
    ∧ quiescent_SampleRefIdeal (hSampleRefIdeal := hSampleRefIdeal)
    ∧ preserves_Ffn_FfnIdeal
    ∧ algebraic_FfnIdeal_FfnRefIdeal (hFfnIdeal := hFfnIdeal) (hFfnRefIdeal := hFfnRefIdeal)
    ∧ preserves_Sample_SampleIdeal
    ∧ algebraic_SampleIdeal_SampleRefIdeal_on_key_if_finite (hSampleIdeal := hSampleIdeal) (hSampleRefIdeal := hSampleRefIdeal) (hOn_key_if_finite := hOn_key_if_finite)
-- ==== On_key_if_finite.lean ====
abbrev S128x4x1024 : Shape := ⟨3, ![128, 4, 1024]⟩
abbrev S1x128x128x2x64 : Shape := ⟨5, ![1, 128, 128, 2, 64]⟩
abbrev S1x128x4x128x128 : Shape := ⟨5, ![1, 128, 4, 128, 128]⟩
abbrev S1x128x4x128 : Shape := ⟨4, ![1, 128, 4, 128]⟩
abbrev S1x128x4 : Shape := ⟨3, ![1, 128, 4]⟩
abbrev S1x1024 : Shape := ⟨2, ![1, 1024]⟩
abbrev S1x1024x2824 : Shape := ⟨3, ![1, 1024, 2824]⟩
abbrev S1x64 : Shape := ⟨2, ![1, 64]⟩
abbrev S1x8 : Shape := ⟨2, ![1, 8]⟩
abbrev S1x4 : Shape := ⟨2, ![1, 4]⟩
abbrev S1x512 : Shape := ⟨2, ![1, 512]⟩
abbrev S1x1024x1024 : Shape := ⟨3, ![1, 1024, 1024]⟩
abbrev S1x1024x128 : Shape := ⟨3, ![1, 1024, 128]⟩
abbrev S_ : Shape := ⟨0, ![]⟩
abbrev S128 : Shape := ⟨1, ![128]⟩
abbrev S1x1x128x1x1 : Shape := ⟨5, ![1, 1, 128, 1, 1]⟩

class Facts : Prop where
  slices_S1x1024x2824_S1x1024x128_0_0_512 : S1x1024x2824.Slices ![0, 0, 512] S1x1024x128
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x128 : S_.BroadcastsInDim S1x1024x128 (![] : Fin 0 → Fin S1x1024x128.rank)
  reducesTo_S1x1024x128_S_d0_1_2 : S1x1024x128.ReducesTo [0, 1, 2] S_
  bcast_S_S128 : S_.BroadcastsInDim S128 (![] : Fin 0 → Fin S128.rank)
  bcast_S_S1x128x128x2x64 : S_.BroadcastsInDim S1x128x128x2x64 (![] : Fin 0 → Fin S1x128x128x2x64.rank)
  bcast_S_S1x128x4x128x128 : S_.BroadcastsInDim S1x128x4x128x128 (![] : Fin 0 → Fin S1x128x4x128x128.rank)
  bcast_S_S1x128x4x128 : S_.BroadcastsInDim S1x128x4x128 (![] : Fin 0 → Fin S1x128x4x128.rank)
  bcast_S_S1x128x4 : S_.BroadcastsInDim S1x128x4 (![] : Fin 0 → Fin S1x128x4.rank)
  bcast_S128_S1x1x128x1x1_2 : S128.BroadcastsInDim S1x1x128x1x1 (![2] : Fin 1 → Fin S1x1x128x1x1.rank)
  bcast_S1x1x128x1x1_S1x128x128x2x64_0_1_2_3_4 : S1x1x128x1x1.BroadcastsInDim S1x128x128x2x64 (![0, 1, 2, 3, 4] : Fin 5 → Fin S1x128x128x2x64.rank)

variable [Facts]

def fn_part1 {F : FTy → Type} [FloatOps F] (main_v9 : IVec S_ 1) (main_v12 : IVec S128 1) (main_v13 : IVec S1x128x128x2x64 1) (main_v14 : IVec S1x128x4x128x128 1) (main_v15 : IVec S1x128x4x128 1) : IVec S1x128x128x2x64 1 × IVec S1x128x4x128x128 1 × IVec S1x128x4x128 1 × IVec S1x128x4 1 × IVec S1x128x128x2x64 1 :=
  let main_c_6 : IVec S_ 1 := constantI S_ 1 1#1
  let main_v16 : IVec S1x128x4 1 := broadcastInDim S1x128x4 ![] bcast_S_S1x128x4 main_c_6
  let main_v17 : IVec S128 1 := broadcastInDim S128 ![] bcast_S_S128 main_v9
  let main_v18 : IVec S128 1 := ori main_v12 main_v17
  let main_v19 : IVec S1x1x128x1x1 1 := broadcastInDim S1x1x128x1x1 ![2] bcast_S128_S1x1x128x1x1_2 main_v18
  let main_v20 : IVec S1x128x128x2x64 1 := broadcastInDim S1x128x128x2x64 ![0, 1, 2, 3, 4] bcast_S1x1x128x1x1_S1x128x128x2x64_0_1_2_3_4 main_v19
  (main_v13, main_v14, main_v15, main_v16, main_v20)

def fn {F : FTy → Type} [FloatOps F] (main_arg0 : FVec F S128x4x1024 .f32) (main_arg1 : FVec F S1x128x128x2x64 .f32) (main_arg2 : FVec F S1x128x128x2x64 .f32) (main_arg3 : FVec F S1x128x4x128x128 .f32) (main_arg4 : FVec F S1x128x4x128 .f32) (main_arg5 : FVec F S1x128x4 .f32) (main_arg6 : FVec F S1x1024 .f32) (main_arg7 : FVec F S1x1024x2824 .f32) (main_arg8 : FVec F S1x64 .f32) (main_arg9 : FVec F S1x64 .f32) (main_arg10 : FVec F S1x8 .f32) (main_arg11 : FVec F S1x4 .f32) (main_arg12 : FVec F S1x4 .f32) (main_arg13 : FVec F S1x512 .f32) (main_arg14 : FVec F S1x1024x1024 .f32) : IVec S1x128x128x2x64 1 × IVec S1x128x4x128x128 1 × IVec S1x128x4x128 1 × IVec S1x128x4 1 × IVec S1x128x128x2x64 1 :=
  let main_v0 : FVec F S1x1024x128 .f32 := (extractStridedSlice S1x1024x128 ![0, 0, 512] · slices_S1x1024x2824_S1x1024x128_0_0_512) main_arg7
  let main_v1 : FVec F S1x1024 .f32 := Host.absf main_arg6
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_c : IVec S_ 1 := constantI S_ 1 1#1
  let main_v4 : IVec S_ 1 := (fun x v => Host.reduce IntOp.andi x v reducesTo_S1x1024_S_d0_1 h_S_) main_v3 main_c
  let main_v5 : FVec F S1x1024x128 .f32 := Host.absf main_v0
  let main_cst_0 : FVec F S_ .f32 := constant S_ .f32 0x7F800000#32
  let main_v6 : FVec F S1x1024x128 .f32 := broadcastInDim S1x1024x128 ![] bcast_S_S1x1024x128 main_cst_0
  let main_v7 : IVec S1x1024x128 1 := cmpf .olt main_v5 main_v6
  let main_c_1 : IVec S_ 1 := constantI S_ 1 1#1
  let main_v8 : IVec S_ 1 := (fun x v => Host.reduce IntOp.andi x v reducesTo_S1x1024x128_S_d0_1_2 h_S_) main_v7 main_c_1
  let main_v9 : IVec S_ 1 := andi main_v4 main_v8
  let main_v10 : IVec S128 32 := iotaInDim S128 32 0
  let main_c_2 : IVec S_ 32 := constantI S_ 32 124#32
  let main_v11 : IVec S128 32 := broadcastInDim S128 ![] bcast_S_S128 main_c_2
  let main_v12 : IVec S128 1 := cmpi .slt main_v10 main_v11
  let main_c_3 : IVec S_ 1 := constantI S_ 1 1#1
  let main_v13 : IVec S1x128x128x2x64 1 := broadcastInDim S1x128x128x2x64 ![] bcast_S_S1x128x128x2x64 main_c_3
  let main_c_4 : IVec S_ 1 := constantI S_ 1 1#1
  let main_v14 : IVec S1x128x4x128x128 1 := broadcastInDim S1x128x4x128x128 ![] bcast_S_S1x128x4x128x128 main_c_4
  let main_c_5 : IVec S_ 1 := constantI S_ 1 1#1
  let main_v15 : IVec S1x128x4x128 1 := broadcastInDim S1x128x4x128 ![] bcast_S_S1x128x4x128 main_c_5
  fn_part1 (F := F) main_v9 main_v12 main_v13 main_v14 main_v15
-- ==== Ffn.lean ====
abbrev S16384x1024 : Shape := ⟨2, ![16384, 1024]⟩
abbrev S512x1024 : Shape := ⟨2, ![512, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S2816x256 : Shape := ⟨2, ![2816, 256]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S16384x1024, .f32⟩
  | .hbm, ⟨12, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1024x2816, .f32⟩
  | .local _ .vmem, ⟨5, _⟩ => ⟨S1024x2816, .f32⟩
  | .local _ .vmem, ⟨6, _⟩ => ⟨S2816x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .eq arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnRefIdeal.lean ====
abbrev S16384x1024 : Shape := ⟨2, ![16384, 1024]⟩
abbrev S512x1024 : Shape := ⟨2, ![512, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S2816x1024 : Shape := ⟨2, ![2816, 1024]⟩
abbrev S512 : Shape := ⟨1, ![512]⟩
abbrev S512x1 : Shape := ⟨2, ![512, 1]⟩
abbrev S512x2816 : Shape := ⟨2, ![512, 2816]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S1024x2816, .f32⟩
  | .hbm, ⟨35, _⟩ => ⟨S16384x2816, .f32⟩
  | .hbm, ⟨36, _⟩ => ⟨S16384x2816, .f32⟩
  | .hbm, ⟨37, _⟩ => ⟨S2816x1024, .f32⟩
  | .hbm, ⟨38, _⟩ => ⟨S16384x1024, .f32⟩
  | .hbm, ⟨39, _⟩ => ⟨S16384x1024, .f32⟩
  | .hbm, ⟨40, _⟩ => ⟨S1024, .f32⟩
  | .hbm, ⟨41, _⟩ => ⟨S512x1024, .f32⟩
  | .hbm, ⟨42, _⟩ => ⟨S_, .f32⟩
  | .hbm, ⟨43, _⟩ => ⟨S512, .f32⟩
  | .hbm, ⟨44, _⟩ => ⟨S512x1, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S_, .f32⟩
  | .hbm, ⟨49, _⟩ => ⟨S512x1, .f32⟩
  | .hbm, ⟨50, _⟩ => ⟨S512x1, .f32⟩
  | .hbm, ⟨51, _⟩ => ⟨S512x1, .f32⟩
  | .hbm, ⟨52, _⟩ => ⟨S512x1024, .f32⟩
  | .hbm, ⟨53, _⟩ => ⟨S512x1024, .f32⟩
  | .hbm, ⟨54, _⟩ => ⟨S1x1024, .f32⟩
  | .hbm, ⟨55, _⟩ => ⟨S512x1024, .f32⟩
  | .hbm, ⟨56, _⟩ => ⟨S512x1024, .f32⟩
  | .hbm, ⟨57, _⟩ => ⟨S1024x2816, .f32⟩
  | .hbm, ⟨58, _⟩ => ⟨S512x2816, .f32⟩
  | .hbm, ⟨59, _⟩ => ⟨S512x2816, .f32⟩
  | .hbm, ⟨60, _⟩ => ⟨S512x2816, .f32⟩
  | .hbm, ⟨61, _⟩ => ⟨S_, .f32⟩
  | .hbm, ⟨62, _⟩ => ⟨S512x2816, .f32⟩
  | .hbm, ⟨63, _⟩ => ⟨S512x2816, .f32⟩
  | .hbm, ⟨64, _⟩ => ⟨S_, .f32⟩
  | .hbm, ⟨65, _⟩ => ⟨S512x2816, .f32⟩
  | .hbm, ⟨66, _⟩ => ⟨S512x2816, .f32⟩
  | .hbm, ⟨67, _⟩ => ⟨S512x2816, .f32⟩
  | .hbm, ⟨68, _⟩ => ⟨S1024x2816, .f32⟩
  | .hbm, ⟨69, _⟩ => ⟨S512x2816, .f32⟩
  | .hbm, ⟨70, _⟩ => ⟨S512x2816, .f32⟩
  | .hbm, ⟨71, _⟩ => ⟨S2816x1024, .f32⟩
  | .hbm, ⟨72, _⟩ => ⟨S512x1024, .f32⟩
  | .hbm, ⟨73, _⟩ => ⟨S512x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]
-- ==== Sample.lean ====
abbrev S128x4x1024 : Shape := ⟨3, ![128, 4, 1024]⟩
abbrev S1x128x128x2x64 : Shape := ⟨5, ![1, 128, 128, 2, 64]⟩
abbrev S1x128x4x128x128 : Shape := ⟨5, ![1, 128, 4, 128, 128]⟩
abbrev S1x128x4x128 : Shape := ⟨4, ![1, 128, 4, 128]⟩
abbrev S1x128x4 : Shape := ⟨3, ![1, 128, 4]⟩
abbrev S1x1024 : Shape := ⟨2, ![1, 1024]⟩
abbrev S1x1024x2824 : Shape := ⟨3, ![1, 1024, 2824]⟩
abbrev S1x64 : Shape := ⟨2, ![1, 64]⟩
abbrev S1x8 : Shape := ⟨2, ![1, 8]⟩
abbrev S1x4 : Shape := ⟨2, ![1, 4]⟩
abbrev S1x512 : Shape := ⟨2, ![1, 512]⟩
abbrev S1x1024x1024 : Shape := ⟨3, ![1, 1024, 1024]⟩
abbrev S128x128 : Shape := ⟨2, ![128, 128]⟩
abbrev S1024x2824 : Shape := ⟨2, ![1024, 2824]⟩
abbrev S_ : Shape := ⟨0, ![]⟩
abbrev S1024x4 : Shape := ⟨2, ![1024, 4]⟩
abbrev S1024x116 : Shape := ⟨2, ![1024, 116]⟩
abbrev S1024x128 : Shape := ⟨2, ![1024, 128]⟩
abbrev S4 : Shape := ⟨1, ![4]⟩
abbrev S116 : Shape := ⟨1, ![116]⟩
abbrev S128 : Shape := ⟨1, ![128]⟩
abbrev S1x128 : Shape := ⟨2, ![1, 128]⟩
abbrev S1024x1024 : Shape := ⟨2, ![1024, 1024]⟩
abbrev S1024 : Shape := ⟨1, ![1024]⟩
abbrev S64 : Shape := ⟨1, ![64]⟩
abbrev S2x64 : Shape := ⟨2, ![2, 64]⟩
abbrev S512 : Shape := ⟨1, ![512]⟩
abbrev S4x128 : Shape := ⟨2, ![4, 128]⟩
abbrev S8 : Shape := ⟨1, ![8]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S2x4 : Shape := ⟨2, ![2, 4]⟩
abbrev S4x2 : Shape := ⟨2, ![4, 2]⟩
abbrev S8x8 : Shape := ⟨2, ![8, 8]⟩
abbrev S64x1 : Shape := ⟨2, ![64, 1]⟩
abbrev S64x128 : Shape := ⟨2, ![64, 128]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S1x8x4x32 : Shape := ⟨4, ![1, 8, 4, 32]⟩
abbrev S8x128 : Shape := ⟨2, ![8, 128]⟩
abbrev S8x64 : Shape := ⟨2, ![8, 64]⟩
abbrev S1x8x1x64 : Shape := ⟨4, ![1, 8, 1, 64]⟩
abbrev S1x8x2x64 : Shape := ⟨4, ![1, 8, 2, 64]⟩
abbrev S1x8x1x128 : Shape := ⟨4, ![1, 8, 1, 128]⟩
abbrev S16x8x1x128 : Shape := ⟨4, ![16, 8, 1, 128]⟩
abbrev S128x8x1024 : Shape := ⟨3, ![128, 8, 1024]⟩
abbrev S128x128x2x64 : Shape := ⟨4, ![128, 128, 2, 64]⟩
abbrev S128x128x128 : Shape := ⟨3, ![128, 128, 128]⟩
abbrev S128x4x128x128 : Shape := ⟨4, ![128, 4, 128, 128]⟩
abbrev S128x4x128 : Shape := ⟨3, ![128, 4, 128]⟩
abbrev S128x4 : Shape := ⟨2, ![128, 4]⟩
abbrev S128x4x1 : Shape := ⟨3, ![128, 4, 1]⟩
abbrev S128x8x128 : Shape := ⟨3, ![128, 8, 128]⟩
abbrev S16x8x1024 : Shape := ⟨3, ![16, 8, 1024]⟩
abbrev S16x128x128 : Shape := ⟨3, ![16, 128, 128]⟩
abbrev S16x4x128x128 : Shape := ⟨4, ![16, 4, 128, 128]⟩
abbrev S16x4x128 : Shape := ⟨3, ![16, 4, 128]⟩
abbrev S16x4x1 : Shape := ⟨3, ![16, 4, 1]⟩
abbrev S16x8x128 : Shape := ⟨3, ![16, 8, 128]⟩
abbrev S128x1024 : Shape := ⟨2, ![128, 1024]⟩
abbrev S128x1 : Shape := ⟨2, ![128, 1]⟩
abbrev S128x512 : Shape := ⟨2, ![128, 512]⟩
abbrev S1024x2304 : Shape := ⟨2, ![1024, 2304]⟩
abbrev S128x2304 : Shape := ⟨2, ![128, 2304]⟩
abbrev S128x2944 : Shape := ⟨2, ![128, 2944]⟩
abbrev S16x64x128 : Shape := ⟨3, ![16, 64, 128]⟩
abbrev S16x120x128 : Shape := ⟨3, ![16, 120, 128]⟩
abbrev S16x64x256 : Shape := ⟨3, ![16, 64, 256]⟩
abbrev S1x64x1 : Shape := ⟨3, ![1, 64, 1]⟩
abbrev S16x64 : Shape := ⟨2, ![16, 64]⟩
abbrev S16x64x1 : Shape := ⟨3, ![16, 64, 1]⟩
abbrev S1x128x128 : Shape := ⟨3, ![1, 128, 128]⟩
abbrev S16x8x1 : Shape := ⟨3, ![16, 8, 1]⟩
abbrev S16x1x1 : Shape := ⟨3, ![16, 1, 1]⟩
abbrev S16x1x128x128 : Shape := ⟨4, ![16, 1, 128, 128]⟩
abbrev S16x1x128 : Shape := ⟨3, ![16, 1, 128]⟩
abbrev S16x8 : Shape := ⟨2, ![16, 8]⟩
abbrev S1x1x128 : Shape := ⟨3, ![1, 1, 128]⟩
abbrev S16x128 : Shape := ⟨2, ![16, 128]⟩

abbrev nBuf : Space → Nat
  | .hbm => 128
  | .vmem => 37
  | .smem => 0
  | _ => 0

abbrev bufTy : (tb : Table) → Fin (tcTables nBuf tb) → BufTy
  | .hbm, ⟨0, _⟩ => ⟨S128x4x1024, .f32⟩
  | .hbm, ⟨1, _⟩ => ⟨S1x128x128x2x64, .f32⟩
  | .hbm, ⟨2, _⟩ => ⟨S1x128x128x2x64, .f32⟩
  | .hbm, ⟨3, _⟩ => ⟨S1x128x4x128x128, .f32⟩
  | .hbm, ⟨4, _⟩ => ⟨S1x128x4x128, .f32⟩
  | .hbm, ⟨5, _⟩ => ⟨S1x128x4, .f32⟩
  | .hbm, ⟨6, _⟩ => ⟨S1x1024, .f32⟩
  | .hbm, ⟨7, _⟩ => ⟨S1x1024x2824, .f32⟩
  | .hbm, ⟨8, _⟩ => ⟨S1x64, .f32⟩
  | .hbm, ⟨9, _⟩ => ⟨S1x64, .f32⟩
  | .hbm, ⟨10, _⟩ => ⟨S1x8, .f32⟩
  | .hbm, ⟨11, _⟩ => ⟨S1x4, .f32⟩
  | .hbm, ⟨12, _⟩ => ⟨S1x4, .f32⟩
  | .hbm, ⟨13, _⟩ => ⟨S1x512, .f32⟩
  | .hbm, ⟨14, _⟩ => ⟨S1x1024x1024, .f32⟩
  | .hbm, ⟨15, _⟩ => ⟨S128x128, .bf16⟩
  | .hbm, ⟨16, _⟩ => ⟨S1024x2824, .f32⟩
  | .hbm, ⟨17, _⟩ => ⟨S1024x2824, .bf16⟩
  | .hbm, ⟨18, _⟩ => ⟨S_, .bf16⟩
  | .hbm, ⟨19, _⟩ => ⟨S1024x4, .bf16⟩
  | .hbm, ⟨20, _⟩ => ⟨S_, .bf16⟩
  | .hbm, ⟨21, _⟩ => ⟨S1024x116, .bf16⟩
  | .hbm, ⟨22, _⟩ => ⟨S1024x4, .bf16⟩
  | .hbm, ⟨23, _⟩ => ⟨S1024x4, .bf16⟩
  | .hbm, ⟨24, _⟩ => ⟨S1024x128, .bf16⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S116, .f32⟩
  | .hbm, ⟨31, _⟩ => ⟨S128, .f32⟩
  | .hbm, ⟨32, _⟩ => ⟨S1x128, .f32⟩
  | .hbm, ⟨33, _⟩ => ⟨S1024x1024, .f32⟩
  | .hbm, ⟨34, _⟩ => ⟨S1024x1024, .bf16⟩
  | .hbm, ⟨35, _⟩ => ⟨S1024, .f32⟩
  | .hbm, ⟨36, _⟩ => ⟨S1x1024, .f32⟩
  | .hbm, ⟨37, _⟩ => ⟨S64, .f32⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S64, .f32⟩
  | .hbm, ⟨43, _⟩ => ⟨S1x64, .f32⟩
  | .hbm, ⟨44, _⟩ => ⟨S2x64, .f32⟩
  | .hbm, ⟨45, _⟩ => ⟨S128, .f32⟩
  | .hbm, ⟨46, _⟩ => ⟨S1x128, .f32⟩
  | .hbm, ⟨47, _⟩ => ⟨S512, .f32⟩
  | .hbm, ⟨48, _⟩ => ⟨S4x128, .f32⟩
  | .hbm, ⟨49, _⟩ => ⟨S8, .f32⟩
  | .hbm, ⟨50, _⟩ => ⟨S1024x512, .bf16⟩
  | .hbm, ⟨51, _⟩ => ⟨S1024x2x4x64, .bf16⟩
  | .hbm, ⟨52, _⟩ => ⟨S1024x4x2x64, .bf16⟩
  | .hbm, ⟨53, _⟩ => ⟨S1024x512, .bf16⟩
  | .hbm, ⟨54, _⟩ => ⟨S512x1024, .bf16⟩
  | .hbm, ⟨55, _⟩ => ⟨S2x4x64x1024, .bf16⟩
  | .hbm, ⟨56, _⟩ => ⟨S4x2x64x1024, .bf16⟩
  | .hbm, ⟨57, _⟩ => ⟨S512x1024, .bf16⟩
  | .hbm, ⟨58, _⟩ => ⟨S512x1024, .bf16⟩
  | .hbm, ⟨59, _⟩ => ⟨S1024x1024, .bf16⟩
  | .hbm, ⟨60, _⟩ => ⟨S2x4, .f32⟩
  | .hbm, ⟨61, _⟩ => ⟨S4x2, .f32⟩
  | .hbm, ⟨62, _⟩ => ⟨S8, .f32⟩
  | .hbm, ⟨63, _⟩ => ⟨S8x8, .f32⟩
  | .hbm, ⟨64, _⟩ => ⟨S64, .f32⟩
  | .hbm, ⟨65, _⟩ => ⟨S64x1, .f32⟩
  | .hbm, ⟨66, _⟩ => ⟨S64x128, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S8x1, .f32⟩
  | .hbm, ⟨80, _⟩ => ⟨S1x32, .f32⟩
  | .hbm, ⟨81, _⟩ => ⟨S8x32, .f32⟩
  | .hbm, ⟨82, _⟩ => ⟨S8x32, .f32⟩
  | .hbm, ⟨83, _⟩ => ⟨S8x32, .f32⟩
  | .hbm, ⟨84, _⟩ => ⟨S8x32, .f32⟩
  | .hbm, ⟨85, _⟩ => ⟨S8x32, .f32⟩
  | .hbm, ⟨86, _⟩ => ⟨S1x8x1x32, .f32⟩
  | .hbm, ⟨87, _⟩ => ⟨S1x8x4x32, .f32⟩
  | .hbm, ⟨88, _⟩ => ⟨S8x128, .f32⟩
  | .hbm, ⟨89, _⟩ => ⟨S8x32, .f32⟩
  | .hbm, ⟨90, _⟩ => ⟨S8x64, .f32⟩
  | .hbm, ⟨91, _⟩ => ⟨S1x8x1x64, .f32⟩
  | .hbm, ⟨92, _⟩ => ⟨S1x8x2x64, .f32⟩
  | .hbm, ⟨93, _⟩ => ⟨S8x128, .f32⟩
  | .hbm, ⟨94, _⟩ => ⟨S1x8x1x128, .f32⟩
  | .hbm, ⟨95, _⟩ => ⟨S16x8x1x128, .f32⟩
  | .hbm, ⟨96, _⟩ => ⟨S128x128, .f32⟩
  | .hbm, ⟨97, _⟩ => ⟨S1x8x1x128, .f32⟩
  | .hbm, ⟨98, _⟩ => ⟨S16x8x1x128, .f32⟩
  | .hbm, ⟨99, _⟩ => ⟨S128x128, .f32⟩
  | .hbm, ⟨100, _⟩ => ⟨S_, .i32⟩
  | .hbm, ⟨101, _⟩ => ⟨S_, .f32⟩
  | .hbm, ⟨102, _⟩ => ⟨S128x8x1024, .f32⟩
  | .hbm, ⟨103, _⟩ => ⟨S128x128x2x64, .f32⟩
  | .hbm, ⟨104, _⟩ => ⟨S128x128x128, .f32⟩
  | .hbm, ⟨105, _⟩ => ⟨S128x128x128, .f32⟩
  | .hbm, ⟨106, _⟩ => ⟨S128x128x2x64, .f32⟩
  | .hbm, ⟨107, _⟩ => ⟨S128x128x128, .f32⟩
  | .hbm, ⟨108, _⟩ => ⟨S128x128x128, .f32⟩
  | .hbm, ⟨109, _⟩ => ⟨S128x4x128x128, .f32⟩
  | .hbm, ⟨110, _⟩ => ⟨S128x4x128, .f32⟩
  | .hbm, ⟨111, _⟩ => ⟨S128x4, .f32⟩
  | .hbm, ⟨112, _⟩ => ⟨S128x4x1, .f32⟩
  | .hbm, ⟨113, _⟩ => ⟨S128x8x1024, .f32⟩
  | .hbm, ⟨114, _⟩ => ⟨S128x128x128, .f32⟩
  | .hbm, ⟨115, _⟩ => ⟨S128x128x128, .f32⟩
  | .hbm, ⟨116, _⟩ => ⟨S128x4x128x128, .f32⟩
  | .hbm, ⟨117, _⟩ => ⟨S128x4x128, .f32⟩
  | .hbm, ⟨118, _⟩ => ⟨S128x8x128, .f32⟩
  | .hbm, ⟨119, _⟩ => ⟨S128x4x1, .f32⟩
  | .hbm, ⟨120, _⟩ => ⟨S128x4, .f32⟩
  | .hbm, ⟨121, _⟩ => ⟨S128x128x128, .f32⟩
  | .hbm, ⟨122, _⟩ => ⟨S1x128x128x2x64, .f32⟩
  | .hbm, ⟨123, _⟩ => ⟨S1x128x4x128x128, .f32⟩
  | .hbm, ⟨124, _⟩ => ⟨S1x128x4x128, .f32⟩
  | .hbm, ⟨125, _⟩ => ⟨S1x128x4, .f32⟩
  | .hbm, ⟨126, _⟩ => ⟨S128x128x128, .f32⟩
  | .hbm, ⟨127, _⟩ => ⟨S1x128x128x2x64, .f32⟩
  | .local _ .vmem, ⟨0, _⟩ => ⟨S16x8x1024, .f32⟩
  | .local _ .vmem, ⟨1, _⟩ => ⟨S16x8x1024, .f32⟩
  | .local _ .vmem, ⟨2, _⟩ => ⟨S16x128x128, .f32⟩
  | .local _ .vmem, ⟨3, _⟩ => ⟨S16x128x128, .f32⟩
  | .local _ .vmem, ⟨4, _⟩ => ⟨S16x128x128, .f32⟩
  | .local _ .vmem, ⟨5, _⟩ => ⟨S16x128x128, .f32⟩
  | .local _ .vmem, ⟨6, _⟩ => ⟨S16x4x128x128, .f32⟩
  | .local _ .vmem, ⟨7, _⟩ => ⟨S16x4x128x128, .f32⟩
  | .local _ .vmem, ⟨8, _⟩ => ⟨S16x4x128, .f32⟩
  | .local _ .vmem, ⟨9, _⟩ => ⟨S16x4x128, .f32⟩
  | .local _ .vmem, ⟨10, _⟩ => ⟨S16x4x1, .f32⟩
  | .local _ .vmem, ⟨11, _⟩ => ⟨S16x4x1, .f32⟩
  | .local _ .vmem, ⟨12, _⟩ => ⟨S128x128, .f32⟩
  | .local _ .vmem, ⟨13, _⟩ => ⟨S128x128, .f32⟩
  | .local _ .vmem, ⟨14, _⟩ => ⟨S1024x512, .bf16⟩
  | .local _ .vmem, ⟨15, _⟩ => ⟨S1024x2824, .bf16⟩
  | .local _ .vmem, ⟨16, _⟩ => ⟨S1024x128, .bf16⟩
  | .local _ .vmem, ⟨17, _⟩ => ⟨S1024x1024, .bf16⟩
  | .local _ .vmem, ⟨18, _⟩ => ⟨S64x128, .f32⟩
  | .local _ .vmem, ⟨19, _⟩ => ⟨S128x128, .bf16⟩
  | .local _ .vmem, ⟨20, _⟩ => ⟨S1x1024, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S4x128, .f32⟩
  | .local _ .vmem, ⟨25, _⟩ => ⟨S16x8x1024, .f32⟩
  | .local _ .vmem, ⟨26, _⟩ => ⟨S16x8x1024, .f32⟩
  | .local _ .vmem, ⟨27, _⟩ => ⟨S16x128x128, .f32⟩
  | .local _ .vmem, ⟨28, _⟩ => ⟨S16x128x128, .f32⟩
  | .local _ .vmem, ⟨29, _⟩ => ⟨S16x128x128, .f32⟩
  | .local _ .vmem, ⟨30, _⟩ => ⟨S16x128x128, .f32⟩
  | .local _ .vmem, ⟨31, _⟩ => ⟨S16x4x128x128, .f32⟩
  | .local _ .vmem, ⟨32, _⟩ => ⟨S16x4x128x128, .f32⟩
  | .local _ .vmem, ⟨33, _⟩ => ⟨S16x4x128, .f32⟩
  | .local _ .vmem, ⟨34, _⟩ => ⟨S16x4x128, .f32⟩
  | .local _ .vmem, ⟨35, _⟩ => ⟨S16x8x128, .f32⟩
  | .local _ .vmem, ⟨36, _⟩ => ⟨S16x8x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_cst_1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c : Ref sig .tc := ⟨.hbm, 100, rfl⟩
abbrev main_call0_v0 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88_0 : Ref sig .tc := ⟨.hbm, 113, rfl⟩
abbrev main_v88_1 : Ref sig .tc := ⟨.hbm, 114, rfl⟩
abbrev main_v88_2 : Ref sig .tc := ⟨.hbm, 115, rfl⟩
abbrev main_v88_3 : Ref sig .tc := ⟨.hbm, 116, rfl⟩
abbrev main_v88_4 : Ref sig .tc := ⟨.hbm, 117, rfl⟩
abbrev main_v88_5 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x4x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2824 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S16x8x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x4x128x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S16x4x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S16x8x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== SampleIdeal.lean ====
variable {F : FTy → Type} [FloatOps F] [Named F]
def κ : String → Option EReal := fun
  | "mask" => some ⊥
  | _ => none
-- ==== SampleRefIdeal.lean ====
abbrev S128x4x1024 : Shape := ⟨3, ![128, 4, 1024]⟩
abbrev S1x128x128x2x64 : Shape := ⟨5, ![1, 128, 128, 2, 64]⟩
abbrev S1x128x4x128x128 : Shape := ⟨5, ![1, 128, 4, 128, 128]⟩
abbrev S1x128x4x128 : Shape := ⟨4, ![1, 128, 4, 128]⟩
abbrev S1x128x4 : Shape := ⟨3, ![1, 128, 4]⟩
abbrev S1x1024 : Shape := ⟨2, ![1, 1024]⟩
abbrev S1x1024x2824 : Shape := ⟨3, ![1, 1024, 2824]⟩
abbrev S1x64 : Shape := ⟨2, ![1, 64]⟩
abbrev S1x8 : Shape := ⟨2, ![1, 8]⟩
abbrev S1x4 : Shape := ⟨2, ![1, 4]⟩
abbrev S1x512 : Shape := ⟨2, ![1, 512]⟩
abbrev S1x1024x1024 : Shape := ⟨3, ![1, 1024, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x2824 : Shape := ⟨2, ![1024, 2824]⟩
abbrev S128x4x2824 : Shape := ⟨3, ![128, 4, 2824]⟩
abbrev S128x4x512 : Shape := ⟨3, ![128, 4, 512]⟩
abbrev S128x4x128 : Shape := ⟨3, ![128, 4, 128]⟩
abbrev S128x4x4 : Shape := ⟨3, ![128, 4, 4]⟩
abbrev S128x4x2x64 : Shape := ⟨4, ![128, 4, 2, 64]⟩
abbrev S128x128x2x64 : Shape := ⟨4, ![128, 128, 2, 64]⟩
abbrev S128x132x2x64 : Shape := ⟨4, ![128, 132, 2, 64]⟩
abbrev S128x4x4x128 : Shape := ⟨4, ![128, 4, 4, 128]⟩
abbrev S4 : Shape := ⟨1, ![4]⟩
abbrev S1x1x4 : Shape := ⟨3, ![1, 1, 4]⟩
abbrev S128x4x128x128 : Shape := ⟨4, ![128, 4, 128, 128]⟩
abbrev S4x4 : Shape := ⟨2, ![4, 4]⟩
abbrev S128x4x4x1 : Shape := ⟨4, ![128, 4, 4, 1]⟩
abbrev S128x4x1x4 : Shape := ⟨4, ![128, 4, 1, 4]⟩
abbrev S128x4x4x4 : Shape := ⟨4, ![128, 4, 4, 4]⟩
abbrev S128x4x1x1 : Shape := ⟨4, ![128, 4, 1, 1]⟩
abbrev S64 : Shape := ⟨1, ![64]⟩
abbrev S128x4x2 : Shape := ⟨3, ![128, 4, 2]⟩
abbrev S128x4x2x1 : Shape := ⟨4, ![128, 4, 2, 1]⟩
abbrev S1x1x1x64 : Shape := ⟨4, ![1, 1, 1, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S128x4x2x32 : Shape := ⟨4, ![128, 4, 2, 32]⟩
abbrev S1x4x1x32 : Shape := ⟨4, ![1, 4, 1, 32]⟩

abbrev nBuf : Space → Nat
  | .hbm => 208
  | .vmem => 0
  | .smem => 0
  | _ => 0

abbrev hbmTy0_0 (i : Nat) : BufTy := match i % 128 with
  | 0 => ⟨S128x4x1024, .f32⟩
  | 1 => ⟨S1x128x128x2x64, .f32⟩
  | 2 => ⟨S1x128x128x2x64, .f32⟩
  | 3 => ⟨S1x128x4x128x128, .f32⟩
  | 4 => ⟨S1x128x4x128, .f32⟩
  | 5 => ⟨S1x128x4, .f32⟩
  | 6 => ⟨S1x1024, .f32⟩
  | 7 => ⟨S1x1024x2824, .f32⟩
  | 8 => ⟨S1x64, .f32⟩
  | 9 => ⟨S1x64, .f32⟩
  | 10 => ⟨S1x8, .f32⟩
  | 11 => ⟨S1x4, .f32⟩
  | 12 => ⟨S1x4, .f32⟩
  | 13 => ⟨S1x512, .f32⟩
  | 14 => ⟨S1x1024x1024, .f32⟩
  | 15 => ⟨S1024, .f32⟩
  | 16 => ⟨S128x4x1024, .f32⟩
  | 17 => ⟨S_, .f32⟩
  | 18 => ⟨S128x4, .f32⟩
  | 19 => ⟨S128x4x1, .f32⟩
  | 20 => ⟨S_, .f32⟩
  | 21 => ⟨S128x4x1, .f32⟩
  | 22 => ⟨S128x4x1, .f32⟩
  | 23 => ⟨S_, .f32⟩
  | 24 => ⟨S128x4x1, .f32⟩
  | 25 => ⟨S128x4x1, .f32⟩
  | 26 => ⟨S128x4x1, .f32⟩
  | 27 => ⟨S128x4x1024, .f32⟩
  | 28 => ⟨S128x4x1024, .f32⟩
  | 29 => ⟨S1x1x1024, .f32⟩
  | 30 => ⟨S128x4x1024, .f32⟩
  | 31 => ⟨S128x4x1024, .f32⟩
  | 32 => ⟨S1024x2824, .f32⟩
  | 33 => ⟨S128x4x2824, .f32⟩
  | 34 => ⟨S128x4x512, .f32⟩
  | 35 => ⟨S128x4x128, .f32⟩
  | 36 => ⟨S128x4x128, .f32⟩
  | 37 => ⟨S128x4x512, .f32⟩
  | 38 => ⟨S128x4x512, .f32⟩
  | 39 => ⟨S128x4x512, .f32⟩
  | 40 => ⟨S128x4x512, .f32⟩
  | 41 => ⟨S128x4x4, .f32⟩
  | 42 => ⟨S128x4x4, .f32⟩
  | 43 => ⟨S128x4x2x64, .f32⟩
  | 44 => ⟨S128x128x2x64, .f32⟩
  | 45 => ⟨S128x132x2x64, .f32⟩
  | 46 => ⟨S128x128x2x64, .f32⟩
  | 47 => ⟨S128x4x4x128, .f32⟩
  | 48 => ⟨S_, .f32⟩
  | 49 => ⟨S128x4x4x128, .f32⟩
  | 50 => ⟨S128x4x4x128, .f32⟩
  | 51 => ⟨S128x4x4x128, .f32⟩
  | 52 => ⟨S4, .f32⟩
  | 53 => ⟨S1x1x4, .f32⟩
  | 54 => ⟨S128x4x4, .f32⟩
  | 55 => ⟨S128x4x4, .f32⟩
  | 56 => ⟨S4, .f32⟩
  | 57 => ⟨S1x1x4, .f32⟩
  | 58 => ⟨S128x4x4, .f32⟩
  | 59 => ⟨S128x4x4, .f32⟩
  | 60 => ⟨S128x4x4, .f32⟩
  | 61 => ⟨S_, .f32⟩
  | 62 => ⟨S128x4x4, .f32⟩
  | 63 => ⟨S128x4x4, .f32⟩
  | 64 => ⟨S128x4x4, .f32⟩
  | 65 => ⟨S128x4x4, .f32⟩
  | 66 => ⟨S128x4x4, .i1⟩
  | 67 => ⟨S128x4x4, .f32⟩
  | 68 => ⟨S128x4x4, .f32⟩
  | 69 => ⟨S128x4x4, .f32⟩
  | 70 => ⟨S128x4x4, .f32⟩
  | 71 => ⟨S128x4x4, .f32⟩
  | 72 => ⟨S128x4x4, .f32⟩
  | 73 => ⟨S128x4x4, .f32⟩
  | 74 => ⟨S128x4x4, .f32⟩
  | 75 => ⟨S128x4x4, .f32⟩
  | 76 => ⟨S128x4x128x128, .f32⟩
  | 77 => ⟨S128x4x128, .f32⟩
  | 78 => ⟨S128x4, .f32⟩
  | 79 => ⟨S_, .i1⟩
  | 80 => ⟨S4x4, .i1⟩
  | 81 => ⟨S4x4, .i32⟩
  | 82 => ⟨S_, .i32⟩
  | 83 => ⟨S4x4, .i32⟩
  | 84 => ⟨S4x4, .i32⟩
  | 85 => ⟨S4x4, .i32⟩
  | 86 => ⟨S4x4, .i1⟩
  | 87 => ⟨S_, .i1⟩
  | 88 => ⟨S4x4, .i1⟩
  | 89 => ⟨S4x4, .i1⟩
  | 90 => ⟨S128x4x4x128, .f32⟩
  | 91 => ⟨S128x4x4x128, .f32⟩
  | 92 => ⟨S128x4x4, .f32⟩
  | 93 => ⟨S128x4x4, .f32⟩
  | 94 => ⟨S_, .f32⟩
  | 95 => ⟨S_, .f32⟩
  | 96 => ⟨S128x4x4, .f32⟩
  | 97 => ⟨S128x4x4x1, .f32⟩
  | 98 => ⟨S128x4x1x4, .f32⟩
  | 99 => ⟨S128x4x4x4, .f32⟩
  | 100 => ⟨S128x4x4x4, .f32⟩
  | 101 => ⟨S128x4x4x4, .f32⟩
  | 102 => ⟨S128x4x1x4, .f32⟩
  | 103 => ⟨S128x4x4x4, .f32⟩
  | 104 => ⟨S128x4x4x4, .f32⟩
  | 105 => ⟨S_, .f32⟩
  | 106 => ⟨S_, .f32⟩
  | 107 => ⟨S128x4x4x4, .i1⟩
  | 108 => ⟨S128x4x4x4, .f32⟩
  | 109 => ⟨S128x4x4x4, .f32⟩
  | 110 => ⟨S128x4x1, .f32⟩
  | 111 => ⟨S128x4x4, .f32⟩
  | 112 => ⟨S128x4x4, .f32⟩
  | 113 => ⟨S_, .f32⟩
  | 114 => ⟨S128x4x4, .f32⟩
  | 115 => ⟨S128x4x4, .f32⟩
  | 116 => ⟨S128x4x1, .f32⟩
  | 117 => ⟨S128x4, .f32⟩
  | 118 => ⟨S128x4x1, .f32⟩
  | 119 => ⟨S128x4, .f32⟩
  | 120 => ⟨S128x4, .f32⟩
  | 121 => ⟨S128x4, .f32⟩
  | 122 => ⟨S128x4, .f32⟩
  | 123 => ⟨S128x4x1, .f32⟩
  | 124 => ⟨S128x4x4, .f32⟩
  | 125 => ⟨S128x4x4, .f32⟩
  | 126 => ⟨S128x4x4, .f32⟩
  | 127 => ⟨S128x4x1, .f32⟩
  | _ => ⟨S128x4x1024, .f32⟩

abbrev hbmTy0_1 (i : Nat) : BufTy := match i % 128 with
  | 0 => ⟨S128x4x4, .f32⟩
  | 1 => ⟨S128x4x4, .f32⟩
  | 2 => ⟨S128x4x4, .f32⟩
  | 3 => ⟨S128x4x1x1, .f32⟩
  | 4 => ⟨S128x4x128x128, .f32⟩
  | 5 => ⟨S128x4x128x128, .f32⟩
  | 6 => ⟨S128x4x4x1, .f32⟩
  | 7 => ⟨S128x4x4x128, .f32⟩
  | 8 => ⟨S128x4x4x128, .f32⟩
  | 9 => ⟨S128x4x128x128, .f32⟩
  | 10 => ⟨S128x4x128x128, .f32⟩
  | 11 => ⟨S128x4x1, .f32⟩
  | 12 => ⟨S128x4x128, .f32⟩
  | 13 => ⟨S128x4x128, .f32⟩
  | 14 => ⟨S128x4x128, .f32⟩
  | 15 => ⟨S128x4x128, .f32⟩
  | 16 => ⟨S1x128x128x2x64, .f32⟩
  | 17 => ⟨S1x128x4x128x128, .f32⟩
  | 18 => ⟨S1x128x4x128, .f32⟩
  | 19 => ⟨S1x128x4, .f32⟩
  | 20 => ⟨S4, .f32⟩
  | 21 => ⟨S_, .f32⟩
  | 22 => ⟨S4, .f32⟩
  | 23 => ⟨S4, .f32⟩
  | 24 => ⟨S128x4x2x64, .f32⟩
  | 25 => ⟨S64, .f32⟩
  | 26 => ⟨S128x4x2x64, .f32⟩
  | 27 => ⟨S_, .f32⟩
  | 28 => ⟨S128x4x2, .f32⟩
  | 29 => ⟨S128x4x2x1, .f32⟩
  | 30 => ⟨S_, .f32⟩
  | 31 => ⟨S128x4x2x1, .f32⟩
  | 32 => ⟨S128x4x2x1, .f32⟩
  | 33 => ⟨S_, .f32⟩
  | 34 => ⟨S128x4x2x1, .f32⟩
  | 35 => ⟨S128x4x2x1, .f32⟩
  | 36 => ⟨S128x4x2x1, .f32⟩
  | 37 => ⟨S128x4x2x64, .f32⟩
  | 38 => ⟨S128x4x2x64, .f32⟩
  | 39 => ⟨S1x1x1x64, .f32⟩
  | 40 => ⟨S128x4x2x64, .f32⟩
  | 41 => ⟨S128x4x2x64, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S4x1, .f32⟩
  | 51 => ⟨S1x32, .f32⟩
  | 52 => ⟨S4x32, .f32⟩
  | 53 => ⟨S4x32, .f32⟩
  | 54 => ⟨S4x32, .f32⟩
  | 55 => ⟨S4x32, .f32⟩
  | 56 => ⟨S4x1x32, .f32⟩
  | 57 => ⟨S4x32, .f32⟩
  | 58 => ⟨S4x1x32, .f32⟩
  | 59 => ⟨S128x4x2x32, .f32⟩
  | 60 => ⟨S128x4x2x32, .f32⟩
  | 61 => ⟨S1x4x1x32, .f32⟩
  | 62 => ⟨S128x4x2x32, .f32⟩
  | 63 => ⟨S128x4x2x32, .f32⟩
  | 64 => ⟨S1x4x1x32, .f32⟩
  | 65 => ⟨S128x4x2x32, .f32⟩
  | 66 => ⟨S128x4x2x32, .f32⟩
  | 67 => ⟨S128x4x2x32, .f32⟩
  | 68 => ⟨S1x4x1x32, .f32⟩
  | 69 => ⟨S128x4x2x32, .f32⟩
  | 70 => ⟨S128x4x2x32, .f32⟩
  | 71 => ⟨S1x4x1x32, .f32⟩
  | 72 => ⟨S128x4x2x32, .f32⟩
  | 73 => ⟨S128x4x2x32, .f32⟩
  | 74 => ⟨S128x4x2x32, .f32⟩
  | 75 => ⟨S128x4x2x64, .f32⟩
  | 76 => ⟨S128x128x2x64, .f32⟩
  | 77 => ⟨S128x132x2x64, .f32⟩
  | 78 => ⟨S128x128x2x64, .f32⟩
  | 79 => ⟨S1x128x128x2x64, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_v0 : Ref sig .tc := ⟨.hbm, 60, rfl⟩
abbrev main_call0_call0_cst : Ref sig .tc := ⟨.hbm, 61, rfl⟩
abbrev main_call0_call0_v0 : Ref sig .tc := ⟨.hbm, 62, rfl⟩
abbrev main_call0_call0_v1 : Ref sig .tc := ⟨.hbm, 63, rfl⟩
abbrev main_call0_call0_v2 : Ref sig .tc := ⟨.hbm, 64, rfl⟩
abbrev main_call0_call0_v3 : Ref sig .tc := ⟨.hbm, 65, rfl⟩
abbrev main_call0_call0_v4 : Ref sig .tc := ⟨.hbm, 66, rfl⟩
abbrev main_call0_call0_v5 : Ref sig .tc := ⟨.hbm, 67, rfl⟩
abbrev main_call0_call0_v6 : Ref sig .tc := ⟨.hbm, 68, rfl⟩
abbrev main_call0_call0_v7 : Ref sig .tc := ⟨.hbm, 69, rfl⟩
abbrev main_call0_call0_v8 : Ref sig .tc := ⟨.hbm, 70, rfl⟩
abbrev main_call0_call0_v9 : Ref sig .tc := ⟨.hbm, 71, rfl⟩
abbrev main_call0_call0_v10 : Ref sig .tc := ⟨.hbm, 72, rfl⟩
abbrev main_call0_call0_v11 : Ref sig .tc := ⟨.hbm, 73, rfl⟩
abbrev main_call0_v1 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c : Ref sig .tc := ⟨.hbm, 79, rfl⟩
abbrev main_v45 : Ref sig .tc := ⟨.hbm, 80, rfl⟩
abbrev main_call1_v0 : Ref sig .tc := ⟨.hbm, 81, rfl⟩
abbrev main_call1_c : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_c_0 : Ref sig .tc := ⟨.hbm, 87, rfl⟩
abbrev main_call1_v5 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_call2_call0_cst : Ref sig .tc := ⟨.hbm, 94, rfl⟩
abbrev main_call2_call0_v0 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_3 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_4 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_5 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_6 : Ref sig .tc := ⟨.hbm, 155, rfl⟩
abbrev main_v104 : Ref sig .tc := ⟨.hbm, 156, rfl⟩
abbrev main_v105 : Ref sig .tc := ⟨.hbm, 157, rfl⟩
abbrev main_cst_7 : Ref sig .tc := ⟨.hbm, 158, rfl⟩
abbrev main_v106 : Ref sig .tc := ⟨.hbm, 159, rfl⟩
abbrev main_v107 : Ref sig .tc := ⟨.hbm, 160, rfl⟩
abbrev main_cst_8 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_9 : Ref sig .tc := ⟨.hbm, 172, rfl⟩
abbrev main_v118 : Ref sig .tc := ⟨.hbm, 173, rfl⟩
abbrev main_v119 : Ref sig .tc := ⟨.hbm, 174, rfl⟩
abbrev main_cst_10 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩

abbrev nD : Nat := 1
abbrev τ : Topo := Topo.v7x

variable {F : FTy → Type} [FloatOps F]
-- ==== Proof.FfnBlock.lean ====
module

public import proofs.«01_k».proof.Proof.Gen.FfnIdeal.Frame
public import proofs.«01_k».proof.Proof.Gen.FfnIdeal.Skeleton
public import Idealize.ShloMosaic.Lib.Pointwise

@[expose] public section

set_option maxRecDepth 16384

/-! What the feed-forward kernel's body computes from one block of 512 rows, over the reals. -/

noncomputable section

namespace Cert.FfnProof

open Cert.FfnIdeal Cert.FfnIdeal.Gen Idealize.ShloMosaic Idealize.ShloMosaic.TcCoe
open scoped BigOperators

/-- The contents of a buffer that pieces fill are `G`, if every piece holds `G` at its place and the index is covered. -/
theorem canon_eq_of_pieces {s : Shape} {e : EltTy} (G : s.Idx → Elt Ideal e) :
    ∀ L : List (View.Piece (Elt Ideal) s e), (∀ p ∈ L, ∀ x, p.2 x = G (p.1.emb x)) →
      ∀ y, (∃ p ∈ L, y ∈ p.1.set) → View.canon L y = G y
  | [], _, _, hc => by obtain ⟨_, hm, _⟩ := hc; exact absurd hm List.not_mem_nil
  | p :: L, h, y, hc => by
    by_cases hy : y ∈ p.1.set
    · obtain ⟨r, w⟩ := p
      obtain ⟨x, rfl⟩ : ∃ x, r.emb x = y := r.exists_idx_of_mem hy
      rw [View.canon_cons_emb]
      exact h ⟨r, w⟩ List.mem_cons_self x
    · rw [View.canon_cons_of_not_mem p L hy]
      refine canon_eq_of_pieces G L (fun q hq => h q (List.mem_cons_of_mem _ hq)) y ?_
      obtain ⟨q, hq, hyq⟩ := hc
      rcases List.mem_cons.mp hq with rfl | hq
      · exact absurd hyq hy
      · exact ⟨q, hq, hyq⟩

/-- So a buffer that covering pieces fill, each holding `G` at its place, reads as `G`. -/
theorem read_covered {s : Shape} {e : EltTy} {sp : Space} (v : View sig .tc sp s e) (f : v.ty.Contents (Elt Ideal))
    (L : List (View.Piece (Elt Ideal) s e)) (G : s.Idx → Elt Ideal e) (h : ∀ p ∈ L, ∀ x, p.2 x = G (p.1.emb x))
    (hc : ∀ y, ∃ p ∈ L, y ∈ p.1.set) : v.read (Elt Ideal) (v.writes (Elt Ideal) f L) = G := by
  rw [View.read_writes_eq_canon v f L hc]
  exact funext fun y => canon_eq_of_pieces G L h y (hc y)

/-- The gate's preactivation at row `y 0` and hidden column `y 1`: `h · w`. -/
def pre (h : Vec Ideal S512x1024 .bf16) (w : Vec Ideal S1024x2816 .f32) (y : S512x2816.Idx) : EReal :=
  ∑ k : Fin 1024, h (ix2 (y 0) k) * w (ix2 k (y 1))

/-- The hidden activations of a block: `silu(h · w_gate) * (h · w_up)`. -/
def act (h : Vec Ideal S512x1024 .bf16) (wg wu : Vec Ideal S1024x2816 .f32) : Vec Ideal S512x2816 .bf16 :=
  fun y => pre h wg y * Ideal.logistic (pre h wg y) * pre h wu y

/-- What a block's rows end as: the rows plus the activations times `w_down`. -/
def out (x : Vec Ideal S512x1024 .f32) (a : Vec Ideal S512x2816 .bf16) (wd : Vec Ideal S2816x1024 .f32) : Vec Ideal S512x1024 .f32 :=
  fun y => x y + ∑ k : Fin 2816, a (ix2 (y 0) k) * wd (ix2 k (y 1))

/-- The block's result from the block, the norm's weight and the three matrices. -/
def block (x : Vec Ideal S512x1024 .f32) (w : Vec Ideal S1x1024 .f32) (wg wu : Vec Ideal S1024x2816 .f32)
    (wd : Vec Ideal S2816x1024 .f32) : Vec Ideal S512x1024 .f32 :=
  out x (act (k0_pay5 x w) wg wu) wd

/-- A chunk of 256 hidden columns, computed from the matrices' columns there, is the activations at those columns. -/
theorem chunk_eq (h : Vec Ideal S512x1024 .bf16) (wg wu : Vec Ideal S1024x2816 .f32) (o : ℕ)
    (i3 : ∀ a, (![0, o] : Fin 2 → ℕ) a + S1024x256.size a ≤ S1024x2816.size a)
    (i9 : ∀ a, (![0, o] : Fin 2 → ℕ) a + S512x256.size a ≤ S512x2816.size a) (x : S512x256.Idx) :
    k0_pay9 (F := Ideal) h (View.ld wg (Rect.unit (s := S1024x2816) ![0, o] S1024x256.size i3))
        (View.ld wu (Rect.unit (s := S1024x2816) ![0, o] S1024x256.size i3)) x
      = act h wg wu ((Rect.unit (s := S512x2816) ![0, o] S512x256.size i9).emb x) := by
  change _ = act h wg wu ((Rect.unit (s := S512x2816) ![0, o] S512x256.size i9).toLoadRect.idx x)
  pointwise [k0_pay9, act, pre]

/-- A chunk of 256 result columns likewise. -/
theorem cols_eq (x0 : Vec Ideal S512x1024 .f32) (a : Vec Ideal S512x2816 .bf16) (wd : Vec Ideal S2816x1024 .f32) (o : ℕ)
    (i5 : ∀ a, (![0, o] : Fin 2 → ℕ) a + S2816x256.size a ≤ S2816x1024.size a)
    (i0 : ∀ a, (![0, o] : Fin 2 → ℕ) a + S512x256.size a ≤ S512x1024.size a) (x : S512x256.Idx) :
    k0_pay1 (F := Ideal) (View.ld x0 (Rect.unit (s := S512x1024) ![0, o] S512x256.size i0)) a
        (View.ld wd (Rect.unit (s := S2816x1024) ![0, o] S2816x256.size i5)) x
      = out x0 a wd ((Rect.unit (s := S512x1024) ![0, o] S512x256.size i0).emb x) := by
  change _ = out x0 a wd ((Rect.unit (s := S512x1024) ![0, o] S512x256.size i0).toLoadRect.idx x)
  pointwise [k0_pay1, out]

/-! ## The same of the loads the body makes -/

section Loads

variable {a1 : Memref sig .tc .vmem S512x1024 .f32} (h1 : a1.IsWhole) {a3 : Memref sig .tc .vmem S1x1024 .f32} (h3 : a3.IsWhole)
  {a4 : Memref sig .tc .vmem S1024x2816 .f32} (h4 : a4.IsWhole) {a5 : Memref sig .tc .vmem S1024x2816 .f32} (h5 : a5.IsWhole)
  {a6 : Memref sig .tc .vmem S2816x1024 .f32} (h6 : a6.IsWhole)
  (x : Vec Ideal S512x1024 .f32) (w : Vec Ideal S1x1024 .f32) (wg wu : Vec Ideal S1024x2816 .f32) (wd : Vec Ideal S2816x1024 .f32)

/-- The normalised rows, from the loads of the whole block and of the weight. -/
theorem norm_loaded (i1 : ∀ a, (![0, 0] : Fin 2 → ℕ) a + S512x1024.size a ≤ S512x1024.size a)
    (i3 : ∀ a, (![0, 0] : Fin 2 → ℕ) a + S1x1024.size a ≤ S1x1024.size a) :
    k0_pay5 (F := Ideal) (View.readAt (Elt Ideal) a1.view (Rect.unit (s := S512x1024) ![0, 0] S512x1024.size i1).toLoadRect (h1.unread x))
        (View.readAt (Elt Ideal) a3.view (Rect.unit (s := S1x1024) ![0, 0] S1x1024.size i3).toLoadRect (h3.unread w))
      = k0_pay5 x w := by
  have e1 : View.readAt (Elt Ideal) a1.view (Rect.unit (s := S512x1024) ![0, 0] S512x1024.size i1).toLoadRect (h1.unread x) = x := by
    rw [View.readAt_eq_ld, h1.read_unread]
    exact View.ld_unit_zero (by funext a; fin_cases a <;> rfl) _ _
  have e3 : View.readAt (Elt Ideal) a3.view (Rect.unit (s := S1x1024) ![0, 0] S1x1024.size i3).toLoadRect (h3.unread w) = w := by
    rw [View.readAt_eq_ld, h3.read_unread]
    exact View.ld_unit_zero (by funext a; fin_cases a <;> rfl) _ _
  exact congrArg₂ k0_pay5 e1 e3

/-- A stored chunk of hidden columns holds the activations there. -/
theorem chunk_loaded (o : ℕ) (i1 : ∀ a, (![0, 0] : Fin 2 → ℕ) a + S512x1024.size a ≤ S512x1024.size a)
    (i3 : ∀ a, (![0, 0] : Fin 2 → ℕ) a + S1x1024.size a ≤ S1x1024.size a)
    (i4 : ∀ a, (![0, o] : Fin 2 → ℕ) a + S1024x256.size a ≤ S1024x2816.size a)
    (i9 : ∀ a, (![0, o] : Fin 2 → ℕ) a + S512x256.size a ≤ S512x2816.size a) (y : S512x256.Idx) :
    k0_pay9 (F := Ideal) (k0_pay5 (View.readAt (Elt Ideal) a1.view (Rect.unit (s := S512x1024) ![0, 0] S512x1024.size i1).toLoadRect (h1.unread x))
          (View.readAt (Elt Ideal) a3.view (Rect.unit (s := S1x1024) ![0, 0] S1x1024.size i3).toLoadRect (h3.unread w)))
        (View.readAt (Elt Ideal) a4.view (Rect.unit (s := S1024x2816) ![0, o] S1024x256.size i4).toLoadRect (h4.unread wg))
        (View.readAt (Elt Ideal) a5.view (Rect.unit (s := S1024x2816) ![0, o] S1024x256.size i4).toLoadRect (h5.unread wu)) y
      = act (k0_pay5 x w) wg wu ((Rect.unit (s := S512x2816) ![0, o] S512x256.size i9).emb y) := by
  rw [norm_loaded h1 h3 x w i1 i3, View.readAt_eq_ld, View.readAt_eq_ld, h4.read_unread, h5.read_unread]
  exact chunk_eq _ wg wu o i4 i9 y

/-- The activations as they are loaded back: pieces that hold them and cover the scratch buffer read as them. -/
theorem act_loaded (a9 : Memref sig .tc .vmem S512x2816 .bf16) (L : List (View.Piece (Elt Ideal) S512x2816 .bf16))
    (G : Vec Ideal S512x2816 .bf16) (hL : ∀ p ∈ L, ∀ y, p.2 y = G (p.1.emb y)) (hc : ∀ y, ∃ p ∈ L, y ∈ p.1.set)
    (i9 : ∀ a, (![0, 0] : Fin 2 → ℕ) a + S512x2816.size a ≤ S512x2816.size a) :
    a9.view.readCov L (Rect.unit (s := S512x2816) ![0, 0] S512x2816.size i9).toLoadRect = G := by
  rw [View.readCov_eq_canon_ld _ _ _ hc, funext fun y => canon_eq_of_pieces G L hL y (hc y)]
  exact View.ld_unit_zero (by funext a; fin_cases a <;> rfl) _ _

/-- A stored chunk of result columns holds the block's result there. -/
theorem cols_loaded (o : ℕ) (A : Vec Ideal S512x2816 .bf16) (hA : A = act (k0_pay5 x w) wg wu)
    (i6 : ∀ a, (![0, o] : Fin 2 → ℕ) a + S2816x256.size a ≤ S2816x1024.size a)
    (i7 : ∀ a, (![0, o] : Fin 2 → ℕ) a + S512x256.size a ≤ S512x1024.size a) (y : S512x256.Idx) :
    k0_pay1 (F := Ideal) (View.readAt (Elt Ideal) a1.view (Rect.unit (s := S512x1024) ![0, o] S512x256.size i7).toLoadRect (h1.unread x)) A
        (View.readAt (Elt Ideal) a6.view (Rect.unit (s := S2816x1024) ![0, o] S2816x256.size i6).toLoadRect (h6.unread wd)) y
      = block x w wg wu wd ((Rect.unit (s := S512x1024) ![0, o] S512x256.size i7).emb y) := by
  rw [View.readAt_eq_ld, View.readAt_eq_ld, h1.read_unread, h6.read_unread, hA]
  exact cols_eq x _ wd o i6 i7 y

end Loads

end Cert.FfnProof

end
-- ==== Proof.FfnBody.lean ====
module

public import proofs.«01_k».proof.Proof.FfnBlock

@[expose] public section

-- membership in a rectangle of production extents (`View.cover_of_tiled`): the elaborator's structural look
-- recurses once per coordinate of the long axes
set_option maxRecDepth 16384

noncomputable section

namespace Cert.FfnProof

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 1000000 in
/-- The body where its first branch runs: from the inputs' buffers at `x0` … `x5` and the sample rows' result at `d7`, it ends
    with the prompt block's result in the seventh buffer and every other window as it was. -/
theorem body_first (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .f32) (harg4 : arg4.IsWhole) (arg5 : Memref sig .tc .vmem S1024x2816 .f32) (harg5 : arg5.IsWhole) (arg6 : Memref sig .tc .vmem S2816x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x2816 .bf16) (harg9 : arg9.IsWhole) (hc0 : k0_cond1 i = 1#1) (hc1 : ¬k0_cond2 i = 1#1)
    (x0 : Vec Ideal S512x1024 .f32) (x1 : Vec Ideal S512x1024 .f32) (x2 : Vec Ideal S1x1024 .f32) (x3 : Vec Ideal S1024x2816 .f32) (x4 : Vec Ideal S1024x2816 .f32) (x5 : Vec Ideal S2816x1024 .f32) (d7 : Vec Ideal S512x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (block x0 x2 x3 x4 x5) ∗ owns (c : Thread nD τ) arg8 fullShare d7 ∗ (∃ d, owns (c : Thread nD τ) arg9 fullShare d)) -∗ K ⟨⟩))
          ⊢ wp frame (wpE (defs₀ (F := Ideal)) Variants.none c none) E (cc0_ffn i arg1 harg1 arg2 harg2 arg3 harg3 arg4 harg4 arg5 harg5 arg6 harg6 arg7 harg7 arg8 harg8 arg9 harg9) K := by
    intro E K
    simp only [cc0_ffn_eq_skeleton]; unfold cc0_ffn_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine read_covered _ _ _ (block x0 x2 x3 x4 x5) ?_ (View.cover_of_tiled _ ![512, 256] (by sl_kernel_rfl))
      have hA := fun j => act_loaded arg9 (body_first.sl.HS0_11 c arg1 harg1 arg3 harg3 arg4 harg4 arg5 harg5 x0 x2 x3 x4)
        (act (k0_pay5 x0 x2) x3 x4) (by
          unfold body_first.sl.HS0_11
          simp only [List.forall_mem_cons, List.forall_mem_nil]
          refine ⟨?_, ?_, ?_, ?_, ?_, ?_, ?_, ?_, ?_, ?_, ?_, ?_⟩
          on_goal 12 => exact fun p hp => absurd hp List.not_mem_nil
          all_goals exact fun y => chunk_loaded harg1 harg3 harg4 harg5 x0 x2 x3 x4 _ _ _ _ _ y)
        (View.cover_of_tiled _ ![512, 256] (by sl_kernel_rfl)) j
      simp only [List.forall_mem_cons, List.forall_mem_nil]
      refine ⟨?_, ?_, ?_, ?_, ?_⟩
      on_goal 5 => exact fun p hp => absurd hp List.not_mem_nil
      all_goals exact fun y => cols_loaded harg1 harg6 x0 x2 x3 x4 x5 _ _ (hA _) _ _ y
    isplitl [H7]
    · iexists _; isplitr; swap; · iexact H7
      ipureintro; exact hf7
    iexists _, _; isplitr; swap; · iexact HS0
    ipureintro; rfl

-- (the run's proof term is large: checking it walks past the default budget)
set_option maxHeartbeats 1000000 in
/-- The body where its second branch runs: it ends with the sample rows' result in the eighth buffer and every other window as it was. -/
theorem body_second (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .f32) (harg4 : arg4.IsWhole) (arg5 : Memref sig .tc .vmem S1024x2816 .f32) (harg5 : arg5.IsWhole) (arg6 : Memref sig .tc .vmem S2816x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x2816 .bf16) (harg9 : arg9.IsWhole) (hc0 : ¬k0_cond1 i = 1#1) (hc1 : k0_cond2 i = 1#1)
    (x0 : Vec Ideal S512x1024 .f32) (x1 : Vec Ideal S512x1024 .f32) (x2 : Vec Ideal S1x1024 .f32) (x3 : Vec Ideal S1024x2816 .f32) (x4 : Vec Ideal S1024x2816 .f32) (x5 : Vec Ideal S2816x1024 .f32) (d6 : Vec Ideal S512x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ owns (c : Thread nD τ) arg8 fullShare (block x1 x2 x3 x4 x5) ∗ (∃ d, owns (c : Thread nD τ) arg9 fullShare d)) -∗ K ⟨⟩))
          ⊢ wp frame (wpE (defs₀ (F := Ideal)) Variants.none c none) E (cc0_ffn i arg1 harg1 arg2 harg2 arg3 harg3 arg4 harg4 arg5 harg5 arg6 harg6 arg7 harg7 arg8 harg8 arg9 harg9) K := by
    intro E K
    simp only [cc0_ffn_eq_skeleton]; unfold cc0_ffn_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro; exact hf6
    isplitl [H7]
    · iexists _; isplitr; swap; · iexact H7
      ipureintro
      refine read_covered _ _ _ (block x1 x2 x3 x4 x5) ?_ (View.cover_of_tiled _ ![512, 256] (by sl_kernel_rfl))
      have hA := fun j => act_loaded arg9 (body_second.sl.HS0_11 c arg2 harg2 arg3 harg3 arg4 harg4 arg5 harg5 x1 x2 x3 x4)
        (act (k0_pay5 x1 x2) x3 x4) (by
          unfold body_second.sl.HS0_11
          simp only [List.forall_mem_cons, List.forall_mem_nil]
          refine ⟨?_, ?_, ?_, ?_, ?_, ?_, ?_, ?_, ?_, ?_, ?_, ?_⟩
          on_goal 12 => exact fun p hp => absurd hp List.not_mem_nil
          all_goals exact fun y => chunk_loaded harg2 harg3 harg4 harg5 x1 x2 x3 x4 _ _ _ _ _ y)
        (View.cover_of_tiled _ ![512, 256] (by sl_kernel_rfl)) j
      simp only [List.forall_mem_cons, List.forall_mem_nil]
      refine ⟨?_, ?_, ?_, ?_, ?_⟩
      on_goal 5 => exact fun p hp => absurd hp List.not_mem_nil
      all_goals exact fun y => cols_loaded harg2 harg6 x1 x2 x3 x4 x5 _ _ (hA _) _ _ y
    iexists _, _; isplitr; swap; · iexact HS0
    ipureintro; rfl

end Cert.FfnProof

end
-- ==== Proof.FfnFrame.lean ====
module

public import proofs.«01_k».proof.Proof.Gen.FfnIdeal.Frame
public import proofs.«01_k».proof.Proof.Gen.FfnIdeal.Skeleton
public import Idealize.ShloMosaic.Lib.Claim

@[expose] public section

set_option maxRecDepth 16384

/-! The feed-forward kernel's frame, over any float words: nothing is said of what its two results hold. -/

noncomputable section

namespace Cert.FfnProof

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At every point exactly one of the body's two branches runs. -/
theorem one_branch : ∀ t : Fin cfg0.N, (k0_cond1 (grid0.coords t) = 1#1 ∧ ¬ k0_cond2 (grid0.coords t) = 1#1)
    ∨ (¬ k0_cond1 (grid0.coords t) = 1#1 ∧ k0_cond2 (grid0.coords t) = 1#1) :=
  (by decide +kernel : ∀ t : Fin grid0.N, (k0_cond1 (grid0.coords t) = 1#1 ∧ ¬ k0_cond2 (grid0.coords t) = 1#1)
    ∨ (¬ k0_cond1 (grid0.coords t) = 1#1 ∧ k0_cond2 (grid0.coords t) = 1#1))

-- (the run's proof term is large: checking it walks past the default budget)
set_option maxHeartbeats 1000000 in
/-- The body, whichever branch runs, keeps its six inputs. -/
theorem body_keeps (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2816 .f32) (harg4 : arg4.IsWhole) (arg5 : Memref sig .tc .vmem S1024x2816 .f32) (harg5 : arg5.IsWhole) (arg6 : Memref sig .tc .vmem S2816x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x2816 .bf16) (harg9 : arg9.IsWhole)
    (hc : (k0_cond1 i = 1#1 ∧ ¬ k0_cond2 i = 1#1) ∨ (¬ k0_cond1 i = 1#1 ∧ k0_cond2 i = 1#1))
    (x0 : Vec F S512x1024 .f32) (x1 : Vec F S512x1024 .f32) (x2 : Vec F S1x1024 .f32) (x3 : Vec F S1024x2816 .f32) (x4 : Vec F S1024x2816 .f32) (x5 : Vec F S2816x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9) K := by
    intro E K
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    rcases hc with ⟨hc0, hc1⟩ | ⟨hc0, hc1⟩
    all_goals
      sl_exec (disch := first | sl_exact hc0 | sl_exact hc1)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _, _; isplitr; swap; · iexact H6
        ipureintro; rfl
      isplitl [H7]
      · iexists _, _; isplitr; swap; · iexact H7
        ipureintro; rfl
      iexists _, _; isplitr; swap; · iexact HS0
      ipureintro; rfl

/-- The windows of which nothing is said: the two results. -/
def unsaid : Fin 8 → Bool := fun w => w.val == 6 || w.val == 7

/-- Each input's buffer holds its block after the body; the results' buffers hold anything. -/
def keeps (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem keeps_A (c : Dev nD) (w : Fin cfg0.W) : (keeps m 0 c).A w = V m c (Pipeline.arrRef spec0 w) := by
  dsimp only [keeps]

theorem keeps_0 (c : Dev nD) (t : Fin cfg0.N) : (keeps m 0 c).after 0 t = iblk m c 0 t := by dsimp only [keeps]
theorem keeps_1 (c : Dev nD) (t : Fin cfg0.N) : (keeps m 0 c).after 1 t = iblk m c 1 t := by dsimp only [keeps]
theorem keeps_2 (c : Dev nD) (t : Fin cfg0.N) : (keeps m 0 c).after 2 t = iblk m c 2 t := by dsimp only [keeps]
theorem keeps_3 (c : Dev nD) (t : Fin cfg0.N) : (keeps m 0 c).after 3 t = iblk m c 3 t := by dsimp only [keeps]
theorem keeps_4 (c : Dev nD) (t : Fin cfg0.N) : (keeps m 0 c).after 4 t = iblk m c 4 t := by dsimp only [keeps]
theorem keeps_5 (c : Dev nD) (t : Fin cfg0.N) : (keeps m 0 c).after 5 t = iblk m c 5 t := by dsimp only [keeps]

theorem finds_0 (c : Dev nD) (t : Fin cfg0.N) (d) : (keeps m 0 c).before 0 t d = iblk m c 0 t :=
  before0_0_of m (keeps m 0 c) (keeps_A m c 0) (keeps_0 m c) t d
theorem finds_1 (c : Dev nD) (t : Fin cfg0.N) (d) : (keeps m 0 c).before 1 t d = iblk m c 1 t :=
  before0_1_of m (keeps m 0 c) (keeps_A m c 1) (keeps_1 m c) t d
theorem finds_2 (c : Dev nD) (t : Fin cfg0.N) (d) : (keeps m 0 c).before 2 t d = iblk m c 2 t :=
  before0_2_of m (keeps m 0 c) (keeps_A m c 2) (keeps_2 m c) t d
theorem finds_3 (c : Dev nD) (t : Fin cfg0.N) (d) : (keeps m 0 c).before 3 t d = iblk m c 3 t :=
  before0_3_of m (keeps m 0 c) (keeps_A m c 3) (keeps_3 m c) t d
theorem finds_4 (c : Dev nD) (t : Fin cfg0.N) (d) : (keeps m 0 c).before 4 t d = iblk m c 4 t :=
  before0_4_of m (keeps m 0 c) (keeps_A m c 4) (keeps_4 m c) t d
theorem finds_5 (c : Dev nD) (t : Fin cfg0.N) (d) : (keeps m 0 c).before 5 t d = iblk m c 5 t :=
  before0_5_of m (keeps m 0 c) (keeps_A m c 5) (keeps_5 m c) t d

abbrev ms_0 (t : Fin cfg0.N) : Memref sig .tc .vmem S512x1024 .f32 := win0_0.stage (cfg0.slots t 0)
abbrev ms_1 (t : Fin cfg0.N) : Memref sig .tc .vmem S512x1024 .f32 := win0_1.stage (cfg0.slots t 1)
abbrev ms_2 (t : Fin cfg0.N) : Memref sig .tc .vmem S1x1024 .f32 := win0_2.stage (cfg0.slots t 2)
abbrev ms_3 (t : Fin cfg0.N) : Memref sig .tc .vmem S1024x2816 .f32 := win0_3.stage (cfg0.slots t 3)
abbrev ms_4 (t : Fin cfg0.N) : Memref sig .tc .vmem S1024x2816 .f32 := win0_4.stage (cfg0.slots t 4)
abbrev ms_5 (t : Fin cfg0.N) : Memref sig .tc .vmem S2816x1024 .f32 := win0_5.stage (cfg0.slots t 5)
abbrev ms_6 (t : Fin cfg0.N) : Memref sig .tc .vmem S512x1024 .f32 := win0_6.stage (cfg0.slots t 6)
abbrev ms_7 (t : Fin cfg0.N) : Memref sig .tc .vmem S512x1024 .f32 := win0_7.stage (cfg0.slots t 7)

/-- The region's invariant, its scratch buffer owned at some contents. -/
theorem inv_eq (c : Dev nD) :
    (Pipeline.ΦA spec0 c : sProp 𝕄)
      = iprop(iprop((∃ d, owns (c : Thread nD τ) (Memref.whole cc0_scratch0 : Memref sig .tc .vmem S512x2816 .bf16) fullShare d)) ∗ (∃ r, prngReg c r)) := by
  unfold Pipeline.ΦA; rw [scopedRest0_eq]; simp only [owns_whole]; try rfl

/-- What the body is called with at a point. -/
def keepsPre (c : Dev nD) (t : Fin cfg0.N) : sProp 𝕄 :=
  iprop((keeps m 0 c).Φ t.castSucc ∗ (keeps m 0 c).owesAt () t.castSucc
    ∗ (∃ d, owns (c : Thread nD τ) (ms_0 t) fullShare ((keeps m 0 c).before 0 t d))
    ∗ (∃ d, owns (c : Thread nD τ) (ms_1 t) fullShare ((keeps m 0 c).before 1 t d))
    ∗ (∃ d, owns (c : Thread nD τ) (ms_2 t) fullShare ((keeps m 0 c).before 2 t d))
    ∗ (∃ d, owns (c : Thread nD τ) (ms_3 t) fullShare ((keeps m 0 c).before 3 t d))
    ∗ (∃ d, owns (c : Thread nD τ) (ms_4 t) fullShare ((keeps m 0 c).before 4 t d))
    ∗ (∃ d, owns (c : Thread nD τ) (ms_5 t) fullShare ((keeps m 0 c).before 5 t d))
    ∗ (∃ d, owns (c : Thread nD τ) (ms_6 t) fullShare d)
    ∗ (∃ d, owns (c : Thread nD τ) (ms_7 t) fullShare d))

/-- What it returns. -/
def keepsPost (c : Dev nD) (t : Fin cfg0.N) : sProp 𝕄 :=
  iprop((keeps m 0 c).Φ t.succ ∗ (keeps m 0 c).owesAt () t.succ
    ∗ owns (c : Thread nD τ) (ms_0 t) fullShare ((keeps m 0 c).after 0 t)
    ∗ owns (c : Thread nD τ) (ms_1 t) fullShare ((keeps m 0 c).after 1 t)
    ∗ owns (c : Thread nD τ) (ms_2 t) fullShare ((keeps m 0 c).after 2 t)
    ∗ owns (c : Thread nD τ) (ms_3 t) fullShare ((keeps m 0 c).after 3 t)
    ∗ owns (c : Thread nD τ) (ms_4 t) fullShare ((keeps m 0 c).after 4 t)
    ∗ owns (c : Thread nD τ) (ms_5 t) fullShare ((keeps m 0 c).after 5 t)
    ∗ (∃ d, owns (c : Thread nD τ) (ms_6 t) fullShare d)
    ∗ (∃ d, owns (c : Thread nD τ) (ms_7 t) fullShare d))

set_option maxHeartbeats 1600000 in
/-- The body at any point keeps the inputs' blocks. -/
theorem point_keeps (c : Dev nD) (t : Fin cfg0.N) :
    keepsPre m c t ⊢ wp frame (wpE (defs₀ (F := F)) Variants.none c none) Set.univ (bodyAt0 t) (fun _ => keepsPost m c t) := by
  unfold keepsPre keepsPost bodyAt0
  simp only [finds_0, finds_1, finds_2, finds_3, finds_4, finds_5]
  rw [show (keeps m 0 c).Φ t.succ = (keeps m 0 c).Φ t.castSucc from rfl,
    show (keeps m 0 c).owesAt () t.succ = (keeps m 0 c).owesAt () t.castSucc from rfl,
    keeps_0, keeps_1, keeps_2, keeps_3, keeps_4, keeps_5]
  rw [show (keeps m 0 c).Φ t.castSucc = Pipeline.ΦA spec0 c from rfl, inv_eq]
  iintro ⟨⟨HS0, Hg⟩, Ho, ⟨%d0, H0⟩, ⟨%d1, H1⟩, ⟨%d2, H2⟩, ⟨%d3, H3⟩, ⟨%d4, H4⟩, ⟨%d5, H5⟩, H6, H7⟩
  iapply ((body_keeps c (grid0.coords t) _ _ _ _ _ _ _ _ _ _ _ _ _ _ _ _ _ _ (one_branch t) (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point's slots is the body. -/
theorem row_eq (t : Fin cfg0.N) :
    defs₀ (F := F) .tc cfg0.body (cfg0.bodyArgs t (cfg0.slots t)) = bodyAt0 t := by
  unfold defs₀; rw [Defs.onTc_tc]

/-- The pipeline's body obligation, the results' buffers left unsaid. -/
theorem obligation_keeps (c : Dev nD) : BodyObligation (keeps (F := F) m 0 c) (defs₀ (F := F)) Variants.none () Set.univ unsaid := fun t => by
  rw [bigSep_W0, bigSep_W0, row_eq]
  exact triple_restated (point_keeps m c t) rfl .rfl fun _ => .rfl

set_option backward.isDefEq.respectTransparency.types false in
/-- Every execution ends with the inputs' arrays as the region found them and every semaphore counter at zero. -/
theorem run_keeps : θ_run defs (onTc (τ := τ) (main (F := F))) (s₀ m ρ)
    (fun r => (Pipeline.RDat.FramePost (cfgs 0) (fun c => (keeps m 0 c).toRForget unsaid) (V m)) r ∧ r.2.sem = fun _ => 0) :=
  Pipeline.θ_run_frame_forget (Q' := _) cfgs (keeps m) (0 : Fin 1) launch0 defs₀ Variants.none unsaid m ρ main
    (hbody := fun c => (obligation_keeps m c).loose) (hshare := fun c => (keeps m 0 c).share_full fun _ => rfl)
    (howed := fun _ _ => rfl) (V := V m) (hmain := hmain m Variants.none) (hA := keeps_A m) (hΦ := fun _ _ => rfl)

/-- An input's array ends as the region found it. -/
theorem input_kept {r : PUnit × MemSt nD τ sig (Elt F)}
    (h : Pipeline.RDat.FramePost (cfgs 0) (fun c => (keeps m 0 c).toRForget unsaid) (V m) r) (c : Dev nD) (w : Fin cfg0.W)
    (hw : (cfg0.win w).isOut = false) :
    r.2.mem ((cfg0.spec w).arr.view.loc (c.tc : Thread nD τ)) = V m c (Pipeline.arrRef spec0 w) := by
  have e := (h c).1 w
  rw [Pipeline.RDat.ArrAt_in _ w hw] at e
  exact e.trans (keeps_A m c w)

/-- The frame: every argument array ends as launched, every semaphore counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(input_kept m h.1 c 0 rfl).trans (V_main_arg0 m c),
      (input_kept m h.1 c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_keeps m ρ)

end Cert.FfnProof

end
-- ==== Proof.FfnRun.lean ====
module

public import proofs.«01_k».proof.Proof.FfnBody
public import proofs.«01_k».proof.Proof.FfnFrame

@[expose] public section

-- membership in a rectangle of production extents (`View.cover_of_tiled`): the elaborator's structural look
-- recurses once per coordinate of the long axes
set_option maxRecDepth 16384

noncomputable section

namespace Cert.FfnProof

open Cert.FfnIdeal Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The body's two conditions and the windows' movements, over the grid's 33 points -/

/-- The first branch runs at the points before the last. -/
theorem first_iff : ∀ t : Fin cfg0.N, k0_cond1 (grid0.coords t) = 1#1 ↔ t.val < 32 :=
  (by decide +kernel : ∀ t : Fin grid0.N, k0_cond1 (grid0.coords t) = 1#1 ↔ t.val < 32)

/-- The second branch runs at the last point. -/
theorem second_iff : ∀ t : Fin cfg0.N, k0_cond2 (grid0.coords t) = 1#1 ↔ ¬ t.val < 32 :=
  (by decide +kernel : ∀ t : Fin grid0.N, k0_cond2 (grid0.coords t) = 1#1 ↔ ¬ t.val < 32)

/-- The prompt rows' result is written back at every point but the last but one. -/
theorem flush6_iff : ∀ t : Fin cfg0.N, (cfg0.win 6).flush t = true ↔ t.val ≠ 31 :=
  (by decide +kernel : ∀ t : Fin grid0.N, win0_6.flush t = true ↔ t.val ≠ 31)

/-! ## The proof data -/

/-- The point whose block the prompt rows' result holds at point `t`: the last point keeps the one before. -/
def held (t : Fin cfg0.N) : Fin cfg0.N := if t.val < 32 then t else ⟨31, by rw [show cfg0.N = 33 from N_0]; decide⟩

/-- What a block of rows (window `w`: 0 the prompt, 1 the samples) ends as, from the arrays the region finds. -/
def blockAt0 (c : Dev nD) (t : Fin cfg0.N) : Vec Ideal S512x1024 .f32 :=
  block (iblk m c 0 t) (iblk m c 2 t) (iblk m c 3 t) (iblk m c 4 t) (iblk m c 5 t)
def blockAt1 (c : Dev nD) (t : Fin cfg0.N) : Vec Ideal S512x1024 .f32 :=
  block (iblk m c 1 t) (iblk m c 2 t) (iblk m c 3 t) (iblk m c 4 t) (iblk m c 5 t)

/-- What each window's buffer holds after the body at each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockAt0 m c (held t)
    | ⟨7, _⟩ => blockAt1 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = blockAt0 m c (held t) := by dsimp only [dats]
theorem after_7 (c : Dev nD) (t : Fin cfg0.N) : (dats m 0 c).after 7 t = blockAt1 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- At the last point the prompt rows' buffer still holds what the point before left. -/
theorem before_6_last (c : Dev nD) (t : Fin cfg0.N) (ht : ¬ t.val < 32) (d) :
    (dats m 0 c).before 6 t d = blockAt0 m c (held t) := by
  have hN : t.val < 33 := lt_of_lt_of_eq t.isLt (show cfg0.N = 33 from N_0)
  have h32 : t.val = 32 := by omega
  have hlt : t.val - 1 < cfg0.N := by omega
  rw [Dat.before_of_pos _ 6 t (by omega) rfl d]
  rw [if_neg (by rw [flush6_iff]; show ¬ (t.val - 1 ≠ 31); omega)]
  have hi : cfg0.idle 6 (cfg0.grid.coords ⟨t.val - 1, hlt⟩) = false := by
    show (!(k0_cond1 (grid0.coords ⟨t.val - 1, hlt⟩) == 1#1)) = false
    rw [(first_iff ⟨t.val - 1, hlt⟩).mpr (by show t.val - 1 < 32; omega)]; rfl
  unfold Dat.left
  rw [hi]
  show (dats m 0 c).after 6 ⟨t.val - 1, hlt⟩ = _
  rw [after_6]
  refine congrArg (blockAt0 m c) ?_
  unfold held
  rw [if_neg ht, if_pos (by show t.val - 1 < 32; omega)]
  exact Fin.ext (by show t.val - 1 = 31; omega)

/-! ## The body's obligation at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- An input's buffer is handed back at its block. -/
theorem leaves_live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [hi]

set_option maxHeartbeats 1600000 in
/-- The body at any point: the first branch's triple before the last point, the second's at it. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, inv_eq]
  rw [leaves_live m c 0 t rfl, leaves_live m c 1 t rfl, leaves_live m c 2 t rfl, leaves_live m c 3 t rfl, leaves_live m c 4 t rfl,
    leaves_live m c 5 t rfl, after_0, after_1, after_2, after_3, after_4, after_5]
  have hN : t.val < 33 := lt_of_lt_of_eq t.isLt (show cfg0.N = 33 from N_0)
  by_cases h0 : t.val < 32
  · have h1 : ¬ k0_cond2 (grid0.coords t) = 1#1 := fun h => (second_iff t).mp h h0
    rw [leaves_live m c 6 t (by show (!(k0_cond1 (grid0.coords t) == 1#1)) = false; rw [(first_iff t).mpr h0]; rfl), after_6,
      show held t = t from if_pos h0,
      Dat.leavesExact_idle _ 7 t (by show (!(k0_cond2 (grid0.coords t) == 1#1)) = true; rw [beq_eq_false_iff_ne.mpr h1]; rfl)
        (Bool.eq_false_iff.mpr fun h => by have := (flush0_7 t).mp h; omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((body_first c (grid0.coords t) _ _ _ _ _ _ _ _ _ _ _ _ _ _ _ _ _ _ ((first_iff t).mpr h0) h1 (iblk m c 0 t) (iblk m c 1 t) (iblk m c 2 t) (iblk m c 3 t) (iblk m c 4 t) (iblk m c 5 t) ((dats m 0 c).before 7 t d7)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  · have h1 : ¬ k0_cond1 (grid0.coords t) = 1#1 := fun h => h0 ((first_iff t).mp h)
    have e6 : (dats m 0 c).leavesExact 6 t
        = owns (c : Thread nD τ) ((cfg0.win 6).stage (cfg0.slots t 6)) fullShare ((dats m 0 c).after 6 t) := by
      unfold Dat.leavesExact
      rw [show cfg0.idle 6 (cfg0.grid.coords t) = true from by
        show (!(k0_cond1 (grid0.coords t) == 1#1)) = true; rw [beq_eq_false_iff_ne.mpr h1]; rfl]
      rw [(flush6_iff t).mpr (by omega)]
    rw [e6, after_6, leaves_live m c 7 t (by show (!(k0_cond2 (grid0.coords t) == 1#1)) = false; rw [(second_iff t).mpr h0]; rfl), after_7]
    simp only [before_6_last m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((body_second c (grid0.coords t) _ _ _ _ _ _ _ _ _ _ _ _ _ _ _ _ _ _ h1 ((second_iff t).mpr h0) (iblk m c 0 t) (iblk m c 1 t) (iblk m c 2 t) (iblk m c 3 t) (iblk m c 4 t) (iblk m c 5 t) (blockAt0 m c (held t))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The pipeline's body obligation, at every point. -/
theorem obligation (c : Dev nD) : BodyObligation (dats m 0 c) (defs₀ (F := Ideal)) Variants.none () Set.univ := fun t => by
  rw [bigSep_W0, bigSep_W0, row_eq]
  exact triple_restated (sound_body m c t) rfl .rfl fun _ => .rfl

/-! ## The run -/

set_option backward.isDefEq.respectTransparency.types false in
/-- Every execution ends with the arrays as the pipeline's write-backs leave them and every semaphore counter at zero. -/
theorem run_counters : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := Ideal))) (s₀ m ρ) (Pipeline.FramePost cfgs (dats m) 0 (V m)) :=
  (θ_run defs _ _).mono (fun _ h => h.1) (run_counters m ρ)

end Cert.FfnProof

end
-- ==== Proof.FfnRow.lean ====
module

public import proofs.«01_k».proof.Proof.FfnBlock
public import proofs.«01_k».proof.Proof.Gen.FfnRefIdeal.Run
public import proofs.«01_k».proof.Proof.Gen.FfnRefIdeal.Read

@[expose] public section

set_option maxRecDepth 16384

/-! One row of the feed-forward layer as one formula; the kernel's block and the reference's results read at an index as it. -/

noncomputable section

namespace Cert.FfnProof

open Idealize.ShloMosaic Idealize.ShloMosaic.TcCoe
open scoped BigOperators

/-- A row `x` divided by the root of its mean square, times the norm's weight. -/
def normRow (x w : Fin 1024 → EReal) (k : Fin 1024) : EReal :=
  x k * Ideal.rsqrt (Ideal.div (∑ i : Fin 1024, x i * x i) (Ideal.ofBits .f32 0x44800000#32) + Ideal.ofBits .f32 0x358637BD#32) * w k

/-- The normalised row times a matrix's column. -/
def preRow (x w : Fin 1024 → EReal) (g : Fin 1024 → Fin 2816 → EReal) (n : Fin 2816) : EReal :=
  ∑ k : Fin 1024, normRow x w k * g k n

/-- The layer's result on a row. -/
def ffnRow (x w : Fin 1024 → EReal) (g u : Fin 1024 → Fin 2816 → EReal) (d : Fin 2816 → Fin 1024 → EReal) (j : Fin 1024) : EReal :=
  x j + ∑ n : Fin 2816, preRow x w g n * Ideal.logistic (preRow x w g n) * preRow x w u n * d n j

section Kernel
open Cert.FfnIdeal Cert.FfnIdeal.Gen

/-- The kernel's normalised block, row by row. -/
theorem norm_apply (x : Vec Ideal S512x1024 .f32) (w : Vec Ideal S1x1024 .f32) (r : Fin 512) (k : Fin 1024) :
    k0_pay5 (F := Ideal) x w (ix2 r k) = normRow (fun i => x (ix2 r i)) (fun i => w (ix2 0 i)) k := by
  pointwise [k0_pay5, normRow]

/-- The kernel's block is the layer's result row by row. -/
theorem block_apply (x : Vec Ideal S512x1024 .f32) (w : Vec Ideal S1x1024 .f32) (wg wu : Vec Ideal S1024x2816 .f32)
    (wd : Vec Ideal S2816x1024 .f32) (y : S512x1024.Idx) :
    block x w wg wu wd y = ffnRow (fun i => x (ix2 (y 0) i)) (fun i => w (ix2 0 i)) (fun k n => wg (ix2 k n))
      (fun k n => wu (ix2 k n)) (fun n j => wd (ix2 n j)) (y 1) := by
  obtain ⟨r, j, rfl⟩ : ∃ r j, y = ix2 r j := ⟨y 0, y 1, by funext a; fin_cases a <;> rfl⟩
  show _ = ffnRow (fun i => x (ix2 r i)) _ _ _ _ j
  simp only [block, out, act, pre, ffnRow, preRow]
  simp only [show ∀ k, normRow (fun i => x (ix2 r i)) (fun i => w (ix2 0 i)) k = k0_pay5 (F := Ideal) x w (ix2 r k) from
    fun k => (norm_apply x w r k).symm]
  rfl
end Kernel

section Reference
open Cert.FfnRefIdeal Cert.FfnRefIdeal.Gen Cert.FfnRefIdeal.Read

/-- The reference's normalised prompt rows. -/
theorem ref_norm0 (x0 : S16384x1024.Idx → EReal) (x2 : S1x1024.Idx → EReal) (r : Fin 16384) (k : Fin 1024) :
    val_main_v13 (F := Ideal) x0 x2 (ix2 r k) = normRow (fun i => x0 (ix2 r i)) (fun i => x2 (ix2 0 i)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, normRow]

/-- The reference's prompt rows are the layer's result row by row. -/
theorem ref_prompt (x0 : S16384x1024.Idx → EReal) (x2 : S1x1024.Idx → EReal) (x3 x4 : S1x1024x2816.Idx → EReal)
    (x5 : S1x2816x1024.Idx → EReal) (r : Fin 16384) (j : Fin 1024) :
    val_main_v22 (F := Ideal) x0 x2 x3 x4 x5 (ix2 r j)
      = ffnRow (fun k => x0 (ix2 r k)) (fun k => x2 (ix2 0 k)) (fun k n => x3 (ix3 0 k n)) (fun k n => x4 (ix3 0 k n))
        (fun n j => x5 (ix3 0 n j)) j := by
  unfold ffnRow preRow
  simp only [← ref_norm0, Ideal.logistic]
  pointwise [val_main_v22, val_main_v21, val_main_v20, val_main_v19, val_main_v18, val_main_v17, val_main_v16, val_main_v15,
    val_main_v14, val_main_call0_v0, val_main_call0_v1, val_main_call0_v2, val_main_call0_v3, val_main_call0_v4, val_main_call0_v5,
    val_main_call0_cst, val_main_call0_cst_0]

/-- The reference's normalised sample rows. -/
theorem ref_norm1 (x1 : S512x1024.Idx → EReal) (x2 : S1x1024.Idx → EReal) (r : Fin 512) (k : Fin 1024) :
    val_main_v36 (F := Ideal) x1 x2 (ix2 r k) = normRow (fun i => x1 (ix2 r i)) (fun i => x2 (ix2 0 i)) k := by
  pointwise [val_main_v36, val_main_v35, val_main_v34, val_main_v33, val_main_v32, val_main_v31, val_main_v30, val_main_v29, val_main_v28,
    val_main_v27, val_main_v26, val_main_v25, val_main_v24, val_main_v23, val_main_cst_2, val_main_cst_3, val_main_cst_4, normRow]

/-- The reference's sample rows are the layer's result row by row. -/
theorem ref_sample (x1 : S512x1024.Idx → EReal) (x2 : S1x1024.Idx → EReal) (x3 x4 : S1x1024x2816.Idx → EReal)
    (x5 : S1x2816x1024.Idx → EReal) (r : Fin 512) (j : Fin 1024) :
    val_main_v45 (F := Ideal) x1 x2 x3 x4 x5 (ix2 r j)
      = ffnRow (fun k => x1 (ix2 r k)) (fun k => x2 (ix2 0 k)) (fun k n => x3 (ix3 0 k n)) (fun k n => x4 (ix3 0 k n))
        (fun n j => x5 (ix3 0 n j)) j := by
  unfold ffnRow preRow
  simp only [← ref_norm1, Ideal.logistic]
  pointwise [val_main_v45, val_main_v44, val_main_v43, val_main_v42, val_main_v41, val_main_v40, val_main_v39, val_main_v38,
    val_main_v37, val_main_call1_v0, val_main_call1_v1, val_main_call1_v2, val_main_call1_v3, val_main_call1_v4, val_main_call1_v5,
    val_main_call1_cst, val_main_call1_cst_0]
end Reference
end Cert.FfnProof

end
-- ==== Proof.FfnValue.lean ====
module

public import proofs.«01_k».proof.Proof.FfnRun
public import proofs.«01_k».proof.Proof.FfnRow

@[expose] public section

set_option maxRecDepth 16384

/-! The arrays the feed-forward kernel leaves, as the reference's results of the same arguments. -/

noncomputable section

namespace Cert.FfnProof

open Cert.FfnIdeal Cert.FfnIdeal.Gen

open Idealize.ShloMosaic Idealize.ShloMosaic.TcCoe Idealize.ShloMosaic.Tactic
open Idealize.SL Idealize.SL.RA Idealize.SL.BI Idealize.SL.Sem
open Idealize.ShloMosaic.Pipeline (Dat Cfg Window cellOf)
open scoped BigOperators

variable (m : (ℓ : Loc nD τ sig) → Buf (Elt Ideal) ℓ) (ρ : Dev nD → PrngReg)

/-! ## The host's reshapes of the weights, as the region finds them -/

theorem V_v1 (c : Dev nD) : V m c main_v1 = shapeCast S1x1024 (shapeCast S1024 (m ((c : Thread nD τ).loc main_arg2)) shapeCasts_S1x1024_S1024) shapeCasts_S1024_S1x1024 := by
  unfold V; simp only [hostOps0]; after_results_simp <;> rfl
theorem V_v2 (c : Dev nD) : V m c main_v2 = shapeCast S1024x2816 (m ((c : Thread nD τ).loc main_arg3)) shapeCasts_S1x1024x2816_S1024x2816 := by
  unfold V; simp only [hostOps0]; after_results_simp <;> rfl
theorem V_v3 (c : Dev nD) : V m c main_v3 = shapeCast S1024x2816 (m ((c : Thread nD τ).loc main_arg4)) shapeCasts_S1x1024x2816_S1024x2816 := by
  unfold V; simp only [hostOps0]; after_results_simp <;> rfl
theorem V_v4 (c : Dev nD) : V m c main_v4 = shapeCast S2816x1024 (m ((c : Thread nD τ).loc main_arg5)) shapeCasts_S1x2816x1024_S2816x1024 := by
  unfold V; simp only [hostOps0]; after_results_simp <;> rfl

/-- A weight with its leading axis dropped, at an index. -/
theorem w_cast (x : S1x1024.Idx → EReal) (k : Fin 1024) :
    shapeCast S1x1024 (shapeCast S1024 x shapeCasts_S1x1024_S1024) shapeCasts_S1024_S1x1024 (ix2 0 k) = x (ix2 0 k) := by
  pointwise []
theorem up_cast (x : S1x1024x2816.Idx → EReal) (k : Fin 1024) (n : Fin 2816) :
    shapeCast S1024x2816 x shapeCasts_S1x1024x2816_S1024x2816 (ix2 k n) = x (ix3 0 k n) := by
  pointwise []
theorem down_cast (x : S1x2816x1024.Idx → EReal) (n : Fin 2816) (j : Fin 1024) :
    shapeCast S2816x1024 x shapeCasts_S1x2816x1024_S2816x1024 (ix2 n j) = x (ix3 0 n j) := by
  pointwise []

/-- The norm's weight, the gate's, the up- and the down-projection's matrices at an index. -/
theorem w_apply (c : Dev nD) (k : Fin 1024) : (V m c main_v1 : S1x1024.Idx → EReal) (ix2 0 k) = m ((c : Thread nD τ).loc main_arg2) (ix2 0 k) :=
  (congrFun (V_v1 m c) _).trans (w_cast _ k)
theorem g_apply (c : Dev nD) (k : Fin 1024) (n : Fin 2816) :
    (V m c main_v2 : S1024x2816.Idx → EReal) (ix2 k n) = m ((c : Thread nD τ).loc main_arg3) (ix3 0 k n) :=
  (congrFun (V_v2 m c) _).trans (up_cast _ k n)
theorem u_apply (c : Dev nD) (k : Fin 1024) (n : Fin 2816) :
    (V m c main_v3 : S1024x2816.Idx → EReal) (ix2 k n) = m ((c : Thread nD τ).loc main_arg4) (ix3 0 k n) :=
  (congrFun (V_v3 m c) _).trans (up_cast _ k n)
theorem d_apply (c : Dev nD) (n : Fin 2816) (j : Fin 1024) :
    (V m c main_v4 : S2816x1024.Idx → EReal) (ix2 n j) = m ((c : Thread nD τ).loc main_arg5) (ix3 0 n j) :=
  (congrFun (V_v4 m c) _).trans (down_cast _ n j)

/-! ## The windows' places -/

theorem idx0 : ∀ t : Fin cfg0.N, t.val < 32 → win0_0.index t (0 : Fin 2) = t.val ∧ win0_0.index t (1 : Fin 2) = 0 :=
  (by decide +kernel : ∀ t : Fin grid0.N, t.val < 32 → win0_0.index t (0 : Fin 2) = t.val ∧ win0_0.index t (1 : Fin 2) = 0)
theorem idx6 : ∀ t : Fin cfg0.N, win0_6.index t (0 : Fin 2) = (held t).val ∧ win0_6.index t (1 : Fin 2) = 0 :=
  (by decide +kernel : ∀ t : Fin grid0.N, win0_6.index t (0 : Fin 2) = (held t).val ∧ win0_6.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem held_lt (t : Fin cfg0.N) : (held t).val < 32 := by
  unfold held; split
  · assumption
  · show 31 < 32; omega

/-- A point's place in the prompt's 16384 rows. -/
def place (t : Fin cfg0.N) (r : Fin 512) : Fin 16384 := ⟨(held t).val * 512 + r.val, by have := held_lt t; have := r.isLt; omega⟩

theorem emb0 (t : Fin cfg0.N) (r : Fin 512) (j : Fin 1024) : ((cfg0.win 0).blk (held t)).view.emb (ix2 r j) = ix2 (place t r) j := by
  obtain ⟨e0, e1⟩ := idx0 (held t) (held_lt t)
  funext a; apply Fin.ext
  match a with
  | ⟨0, _⟩ => show win0_0.index (held t) (0 : Fin 2) * 512 + 1 * r.val = (held t).val * 512 + r.val; omega
  | ⟨1, _⟩ => show win0_0.index (held t) (1 : Fin 2) * 1024 + 1 * j.val = j.val; omega
theorem emb6 (t : Fin cfg0.N) (r : Fin 512) (j : Fin 1024) : ((cfg0.win 6).blk t).view.emb (ix2 r j) = ix2 (place t r) j := by
  obtain ⟨e0, e1⟩ := idx6 t
  funext a; apply Fin.ext
  match a with
  | ⟨0, _⟩ => show win0_6.index t (0 : Fin 2) * 512 + 1 * r.val = (held t).val * 512 + r.val; omega
  | ⟨1, _⟩ => show win0_6.index t (1 : Fin 2) * 1024 + 1 * j.val = j.val; omega
theorem emb1 (t : Fin cfg0.N) (y : S512x1024.Idx) : ((cfg0.win 1).blk t).view.emb y = y := by
  obtain ⟨e0, e1⟩ := idx1 t
  funext a; apply Fin.ext
  match a with
  | ⟨0, _⟩ => show win0_1.index t (0 : Fin 2) * 512 + 1 * (y 0).val = (y 0).val; omega
  | ⟨1, _⟩ => show win0_1.index t (1 : Fin 2) * 1024 + 1 * (y 1).val = (y 1).val; omega
theorem emb7 (t : Fin cfg0.N) (y : S512x1024.Idx) : ((cfg0.win 7).blk t).view.emb y = y := by
  obtain ⟨e0, e1⟩ := idx7 t
  funext a; apply Fin.ext
  match a with
  | ⟨0, _⟩ => show win0_7.index t (0 : Fin 2) * 512 + 1 * (y 0).val = (y 0).val; omega
  | ⟨1, _⟩ => show win0_7.index t (1 : Fin 2) * 1024 + 1 * (y 1).val = (y 1).val; omega
theorem emb2 (t : Fin cfg0.N) (y : S1x1024.Idx) : ((cfg0.win 2).blk t).view.emb y = y := by
  obtain ⟨e0, e1⟩ := idx2 t
  funext a; apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega
theorem emb3 (t : Fin cfg0.N) (y : S1024x2816.Idx) : ((cfg0.win 3).blk t).view.emb y = y := by
  obtain ⟨e0, e1⟩ := idx3 t
  funext a; apply Fin.ext
  match a with
  | ⟨0, _⟩ => show win0_3.index t (0 : Fin 2) * 1024 + 1 * (y 0).val = (y 0).val; omega
  | ⟨1, _⟩ => show win0_3.index t (1 : Fin 2) * 2816 + 1 * (y 1).val = (y 1).val; omega
theorem emb4 (t : Fin cfg0.N) (y : S1024x2816.Idx) : ((cfg0.win 4).blk t).view.emb y = y := by
  obtain ⟨e0, e1⟩ := idx4 t
  funext a; apply Fin.ext
  match a with
  | ⟨0, _⟩ => show win0_4.index t (0 : Fin 2) * 1024 + 1 * (y 0).val = (y 0).val; omega
  | ⟨1, _⟩ => show win0_4.index t (1 : Fin 2) * 2816 + 1 * (y 1).val = (y 1).val; omega
theorem emb5 (t : Fin cfg0.N) (y : S2816x1024.Idx) : ((cfg0.win 5).blk t).view.emb y = y := by
  obtain ⟨e0, e1⟩ := idx5 t
  funext a; apply Fin.ext
  match a with
  | ⟨0, _⟩ => show win0_5.index t (0 : Fin 2) * 2816 + 1 * (y 0).val = (y 0).val; omega
  | ⟨1, _⟩ => show win0_5.index t (1 : Fin 2) * 1024 + 1 * (y 1).val = (y 1).val; omega

/-! ## The input blocks -/

theorem iblk0_apply (c : Dev nD) (t : Fin cfg0.N) (r : Fin 512) (j : Fin 1024) :
    (iblk m c 0 (held t) : S512x1024.Idx → EReal) (ix2 r j) = m ((c : Thread nD τ).loc main_arg0) (ix2 (place t r) j) := by
  show V m c main_arg0 (((cfg0.win 0).blk (held t)).view.emb (ix2 r j)) = _
  rw [emb0, V_main_arg0]
theorem iblk1_apply (c : Dev nD) (t : Fin cfg0.N) (y : S512x1024.Idx) :
    (iblk m c 1 t : S512x1024.Idx → EReal) y = m ((c : Thread nD τ).loc main_arg1) y := by
  show V m c main_arg1 (((cfg0.win 1).blk t).view.emb y) = _
  rw [emb1, V_main_arg1]
theorem iblk2_apply (c : Dev nD) (t : Fin cfg0.N) (k : Fin 1024) :
    (iblk m c 2 t : S1x1024.Idx → EReal) (ix2 0 k) = m ((c : Thread nD τ).loc main_arg2) (ix2 0 k) := by
  show V m c main_v1 (((cfg0.win 2).blk t).view.emb (ix2 0 k)) = _
  rw [emb2]; exact w_apply m c k
theorem iblk3_apply (c : Dev nD) (t : Fin cfg0.N) (k : Fin 1024) (n : Fin 2816) :
    (iblk m c 3 t : S1024x2816.Idx → EReal) (ix2 k n) = m ((c : Thread nD τ).loc main_arg3) (ix3 0 k n) := by
  show V m c main_v2 (((cfg0.win 3).blk t).view.emb (ix2 k n)) = _
  rw [emb3]; exact g_apply m c k n
theorem iblk4_apply (c : Dev nD) (t : Fin cfg0.N) (k : Fin 1024) (n : Fin 2816) :
    (iblk m c 4 t : S1024x2816.Idx → EReal) (ix2 k n) = m ((c : Thread nD τ).loc main_arg4) (ix3 0 k n) := by
  show V m c main_v3 (((cfg0.win 4).blk t).view.emb (ix2 k n)) = _
  rw [emb4]; exact u_apply m c k n
theorem iblk5_apply (c : Dev nD) (t : Fin cfg0.N) (n : Fin 2816) (j : Fin 1024) :
    (iblk m c 5 t : S2816x1024.Idx → EReal) (ix2 n j) = m ((c : Thread nD τ).loc main_arg5) (ix3 0 n j) := by
  show V m c main_v4 (((cfg0.win 5).blk t).view.emb (ix2 n j)) = _
  rw [emb5]; exact d_apply m c n j

/-! ## The result arrays -/

/-- The prompt rows' result: the reference's of the same arguments. -/
def result0 (c : Dev nD) : S16384x1024.Idx → EReal :=
  Cert.FfnRefIdeal.Read.val_main_v22 (F := Ideal) (m ((c : Thread nD τ).loc main_arg0)) (m ((c : Thread nD τ).loc main_arg2))
    (m ((c : Thread nD τ).loc main_arg3)) (m ((c : Thread nD τ).loc main_arg4)) (m ((c : Thread nD τ).loc main_arg5))
/-- The sample rows' result likewise. -/
def result1 (c : Dev nD) : S512x1024.Idx → EReal :=
  Cert.FfnRefIdeal.Read.val_main_v45 (F := Ideal) (m ((c : Thread nD τ).loc main_arg1)) (m ((c : Thread nD τ).loc main_arg2))
    (m ((c : Thread nD τ).loc main_arg3)) (m ((c : Thread nD τ).loc main_arg4)) (m ((c : Thread nD τ).loc main_arg5))

/-- What a point leaves for the prompt rows is the reference's result at its place. -/
theorem blockAt0_apply (c : Dev nD) (t : Fin cfg0.N) (r : Fin 512) (j : Fin 1024) :
    blockAt0 m c (held t) (ix2 r j) = result0 m c (ix2 (place t r) j) := by
  unfold blockAt0 result0
  rw [block_apply, ref_prompt]
  show ffnRow (fun k => (iblk m c 0 (held t) : S512x1024.Idx → EReal) (ix2 r k)) _ _ _ _ j = _
  simp only [iblk0_apply, iblk2_apply, iblk3_apply, iblk4_apply, iblk5_apply]
theorem blockAt1_apply (c : Dev nD) (t : Fin cfg0.N) (r : Fin 512) (j : Fin 1024) :
    blockAt1 m c t (ix2 r j) = result1 m c (ix2 r j) := by
  unfold blockAt1 result1
  rw [block_apply, ref_sample]
  show ffnRow (fun k => (iblk m c 1 t : S512x1024.Idx → EReal) (ix2 r k)) _ _ _ _ j = _
  simp only [iblk1_apply, iblk2_apply, iblk3_apply, iblk4_apply, iblk5_apply]

theorem flushed6_eq (c : Dev nD) (t : Fin cfg0.N) :
    (dats m 0 c).flushed 6 t = ((cfg0.win 6).blk t).view.read (Elt Ideal) (result0 m c) := by
  funext y
  show (dats m 0 c).after 6 t y = result0 m c (((cfg0.win 6).blk t).view.emb y)
  rw [after_6]
  obtain ⟨r, j, rfl⟩ : ∃ (r : Fin 512) (j : Fin 1024), y = ix2 r j := ⟨y 0, y 1, by funext a; fin_cases a <;> rfl⟩
  rw [emb6]; exact blockAt0_apply m c t r j
theorem flushed7_eq (c : Dev nD) (t : Fin cfg0.N) :
    (dats m 0 c).flushed 7 t = ((cfg0.win 7).blk t).view.read (Elt Ideal) (result1 m c) := by
  funext y
  show (dats m 0 c).after 7 t y = result1 m c (((cfg0.win 7).blk t).view.emb y)
  rw [after_7]
  obtain ⟨r, j, rfl⟩ : ∃ (r : Fin 512) (j : Fin 1024), y = ix2 r j := ⟨y 0, y 1, by funext a; fin_cases a <;> rfl⟩
  rw [emb7]; exact blockAt1_apply m c t r j

/-- Every prompt row is in the block some point writes back: the last point's for the last 512. -/
theorem covered6 (i : S16384x1024.Idx) : ∃ t : Fin cfg0.N, (cfg0.win 6).flush t = true ∧ i ∈ ((cfg0.win 6).blk t).view.set := by
  have hi : (i 0).val < 16384 := (i 0).isLt
  have hN : cfg0.N = 33 := N_0
  obtain ⟨t, ht, hh⟩ : ∃ t : Fin cfg0.N, t.val ≠ 31 ∧ (held t).val = (i 0).val / 512 := by
    by_cases h : (i 0).val / 512 < 31
    · exact ⟨⟨(i 0).val / 512, by omega⟩, by show (i 0).val / 512 ≠ 31; omega, by unfold held; rw [if_pos (by show (i 0).val / 512 < 32; omega)]⟩
    · exact ⟨⟨32, by omega⟩, by show 32 ≠ 31; omega, by unfold held; rw [if_neg (by show ¬ 32 < 32; omega)]; show 31 = _; omega⟩
  refine ⟨t, (flush6_iff t).mpr ht, ?_⟩
  have h := ((cfg0.win 6).blk t).view.emb_mem_set (ix2 (⟨(i 0).val % 512, by omega⟩ : Fin 512) (i 1))
  have h' := (emb6 t ⟨(i 0).val % 512, by omega⟩ (i 1)) ▸ h
  have e : ix2 (place t ⟨(i 0).val % 512, by omega⟩) (i 1) = i := by
    funext a; apply Fin.ext
    match a with
    | ⟨0, _⟩ => show (held t).val * 512 + (i 0).val % 512 = (i 0).val; omega
    | ⟨1, _⟩ => rfl
  exact e ▸ h'
theorem covered7 (i : S512x1024.Idx) : ∃ t : Fin cfg0.N, (cfg0.win 7).flush t = true ∧ i ∈ ((cfg0.win 7).blk t).view.set :=
  ⟨⟨32, (lt_of_lt_of_eq (by decide : 32 < 33) (show 33 = cfg0.N from N_0.symm))⟩, (flush0_7 _).mpr (by show 32 % 33 = 32; omega), by
    have h := ((cfg0.win 7).blk ⟨32, (lt_of_lt_of_eq (by decide : 32 < 33) (show 33 = cfg0.N from N_0.symm))⟩).view.emb_mem_set i; rwa [emb7] at h⟩

theorem final6 (c : Dev nD) : (dats m 0 c).arrAt 6 cfg0.N = result0 m c :=
  (dats m 0 c).arrAt_eq_of_cover 6 (result0 m c) (fun t _ => flushed6_eq m c t) covered6
theorem final7 (c : Dev nD) : (dats m 0 c).arrAt 7 cfg0.N = result1 m c :=
  (dats m 0 c).arrAt_eq_of_cover 7 (result1 m c) (fun t _ => flushed7_eq m c t) covered7

/-- A buffer no window stages ends as the region found it. -/
theorem rest (c : Dev nD) (r : PUnit × MemSt nD τ sig (Elt Ideal)) (h : Pipeline.FramePost cfgs (dats m) 0 (V m) r) (b : Ref sig .tc)
    (h1 : b.isScoped = false) (h2 : ∀ w, (spec0 w).arr.view.ref ≠ b) {x} (hx : V m c b = x) : r.2.mem ((c : Thread nD τ).loc b) = x :=
  ((h c).2 b (Pipeline.mem_restRefs_of b h1 h2)).trans hx

/-- Every execution of the kernel ends with the two results, its arguments unchanged and every counter at zero. -/
theorem run_results : θ_run defs (onTc (τ := τ) (main (F := Ideal))) ⟨m, fun _ => 0, ρ⟩ (fun r => (∀ c : Dev nD,
      r.2.mem ((c : Thread nD τ).loc main_v5_0) = result0 m c
      ∧ r.2.mem ((c : Thread nD τ).loc main_v5_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun _ h => ⟨fun c => ⟨((h.1 c).1 6).trans (final6 m c), ((h.1 c).1 7).trans (final7 m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      rest m c _ h.1 main_arg2 (by decide) (by decide) (V_main_arg2 m c), rest m c _ h.1 main_arg3 (by decide) (by decide) (V_main_arg3 m c),
      rest m c _ h.1 main_arg4 (by decide) (by decide) (V_main_arg4 m c), rest m c _ h.1 main_arg5 (by decide) (by decide) (V_main_arg5 m c)⟩,
      h.2⟩) (run_counters m ρ)

end Cert.FfnProof

end
-- ==== Proof.FfnClaim.lean ====
module

public import proofs.«01_k».proof.Defs
public import proofs.«01_k».proof.Proof.FfnValue
public import proofs.«01_k».proof.Proof.Gen.Ffn
public import proofs.«01_k».proof.Proof.Gen.FfnRefIdeal
public import Idealize.ShloMosaic.Lib.Claim

@[expose] public section

set_option maxRecDepth 16384

/-! The feed-forward call's claims. -/

noncomputable section

namespace Cert.FfnProof

open Idealize.ShloMosaic Idealize.ShloMosaic.TcCoe Idealize.SL.Sem

/-- The kernel's body table is, at any float words, that of the program over the reals: the two have the same text. -/
theorem bodies_eq {F : FTy → Type} [FloatOps F] : Cert.Ffn.defs (F := F) = Cert.FfnIdeal.defs := by
  refine congrArg (Pipeline.defs Cert.FfnIdeal.pcfgs) ?_
  unfold Cert.Ffn.defs₀ Cert.FfnIdeal.defs₀
  refine congrArg Defs.onTc (funext fun l => funext fun x => ?_)
  match l, x with
  | 0, (t, s) => rfl
  | ⟨n + 1, h⟩, _ => exact absurd h (Nat.not_lt.2 (Nat.le_add_left _ _))

/-- The kernel's frame at its own float words: the frame that holds at any words. -/
theorem frame_kernel : Cert.quiescent_Ffn := fun m ρ _ => by
  rw [bodies_eq]
  exact frame_any (F := Bits) m ρ

/-- The frame over the reals. -/
theorem frame_ideal : Cert.quiescent_FfnIdeal := fun m ρ _ => frame_any (F := Ideal) m ρ

/-- The reference's frame; it declares no semaphore. -/
theorem frame_reference : Cert.quiescent_FfnRefIdeal := fun m ρ _ =>
  (θ_run Cert.FfnRefIdeal.defs _ _).mono (fun r h => ⟨fun c => (h c).2.2, Idealize.ShloMosaic.sem_eq_zero_of_no_sems (by decide) r.2⟩)
    (Cert.FfnRefIdeal.Value.run (F := Ideal) m ρ)

/-- Kernel and reference end with equal results, from equal arguments. -/
theorem algebraic : Cert.algebraic_FfnIdeal_FfnRefIdeal := fun m ρ m' ρ' _ hagree =>
  ⟨result0 m, result1 m,
    (θ_run Cert.FfnIdeal.defs _ _).mono (fun _ h => h.1) (run_results m ρ),
    (θ_run Cert.FfnRefIdeal.defs _ _).mono (fun r h c => by
      obtain ⟨e0, e1, e2, e3, e4, e5⟩ := hagree c
      refine ⟨((h c).1.trans (Cert.FfnRefIdeal.Read.val_main_v22_eq _ _ _ _ _)).trans ?_,
        ((h c).2.1.trans (Cert.FfnRefIdeal.Read.val_main_v45_eq _ _ _ _ _)).trans ?_, (h c).2.2⟩
      · rw [e0, e2, e3, e4, e5]; rfl
      · rw [e1, e2, e3, e4, e5]; rfl)
      (Cert.FfnRefIdeal.Value.run (F := Ideal) m' ρ')⟩

end Cert.FfnProof

end
-- ==== Proof.SampleWordsClaim.lean ====
module

public import proofs.«01_k».proof.Defs
public import proofs.«01_k».proof.Proof.SampleWordsFrame
public import proofs.«01_k».proof.Proof.Gen.Sample

@[expose] public section

/-! The frame of the sample mixer as the kernel has it. -/

noncomputable section

namespace Cert.SampleWords

open Idealize.ShloMosaic Idealize.ShloMosaic.TcCoe Idealize.SL.Sem

/-- The kernel's frame at its own float words: the frame that holds at any words. -/
theorem frame_kernel : Cert.quiescent_Sample := fun m ρ _ => frame_any (F := Bits) m ρ

end Cert.SampleWords

end
-- ==== Proof.SampleRun.lean ====
module

public import proofs.«01_k».proof.Proof.Gen.SampleIdeal.Frame.Runs

@[expose] public section

set_option maxRecDepth 16384

/-! The run of the sample mixer's body on one block of sixteen sequences, over any float words. -/

noncomputable section

namespace Cert.SampleProof

open Cert.SampleIdeal Cert.SampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 0 in
/-- What the body's stores leave in each result's buffer, as a list of written pieces (the last first), with the proof
    that from the nineteen inputs' buffers and any contents of the six results' it runs to the inputs' as they were and
    the results' with those pieces written. -/
noncomputable def bodyRun (c : Dev nD) (i : grid0.Coords) (arg1 : Memref sig .tc .vmem S16x8x1024 .f32) (harg1 : arg1.IsWhole) (arg2 : Memref sig .tc .vmem S16x128x128 .f32) (harg2 : arg2.IsWhole) (arg3 : Memref sig .tc .vmem S16x128x128 .f32) (harg3 : arg3.IsWhole) (arg4 : Memref sig .tc .vmem S16x4x128x128 .f32) (harg4 : arg4.IsWhole) (arg5 : Memref sig .tc .vmem S16x4x128 .f32) (harg5 : arg5.IsWhole) (arg6 : Memref sig .tc .vmem S16x4x1 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1024x512 .bf16) (harg9 : arg9.IsWhole) (arg10 : Memref sig .tc .vmem S1024x2824 .bf16) (harg10 : arg10.IsWhole) (arg11 : Memref sig .tc .vmem S1024x128 .bf16) (harg11 : arg11.IsWhole) (arg12 : Memref sig .tc .vmem S1024x1024 .bf16) (harg12 : arg12.IsWhole) (arg13 : Memref sig .tc .vmem S64x128 .f32) (harg13 : arg13.IsWhole) (arg14 : Memref sig .tc .vmem S128x128 .bf16) (harg14 : arg14.IsWhole) (arg15 : Memref sig .tc .vmem S1x1024 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S4x128 .f32) (harg19 : arg19.IsWhole) (arg20 : Memref sig .tc .vmem S16x8x1024 .f32) (harg20 : arg20.IsWhole) (arg21 : Memref sig .tc .vmem S16x128x128 .f32) (harg21 : arg21.IsWhole) (arg22 : Memref sig .tc .vmem S16x128x128 .f32) (harg22 : arg22.IsWhole) (arg23 : Memref sig .tc .vmem S16x4x128x128 .f32) (harg23 : arg23.IsWhole) (arg24 : Memref sig .tc .vmem S16x4x128 .f32) (harg24 : arg24.IsWhole) (arg25 : Memref sig .tc .vmem S16x8x128 .f32) (harg25 : arg25.IsWhole)
    (x0 : Vec F S16x8x1024 .f32) (x1 : Vec F S16x128x128 .f32) (x2 : Vec F S16x128x128 .f32) (x3 : Vec F S16x4x128x128 .f32) (x4 : Vec F S16x4x128 .f32) (x5 : Vec F S16x4x1 .f32) (x6 : Vec F S128x128 .f32) (x7 : Vec F S128x128 .f32) (x8 : Vec F S1024x512 .bf16) (x9 : Vec F S1024x2824 .bf16) (x10 : Vec F S1024x128 .bf16) (x11 : Vec F S1024x1024 .bf16) (x12 : Vec F S64x128 .f32) (x13 : Vec F S128x128 .bf16) (x14 : Vec F S1x1024 .f32) (x15 : Vec F S1x128 .f32) (x16 : Vec F S1x128 .f32) (x17 : Vec F S1x128 .f32) (x18 : Vec F S4x128 .f32) :
    Σ' (L19 : List (View.Piece (Elt F) S16x8x1024 .f32)), Σ' (L20 : List (View.Piece (Elt F) S16x128x128 .f32)), Σ' (L21 : List (View.Piece (Elt F) S16x128x128 .f32)), Σ' (L22 : List (View.Piece (Elt F) S16x4x128x128 .f32)), Σ' (L23 : List (View.Piece (Elt F) S16x4x128 .f32)), { L24 : List (View.Piece (Elt F) S16x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24)) -∗ K ⟨⟩))
          ⊢ wp frame (wpE (defs₀ (F := F)) Variants.none c none) E (cc0_sample_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, fun E K => ?run⟩
  case run =>
    simp only [cc0_sample_mixer_eq_skeleton]; unfold cc0_sample_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.SampleProof

end
-- ==== Proof.SampleFrame.lean ====
module

public import Idealize.ShloMosaic.Lib.Claim
public import proofs.«01_k».proof.Proof.SampleRun

@[expose] public section

set_option maxRecDepth 16384

/-! The sample mixer's launch: what each buffer holds after the body at each of the grid's eight points, over any float
    words, and the frame. -/

noncomputable section

namespace Cert.SampleProof

open Cert.SampleIdeal Cert.SampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pieces each result's buffer is written with at a point, and that they cover it -/

/-- The pieces written of the rows of x at point `t`. -/
def pieces19 (c : Dev nD) (t : Fin cfg0.N) : List (View.Piece (Elt F) S16x8x1024 .f32) :=
  (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).1

/-- They cover it. -/
theorem covered19 (c : Dev nD) (t : Fin cfg0.N) (y : S16x8x1024.Idx) : ∃ p ∈ pieces19 m c t, y ∈ p.1.set :=
  View.cover_of_tiledL (pieces19 m c t) S16x8x1024.size (by sl_kernel_rfl) y

/-- What the point leaves of it. -/
def left19 (c : Dev nD) (t : Fin cfg0.N) : Vec F S16x8x1024 .f32 :=
  VO0_19.read (Elt F) (VO0_19.writes (Elt F) VO0_19.junk (pieces19 m c t))

/-- The pieces written of the key cache at point `t`. -/
def pieces20 (c : Dev nD) (t : Fin cfg0.N) : List (View.Piece (Elt F) S16x128x128 .f32) :=
  (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.1

/-- They cover it. -/
theorem covered20 (c : Dev nD) (t : Fin cfg0.N) (y : S16x128x128.Idx) : ∃ p ∈ pieces20 m c t, y ∈ p.1.set :=
  View.cover_of_tiledL (pieces20 m c t) S1x128x128.size (by sl_kernel_rfl) y

/-- What the point leaves of it. -/
def left20 (c : Dev nD) (t : Fin cfg0.N) : Vec F S16x128x128 .f32 :=
  VO0_20.read (Elt F) (VO0_20.writes (Elt F) VO0_20.junk (pieces20 m c t))

/-- The pieces written of the value cache at point `t`. -/
def pieces21 (c : Dev nD) (t : Fin cfg0.N) : List (View.Piece (Elt F) S16x128x128 .f32) :=
  (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.1

/-- They cover it. -/
theorem covered21 (c : Dev nD) (t : Fin cfg0.N) (y : S16x128x128.Idx) : ∃ p ∈ pieces21 m c t, y ∈ p.1.set :=
  View.cover_of_tiledL (pieces21 m c t) S1x128x128.size (by sl_kernel_rfl) y

/-- What the point leaves of it. -/
def left21 (c : Dev nD) (t : Fin cfg0.N) : Vec F S16x128x128 .f32 :=
  VO0_21.read (Elt F) (VO0_21.writes (Elt F) VO0_21.junk (pieces21 m c t))

/-- The pieces written of the matrix memory C at point `t`. -/
def pieces22 (c : Dev nD) (t : Fin cfg0.N) : List (View.Piece (Elt F) S16x4x128x128 .f32) :=
  (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.1

/-- They cover it. -/
theorem covered22 (c : Dev nD) (t : Fin cfg0.N) (y : S16x4x128x128.Idx) : ∃ p ∈ pieces22 m c t, y ∈ p.1.set :=
  View.cover_of_tiledL (pieces22 m c t) S16x1x128x128.size (by sl_kernel_rfl) y

/-- What the point leaves of it. -/
def left22 (c : Dev nD) (t : Fin cfg0.N) : Vec F S16x4x128x128 .f32 :=
  VO0_22.read (Elt F) (VO0_22.writes (Elt F) VO0_22.junk (pieces22 m c t))

/-- The pieces written of the normaliser n at point `t`. -/
def pieces23 (c : Dev nD) (t : Fin cfg0.N) : List (View.Piece (Elt F) S16x4x128 .f32) :=
  (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.1

/-- They cover it. -/
theorem covered23 (c : Dev nD) (t : Fin cfg0.N) (y : S16x4x128.Idx) : ∃ p ∈ pieces23 m c t, y ∈ p.1.set :=
  View.cover_of_tiledL (pieces23 m c t) S16x1x128.size (by sl_kernel_rfl) y

/-- What the point leaves of it. -/
def left23 (c : Dev nD) (t : Fin cfg0.N) : Vec F S16x4x128 .f32 :=
  VO0_23.read (Elt F) (VO0_23.writes (Elt F) VO0_23.junk (pieces23 m c t))

/-- The pieces written of the stabiliser m at point `t`. -/
def pieces24 (c : Dev nD) (t : Fin cfg0.N) : List (View.Piece (Elt F) S16x8x128 .f32) :=
  (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.1

/-- They cover it. -/
theorem covered24 (c : Dev nD) (t : Fin cfg0.N) (y : S16x8x128.Idx) : ∃ p ∈ pieces24 m c t, y ∈ p.1.set :=
  View.cover_of_tiledBy (pieces24 m c t) ![16, 1, 128] (by sl_kernel_rfl) y

/-- What the point leaves of it. -/
def left24 (c : Dev nD) (t : Fin cfg0.N) : Vec F S16x8x128 .f32 :=
  VO0_24.read (Elt F) (VO0_24.writes (Elt F) VO0_24.junk (pieces24 m c t))

/-! ## The proof data -/

/-- After the body each input's buffer holds its block and each result's what the point leaves of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => left19 m c t
    | ⟨20, _⟩ => left20 m c t
    | ⟨21, _⟩ => left21 m c t
    | ⟨22, _⟩ => left22 m c t
    | ⟨23, _⟩ => left23 m c t
    | ⟨24, _⟩ => left24 m c t
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = left19 m c t := by dsimp only [dats]
theorem after_20 (c : Dev nD) (t : Fin cfg0.N) : (dats m 0 c).after 20 t = left20 m c t := by dsimp only [dats]
theorem after_21 (c : Dev nD) (t : Fin cfg0.N) : (dats m 0 c).after 21 t = left21 m c t := by dsimp only [dats]
theorem after_22 (c : Dev nD) (t : Fin cfg0.N) : (dats m 0 c).after 22 t = left22 m c t := by dsimp only [dats]
theorem after_23 (c : Dev nD) (t : Fin cfg0.N) : (dats m 0 c).after 23 t = left23 m c t := by dsimp only [dats]
theorem after_24 (c : Dev nD) (t : Fin cfg0.N) : (dats m 0 c).after 24 t = left24 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24]
  unfold left19 left20 left21 left22 left23 left24
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((bodyRun c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (covered19 m c t)
  isplitl [H20]
  · unfold owns; iexists _; isplitr
    swap; · iexact H20
    ipureintro; exact View.read_writes_of_cover _ _ _ _ _ (covered20 m c t)
  isplitl [H21]
  · unfold owns; iexists _; isplitr
    swap; · iexact H21
    ipureintro; exact View.read_writes_of_cover _ _ _ _ _ (covered21 m c t)
  isplitl [H22]
  · unfold owns; iexists _; isplitr
    swap; · iexact H22
    ipureintro; exact View.read_writes_of_cover _ _ _ _ _ (covered22 m c t)
  isplitl [H23]
  · unfold owns; iexists _; isplitr
    swap; · iexact H23
    ipureintro; exact View.read_writes_of_cover _ _ _ _ _ (covered23 m c t)
  unfold owns; iexists _; isplitr
  swap; · iexact H24
  ipureintro; exact View.read_writes_of_cover _ _ _ _ _ (covered24 m c t)

/-- The body table's row at a point's slots is the body. -/
theorem row_eq (t : Fin cfg0.N) :
    defs₀ (F := F) .tc cfg0.body (cfg0.bodyArgs t (cfg0.slots t)) = bodyAt0 t := by
  unfold defs₀; rw [Defs.onTc_tc]

set_option maxHeartbeats 8000000 in
/-- The pipeline's body obligation, at every point. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run and the frame -/

set_option backward.isDefEq.respectTransparency.types false in
set_option maxHeartbeats 800000 in
/-- Every execution ends with the arrays as the pipeline's write-backs leave them, the rest as the lines after the region
    leave it, and every semaphore counter at zero. -/
theorem run_counters : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_counters m ρ)

/-- The frame: every argument array ends as launched, every semaphore counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run m ρ)) ((θ_run defs _ _).mono (fun _ h => h.2) (run_counters m ρ))

end Cert.SampleProof

end
-- ==== Proof.SampleSpec.lean ====
module

public import proofs.«01_k».proof.Proof.FfnRow

@[expose] public section

/-! What the layer's mixer leaves behind for the next tokens of a sequence, for one head, as formulas over the extended reals:
    the running sums of the forget gates, the stabiliser, the matrix memory and its normaliser. -/

noncomputable section

namespace Cert.SampleProof

open Idealize.ShloMosaic
open scoped BigOperators

/-- A token's projection on column `c`: its normalised row times the weight's column. -/
def proj (x w : Fin 1024 → EReal) (W : Fin 1024 → Fin 2824 → EReal) (c : Fin 2824) : EReal :=
  ∑ k : Fin 1024, Cert.FfnProof.normRow x w k * W k c

/-- The logarithm of the sigmoid, by the softplus of the negated argument. -/
def logSig (y : EReal) : EReal :=
  -(max (-y) 0 + Ideal.log1p (Ideal.exp (-(max (-y) y))))

/-- The sum of the forget gates' logarithms up to token `t`. -/
def runSum (lf : Fin 4 → EReal) (t : Fin 4) : EReal := ∑ s : Fin 4, if s ≤ t then lf s else 0

/-- Token `s`'s log weight in the memory after the last token. -/
def logWeight (ig lf : Fin 4 → EReal) (s : Fin 4) : EReal := runSum lf 3 - runSum lf s + ig s

/-- The stabiliser after the last token: the largest of the log weights and the old stabiliser's. -/
def mNew (ig lf : Fin 4 → EReal) (m0 : EReal) : EReal :=
  max (max (max (max (runSum lf 3 + m0) (logWeight ig lf 0)) (logWeight ig lf 1)) (logWeight ig lf 2)) (logWeight ig lf 3)

/-- The old memory's weight after the last token. -/
def oldWeight (ig lf : Fin 4 → EReal) (m0 : EReal) : EReal := Ideal.exp (runSum lf 3 + m0 - mNew ig lf m0)

/-- Token `s`'s weight after the last token. -/
def tokWeight (ig lf : Fin 4 → EReal) (m0 : EReal) (s : Fin 4) : EReal := Ideal.exp (logWeight ig lf s - mNew ig lf m0)

/-- An element of the matrix memory after the last token, from the old one, the keys and the values. -/
def cNew (ig lf : Fin 4 → EReal) (m0 c0 : EReal) (k v : Fin 4 → EReal) : EReal :=
  oldWeight ig lf m0 * c0 + ∑ s : Fin 4, tokWeight ig lf m0 s * k s * v s

/-- An element of the normaliser after the last token, from the old one and the keys. -/
def nNew (ig lf : Fin 4 → EReal) (m0 n0 : EReal) (k : Fin 4 → EReal) : EReal :=
  oldWeight ig lf m0 * n0 + ∑ s : Fin 4, tokWeight ig lf m0 s * k s

end Cert.SampleProof

end
-- ==== Proof.SampleGate.lean ====
module

public import proofs.«01_k».proof.Proof.Gen.SampleIdeal.Skeleton
public import proofs.«01_k».proof.Proof.SampleSpec
public import Idealize.ShloMosaic.Lib.Pointwise

@[expose] public section

set_option maxRecDepth 16384

/-! The gates of one head of sixteen sequences, as the body computes them on eight rows of which four are tokens, over the
    reals: the running sums of the forget gates, the stabiliser, and the weights of the old memory and of each row. -/

noncomputable section

namespace Cert.SampleProof

open Cert.SampleIdeal Cert.SampleIdeal.Gen Idealize.ShloMosaic Idealize.ShloMosaic.TcCoe
open scoped BigOperators

/-- Each row's number. -/
def rowNo : IVec S16x8x1 32 := iota .tc S16x8x1 32 [1] iota_S16x8x1_d1_w32

/-- Whether a row is at or after row `k`. -/
def since (k : BitVec 32) : IVec S16x8x1 1 := cmpi .sge rowNo (broadcast S16x8x1 k)

/-- Row 0, 1, 2, 3 of a column of rows. -/
def row0 (v : FVec Ideal S16x8x1 .f32) : FVec Ideal S16x1x1 .f32 := extractStridedSlice S16x1x1 ![0, 0, 0] v slices_S16x8x1_o0_0_0_S16x1x1
def row1 (v : FVec Ideal S16x8x1 .f32) : FVec Ideal S16x1x1 .f32 := extractStridedSlice S16x1x1 ![0, 1, 0] v slices_S16x8x1_o0_1_0_S16x1x1
def row2 (v : FVec Ideal S16x8x1 .f32) : FVec Ideal S16x1x1 .f32 := extractStridedSlice S16x1x1 ![0, 2, 0] v slices_S16x8x1_o0_2_0_S16x1x1
def row3 (v : FVec Ideal S16x8x1 .f32) : FVec Ideal S16x1x1 .f32 := extractStridedSlice S16x1x1 ![0, 3, 0] v slices_S16x8x1_o0_3_0_S16x1x1

/-- A row's value on every row. -/
def onAll (r : FVec Ideal S16x1x1 .f32) : FVec Ideal S16x8x1 .f32 := broadcastTo S16x8x1 r broadcasts_S16x1x1_S16x8x1

/-- What token `k` adds to the running sums. -/
def added (k : BitVec 32) (r : FVec Ideal S16x1x1 .f32) : FVec Ideal S16x8x1 .f32 :=
  select (since k) (onAll (shapeCast S16x1x1 r shapeCasts_S16x1x1_S16x1x1)) (broadcast S16x8x1 (Scalar.ofBits (F := Ideal) .f32 0x00000000#32))

/-- The running sums of the forget gates. -/
def runV (lf : FVec Ideal S16x8x1 .f32) : FVec Ideal S16x8x1 .f32 :=
  addf (addf (addf (addf (broadcast S16x8x1 (Scalar.ofBits (F := Ideal) .f32 0x00000000#32)) (added 0#32 (row0 lf))) (added 1#32 (row1 lf)))
    (added 2#32 (row2 lf))) (added 3#32 (row3 lf))

/-- Token `k`'s log weight at every row, `b` its running sum and `i` its input gate. -/
def dV (k : BitVec 32) (lf : FVec Ideal S16x8x1 .f32) (b i : FVec Ideal S16x1x1 .f32) : FVec Ideal S16x8x1 .f32 :=
  select (since k) (addf (subf (runV lf) (onAll b)) (onAll i)) (broadcast S16x8x1 (Named.named (F := Ideal) (φ := .f32) κ "mask" 0xF149F2CA#32))

/-- The stabiliser at every row. -/
def stabV (ig lf : FVec Ideal S16x8x1 .f32) (m0 : FVec Ideal S16x1x1 .f32) : FVec Ideal S16x8x1 .f32 :=
  maximumf (maximumf (maximumf (maximumf (addf (runV lf) (onAll m0)) (dV 0#32 lf (row0 (runV lf)) (row0 ig)))
    (dV 1#32 lf (row1 (runV lf)) (row1 ig))) (dV 2#32 lf (row2 (runV lf)) (row2 ig))) (dV 3#32 lf (row3 (runV lf)) (row3 ig))

/-- The stabiliser after the last token. -/
def mV (ig lf : FVec Ideal S16x8x1 .f32) (m0 : FVec Ideal S16x1x1 .f32) : FVec Ideal S16x1x1 .f32 := row3 (stabV ig lf m0)

/-- The old memory's weight. -/
def oldV (ig lf : FVec Ideal S16x8x1 .f32) (m0 : FVec Ideal S16x1x1 .f32) : FVec Ideal S16x1x1 .f32 :=
  exp (subf (addf (row3 (runV lf)) m0) (mV ig lf m0))

/-- Each row's weight. -/
def tokV (ig lf : FVec Ideal S16x8x1 .f32) (m0 : FVec Ideal S16x1x1 .f32) : FVec Ideal S16x8x1 .f32 :=
  exp (subf (addf (subf (onAll (row3 (runV lf))) (runV lf)) ig) (onAll (mV ig lf m0)))

/-! ## Read at an index -/

theorem row0_at (v : FVec Ideal S16x8x1 .f32) (n : Fin 16) : row0 v (ix3 n 0 0) = v (ix3 n 0 0) := by pointwise [row0]
theorem row1_at (v : FVec Ideal S16x8x1 .f32) (n : Fin 16) : row1 v (ix3 n 0 0) = v (ix3 n 1 0) := by pointwise [row1]
theorem row2_at (v : FVec Ideal S16x8x1 .f32) (n : Fin 16) : row2 v (ix3 n 0 0) = v (ix3 n 2 0) := by pointwise [row2]
theorem row3_at (v : FVec Ideal S16x8x1 .f32) (n : Fin 16) : row3 v (ix3 n 0 0) = v (ix3 n 3 0) := by pointwise [row3]

theorem onAll_at (r : FVec Ideal S16x1x1 .f32) (n : Fin 16) (t : Fin 8) : onAll r (ix3 n t 0) = r (ix3 n 0 0) := by pointwise [onAll]

theorem cast_same (r : FVec Ideal S16x1x1 .f32) : shapeCast S16x1x1 r shapeCasts_S16x1x1_S16x1x1 = r := by
  funext y; pointwise []

/-- Whether row `t` is at or after row `k`. -/
theorem since_at (k : Fin 4) (n : Fin 16) (t : Fin 8) :
    since (BitVec.ofNat 32 k.val) (ix3 n t 0) = (if k.val ≤ t.val then 1#1 else 0#1) := by
  have e : since (BitVec.ofNat 32 k.val) (ix3 n t 0)
      = IntOp.cmpi .sge (BitVec.ofNat 32 t.val) (BitVec.ofNat 32 k.val) := by pointwise [since, rowNo]
  rw [e]
  clear e
  revert k t; decide

/-- Token `t`'s row. -/
def tokRow (t : Fin 4) : Fin 8 := ⟨t.val, by omega⟩

theorem added_at (k : Fin 4) (r : FVec Ideal S16x1x1 .f32) (n : Fin 16) (t : Fin 8) :
    added (BitVec.ofNat 32 k.val) r (ix3 n t 0) = if k.val ≤ t.val then r (ix3 n 0 0) else 0 := by
  have e : added (BitVec.ofNat 32 k.val) r (ix3 n t 0) = Scalar.select (since (BitVec.ofNat 32 k.val) (ix3 n t 0)) (onAll r (ix3 n t 0)) (0 : EReal) := by
    unfold added; rw [cast_same]; pointwise [Ideal.ofBits_zero_f32]
  rw [e, since_at, onAll_at]
  by_cases h : k.val ≤ t.val <;> simp [h, Scalar.select]

theorem runV_at (lf : FVec Ideal S16x8x1 .f32) (n : Fin 16) (t : Fin 4) :
    runV lf (ix3 n (tokRow t) 0) = runSum (fun s => lf (ix3 n (tokRow s) 0)) t := by
  have h (k : Fin 4) (r : FVec Ideal S16x1x1 .f32) := added_at k r n (tokRow t)
  have e : runV lf (ix3 n (tokRow t) 0) = 0 + added 0#32 (row0 lf) (ix3 n (tokRow t) 0) + added 1#32 (row1 lf) (ix3 n (tokRow t) 0)
      + added 2#32 (row2 lf) (ix3 n (tokRow t) 0) + added 3#32 (row3 lf) (ix3 n (tokRow t) 0) := by
    pointwise [runV]
  rw [e, show (0#32 : BitVec 32) = BitVec.ofNat 32 (0 : Fin 4).val from rfl, show (1#32 : BitVec 32) = BitVec.ofNat 32 (1 : Fin 4).val from rfl,
    show (2#32 : BitVec 32) = BitVec.ofNat 32 (2 : Fin 4).val from rfl, show (3#32 : BitVec 32) = BitVec.ofNat 32 (3 : Fin 4).val from rfl,
    h, h, h, h, row0_at, row1_at, row2_at, row3_at]
  unfold runSum
  rw [Fin.sum_univ_four, zero_add]
  rfl

theorem mask_bot : Named.named (F := Ideal) (φ := .f32) κ "mask" 0xF149F2CA#32 = (⊥ : EReal) := rfl

/-- A token's log weight in the memory after the last token. -/
theorem dV_last (k : Fin 4) (lf : FVec Ideal S16x8x1 .f32) (b i : FVec Ideal S16x1x1 .f32) (n : Fin 16) :
    dV (BitVec.ofNat 32 k.val) lf b i (ix3 n 3 0) = runV lf (ix3 n 3 0) - b (ix3 n 0 0) + i (ix3 n 0 0) := by
  have e : dV (BitVec.ofNat 32 k.val) lf b i (ix3 n 3 0)
      = Scalar.select (since (BitVec.ofNat 32 k.val) (ix3 n 3 0)) (runV lf (ix3 n 3 0) - onAll b (ix3 n 3 0) + onAll i (ix3 n 3 0))
        (Named.named (F := Ideal) (φ := .f32) κ "mask" 0xF149F2CA#32) := by
    pointwise [dV]
  rw [e, since_at, onAll_at, onAll_at, if_pos (by show k.val ≤ 3; omega)]
  rfl

theorem mV_at (ig lf : FVec Ideal S16x8x1 .f32) (m0 : FVec Ideal S16x1x1 .f32) (n : Fin 16) :
    mV ig lf m0 (ix3 n 0 0) = mNew (fun s => ig (ix3 n (tokRow s) 0)) (fun s => lf (ix3 n (tokRow s) 0)) (m0 (ix3 n 0 0)) := by
  have d (k : Fin 4) (b i : FVec Ideal S16x1x1 .f32) := dV_last k lf b i n
  have r (t : Fin 4) := runV_at lf n t
  have e : mV ig lf m0 (ix3 n 0 0) = max (max (max (max (runV lf (ix3 n 3 0) + onAll m0 (ix3 n 3 0))
      (dV 0#32 lf (row0 (runV lf)) (row0 ig) (ix3 n 3 0))) (dV 1#32 lf (row1 (runV lf)) (row1 ig) (ix3 n 3 0)))
      (dV 2#32 lf (row2 (runV lf)) (row2 ig) (ix3 n 3 0))) (dV 3#32 lf (row3 (runV lf)) (row3 ig) (ix3 n 3 0)) := by
    unfold mV; rw [row3_at]; pointwise [stabV]
  rw [e, show (0#32 : BitVec 32) = BitVec.ofNat 32 (0 : Fin 4).val from rfl, show (1#32 : BitVec 32) = BitVec.ofNat 32 (1 : Fin 4).val from rfl,
    show (2#32 : BitVec 32) = BitVec.ofNat 32 (2 : Fin 4).val from rfl, show (3#32 : BitVec 32) = BitVec.ofNat 32 (3 : Fin 4).val from rfl,
    d, d, d, d, onAll_at, row0_at, row0_at, row1_at, row1_at, row2_at, row2_at, row3_at, row3_at]
  unfold mNew logWeight
  rw [← r 0, ← r 1, ← r 2, ← r 3]
  rfl

theorem oldV_at (ig lf : FVec Ideal S16x8x1 .f32) (m0 : FVec Ideal S16x1x1 .f32) (n : Fin 16) :
    oldV ig lf m0 (ix3 n 0 0)
      = oldWeight (fun s => ig (ix3 n (tokRow s) 0)) (fun s => lf (ix3 n (tokRow s) 0)) (m0 (ix3 n 0 0)) := by
  have e : oldV ig lf m0 (ix3 n 0 0) = Ideal.exp (row3 (runV lf) (ix3 n 0 0) + m0 (ix3 n 0 0) - mV ig lf m0 (ix3 n 0 0)) := by
    pointwise [oldV]
  rw [e, row3_at, mV_at]
  unfold oldWeight
  rw [← runV_at lf n 3]
  rfl

theorem tokV_eq (ig lf : FVec Ideal S16x8x1 .f32) (m0 : FVec Ideal S16x1x1 .f32) (n : Fin 16) (t : Fin 8) :
    tokV ig lf m0 (ix3 n t 0)
      = Ideal.exp (runV lf (ix3 n 3 0) - runV lf (ix3 n t 0) + ig (ix3 n t 0) - mV ig lf m0 (ix3 n 0 0)) := by
  have e : tokV ig lf m0 (ix3 n t 0) = Ideal.exp (onAll (row3 (runV lf)) (ix3 n t 0) - runV lf (ix3 n t 0) + ig (ix3 n t 0)
      - onAll (mV ig lf m0) (ix3 n t 0)) := by
    pointwise [tokV]
  rw [e, onAll_at, onAll_at, row3_at]

/-- A token's weight. -/
theorem tokV_token (ig lf : FVec Ideal S16x8x1 .f32) (m0 : FVec Ideal S16x1x1 .f32) (n : Fin 16) (t : Fin 4) :
    tokV ig lf m0 (ix3 n (tokRow t) 0)
      = tokWeight (fun s => ig (ix3 n (tokRow s) 0)) (fun s => lf (ix3 n (tokRow s) 0)) (m0 (ix3 n 0 0)) t := by
  rw [tokV_eq, mV_at]
  unfold tokWeight logWeight
  rw [← runV_at lf n 3, ← runV_at lf n t]
  rfl

/-- A row that is no token, its input gate masked, has no weight. -/
theorem tokV_pad (ig lf : FVec Ideal S16x8x1 .f32) (m0 : FVec Ideal S16x1x1 .f32) (n : Fin 16) (t : Fin 8)
    (h : ig (ix3 n t 0) = (⊥ : EReal)) : tokV ig lf m0 (ix3 n t 0) = 0 := by
  rw [tokV_eq, h, EReal.add_bot, sub_eq_add_neg, EReal.bot_add]
  simp

end Cert.SampleProof

end
-- ==== Proof.SampleStore.lean ====
module

public import proofs.«01_k».proof.Proof.SampleGate

@[expose] public section

set_option maxRecDepth 16384

/-! What the sample mixer's body stores of the memories, from the projected rows of sixteen sequences: each store read at an
    index, and the four heads' texts brought to one. -/

noncomputable section

namespace Cert.SampleProof

open Cert.SampleIdeal Cert.SampleIdeal.Gen Idealize.ShloMosaic Idealize.ShloMosaic.TcCoe
open scoped BigOperators

/-! ## The gates -/

/-- Sequence `n`'s row `t` among the 128 rows of a block. -/
def rowOf (n : Fin 16) (t : Fin 8) : Fin 128 := ⟨n.val * 8 + t.val, by omega⟩

/-- The gates' preactivations. -/
theorem gates_at (z : FVec Ideal S128x2944 .f32) (gb : FVec Ideal S1x128 .f32) (n : Fin 16) (t : Fin 8) (g : Fin 128) :
    k0_pay92 (F := Ideal) z gb (ix3 n t g) = z (ix2 (rowOf n t) ⟨2816 + g.val, by omega⟩) + gb (ix2 0 g) := by
  pointwise [k0_pay92, rowOf]

/-- The logarithms of the forget gates, lane by lane. -/
def logs (z : FVec Ideal S128x2944 .f32) (gb : FVec Ideal S1x128 .f32) : FVec Ideal S16x8x128 .f32 :=
  k0_pay99 (k0_pay94 z gb) (k0_pay96 z gb) (k0_pay97 z gb) (k0_pay98 z gb)

theorem logs_at (z : FVec Ideal S128x2944 .f32) (gb : FVec Ideal S1x128 .f32) (n : Fin 16) (t : Fin 8) (g : Fin 128) :
    logs z gb (ix3 n t g) = logSig (k0_pay92 (F := Ideal) z gb (ix3 n t g)) := by
  generalize hy : k0_pay92 (F := Ideal) z gb (ix3 n t g) = y
  have e93 : k0_pay93 (F := Ideal) z gb (ix3 n t g) = -y := by
    rw [← hy]; pointwise [k0_pay93, Ideal.ofBits_zero_f32]; exact zero_sub _
  have e95 : k0_pay95 (F := Ideal) z gb (ix3 n t g) = -y := by
    rw [← e93]; pointwise [k0_pay95, Ideal.ofBits_zero_f32]
  have e94 : k0_pay94 (F := Ideal) z gb (ix3 n t g) = max (-y) 0 := by
    rw [← e93]; pointwise [k0_pay94, Ideal.ofBits_zero_f32]
  have e98 : k0_pay98 (F := Ideal) z gb (ix3 n t g) = Ideal.log1p (Ideal.exp (-(max (-y) (- -y)))) := by
    rw [← e95]; pointwise [k0_pay98, Ideal.ofBits_zero_f32]; rw [zero_sub]; rfl
  have e96 : k0_pay96 (F := Ideal) z gb (ix3 n t g) = 0#1 := by
    pointwise [k0_pay96]; simp
  have e : logs z gb (ix3 n t g) = -(Scalar.select (k0_pay96 (F := Ideal) z gb (ix3 n t g)) (k0_pay97 (F := Ideal) z gb (ix3 n t g))
      (k0_pay94 (F := Ideal) z gb (ix3 n t g) + k0_pay98 (F := Ideal) z gb (ix3 n t g))) := by
    pointwise [logs, k0_pay99, Ideal.ofBits_zero_f32]; exact zero_sub _
  rw [e, e96, e94, e98, neg_neg]
  rfl

/-- A row is a token when it is among the first four. -/
theorem token_at (n : Fin 16) (t : Fin 8) : k0_pay100 (ix3 n t 0) = if t.val < 4 then 1#1 else 0#1 := by
  have e : k0_pay100 (ix3 n t 0) = IntOp.cmpi .slt (BitVec.ofNat 32 t.val) 4#32 := by pointwise [k0_pay100]
  rw [e]
  clear e
  revert t; decide

theorem ig0_at (g : FVec Ideal S16x8x128 .f32) (n : Fin 16) (t : Fin 8) :
    k0_pay103 (F := Ideal) g (ix3 n t 0) = Scalar.select (k0_pay100 (ix3 n t 0)) (g (ix3 n t 0)) (⊥ : EReal) := by
  rw [← mask_bot]; pointwise [k0_pay103]
theorem ig1_at (g : FVec Ideal S16x8x128 .f32) (n : Fin 16) (t : Fin 8) :
    k0_pay125 (F := Ideal) g k0_pay100 (ix3 n t 0) = Scalar.select (k0_pay100 (ix3 n t 0)) (g (ix3 n t 1)) (⊥ : EReal) := by
  rw [← mask_bot]; pointwise [k0_pay125]
theorem ig2_at (g : FVec Ideal S16x8x128 .f32) (n : Fin 16) (t : Fin 8) :
    k0_pay147 (F := Ideal) g k0_pay100 (ix3 n t 0) = Scalar.select (k0_pay100 (ix3 n t 0)) (g (ix3 n t 2)) (⊥ : EReal) := by
  rw [← mask_bot]; pointwise [k0_pay147]
theorem ig3_at (g : FVec Ideal S16x8x128 .f32) (n : Fin 16) (t : Fin 8) :
    k0_pay170 (F := Ideal) g k0_pay100 (ix3 n t 0) = Scalar.select (k0_pay100 (ix3 n t 0)) (g (ix3 n t 3)) (⊥ : EReal) := by
  rw [← mask_bot]; pointwise [k0_pay170]

theorem lf0_at (z : FVec Ideal S128x2944 .f32) (gb : FVec Ideal S1x128 .f32) (n : Fin 16) (t : Fin 8) :
    k0_pay104 (F := Ideal) (k0_pay94 z gb) (k0_pay96 z gb) (k0_pay97 z gb) (k0_pay98 z gb) (ix3 n t 0)
      = Scalar.select (k0_pay100 (ix3 n t 0)) (logs z gb (ix3 n t 8)) (0 : EReal) := by
  unfold logs; pointwise [k0_pay104, Ideal.ofBits_zero_f32]
theorem lf1_at (l : FVec Ideal S16x8x128 .f32) (n : Fin 16) (t : Fin 8) :
    k0_pay126 (F := Ideal) l k0_pay100 (ix3 n t 0) = Scalar.select (k0_pay100 (ix3 n t 0)) (l (ix3 n t 9)) (0 : EReal) := by
  pointwise [k0_pay126, Ideal.ofBits_zero_f32]
theorem lf2_at (l : FVec Ideal S16x8x128 .f32) (n : Fin 16) (t : Fin 8) :
    k0_pay148 (F := Ideal) l k0_pay100 (ix3 n t 0) = Scalar.select (k0_pay100 (ix3 n t 0)) (l (ix3 n t 10)) (0 : EReal) := by
  pointwise [k0_pay148, Ideal.ofBits_zero_f32]
theorem lf3_at (l : FVec Ideal S16x8x128 .f32) (n : Fin 16) (t : Fin 8) :
    k0_pay171 (F := Ideal) l k0_pay100 (ix3 n t 0) = Scalar.select (k0_pay100 (ix3 n t 0)) (l (ix3 n t 11)) (0 : EReal) := by
  pointwise [k0_pay171, Ideal.ofBits_zero_f32]

theorem select_token (n : Fin 16) (s : Fin 4) (a b : EReal) : Scalar.select (k0_pay100 (ix3 n (tokRow s) 0)) a b = a := by
  rw [token_at, if_pos (show (tokRow s).val < 4 from s.isLt)]; rfl
theorem select_pad (n : Fin 16) (t : Fin 8) (h : ¬ t.val < 4) (a b : EReal) : Scalar.select (k0_pay100 (ix3 n t 0)) a b = b := by
  rw [token_at, if_neg h]; rfl

/-! ## The four heads' texts -/

section Heads

variable (lf0 lf1 : FVec Ideal S16x8x128 .f32) (lf2 : IVec S16x8x128 1) (lf3 lf4 l : FVec Ideal S16x8x128 .f32)
  (lf ig : FVec Ideal S16x8x1 .f32) (tk : IVec S16x8x1 1) (m0 : FVec Ideal S16x1x1 .f32)

theorem run_0 : k0_pay107 (F := Ideal) rowNo (k0_pay104 lf0 lf2 lf3 lf4) (k0_pay105 lf0 lf2 lf3 lf4) (k0_pay106 lf0 lf2 lf3 lf4)
    = runV (k0_pay104 (F := Ideal) lf0 lf2 lf3 lf4) := rfl
theorem run_1 : k0_pay129 (F := Ideal) rowNo (k0_pay126 l tk) (k0_pay127 l rowNo tk) (k0_pay128 l rowNo tk)
    = runV (k0_pay126 (F := Ideal) l tk) := rfl
theorem run_2 : k0_pay151 (F := Ideal) rowNo (k0_pay148 l tk) k0_pay149 (k0_pay150 l rowNo tk)
    = runV (k0_pay148 (F := Ideal) l tk) := rfl
theorem run_3 : k0_pay172 (F := Ideal) rowNo lf (Scalar.ofBits .f32 0x00000000#32) = runV lf := rfl

end Heads

/-! ## The stores -/

/-- A head's new matrix memory. -/
theorem cStore_at (a : FVec Ideal S16x1x1 .f32) (w : FVec Ideal S16x8x1 .f32) (k v : FVec Ideal S16x8x128 .f32)
    (c0 : FVec Ideal S16x1x128x128 .f32) (n : Fin 16) (d e : Fin 128) :
    k0_pay248 (F := Ideal) a w k v c0 (ix4 n 0 d e)
      = a (ix3 n 0 0) * c0 (ix4 n 0 d e) + ∑ t : Fin 8, k (ix3 n t d) * w (ix3 n t 0) * v (ix3 n t e) := by
  pointwise [k0_pay248, k0_pay247]

/-- A head's new normaliser. -/
theorem nStore_at (a : FVec Ideal S16x1x1 .f32) (w : FVec Ideal S16x8x1 .f32) (k : FVec Ideal S16x8x128 .f32)
    (n0 : FVec Ideal S16x1x128 .f32) (n : Fin 16) (d : Fin 128) :
    k0_pay253 (F := Ideal) a w k n0 (ix3 n 0 d)
      = a (ix3 n 0 0) * n0 (ix3 n 0 d) + ∑ t : Fin 8, k (ix3 n t d) * w (ix3 n t 0) := by
  pointwise [k0_pay253, k0_pay251, Ideal.ofBits_zero_f32]

/-- A head's new stabiliser. -/
theorem mStore_at (r : FVec Ideal S16x1x1 .f32) (n : Fin 16) (l : Fin 128) : k0_pay246 (F := Ideal) r (ix3 n 0 l) = r (ix3 n 0 0) := by
  pointwise [k0_pay246]

/-- A sum over the eight rows in which the last four add nothing is one over the tokens. -/
theorem sum_tokens (f : Fin 8 → EReal) (h : ∀ t : Fin 8, ¬ t.val < 4 → f t = 0) : ∑ t, f t = ∑ s : Fin 4, f (tokRow s) := by
  rw [Fin.sum_univ_eight, Fin.sum_univ_four, h 4 (by decide), h 5 (by decide), h 6 (by decide), h 7 (by decide)]
  simp only [add_zero]
  rfl

end Cert.SampleProof

end
-- ==== Proof.SampleBlock.lean ====
module

public import proofs.«01_k».proof.Proof.SampleStore

@[expose] public section

set_option maxRecDepth 16384

/-! What the sample mixer's body computes of one block of sixteen sequences, element by element: the projections, the
    gates, and the new memory of each head. -/

noncomputable section

namespace Cert.SampleProof

open Cert.SampleIdeal Cert.SampleIdeal.Gen
open Idealize.ShloMosaic Idealize.ShloMosaic.Tactic Idealize.ShloMosaic.TcCoe
open scoped BigOperators

/-! ## The projections -/

variable (X : Vec Ideal S16x8x1024 .f32) (W : Vec Ideal S1x1024 .f32) (A : Vec Ideal S1024x512 .bf16)
  (B : Vec Ideal S1024x2304 .bf16) (G : Vec Ideal S1024x128 .bf16)

/-- A column of the middle part of the projections. -/
theorem z_mid (n : Fin 16) (t : Fin 8) (c : Fin 2304) :
    k0_pay2 (F := Ideal) X W A B G (ix2 (rowOf n t) ⟨512 + c.val, by omega⟩)
      = ∑ k : Fin 1024, Cert.FfnProof.normRow (fun i => X (ix3 n t i)) (fun i => W (ix2 0 i)) k * B (ix2 k c) := by
  pointwise [k0_pay2, rowOf, Cert.FfnProof.normRow]

/-- A lane of the gates' part of the projections. -/
theorem z_gate (n : Fin 16) (t : Fin 8) (g : Fin 128) :
    k0_pay2 (F := Ideal) X W A B G (ix2 (rowOf n t) ⟨2816 + g.val, by omega⟩)
      = ∑ k : Fin 1024, Cert.FfnProof.normRow (fun i => X (ix3 n t i)) (fun i => W (ix2 0 i)) k * G (ix2 k g) := by
  pointwise [k0_pay2, rowOf, Cert.FfnProof.normRow]
  have hg : (⟨2816 + g.val - 512 - 2304, by omega⟩ : Fin 128) = g := Fin.ext (show 2816 + g.val - 512 - 2304 = g.val by omega)
  rw [dif_neg (by omega), dif_neg (by omega)]
  simp only [hg]

/-! ## The gates, keys and values of a head -/

variable (z : FVec Ideal S128x2944 .f32) (gb : FVec Ideal S1x128 .f32)

/-- The preactivation of gate `g` at token `s` of sequence `n`. -/
def gate (n : Fin 16) (g : Fin 128) (s : Fin 4) : EReal :=
  z (ix2 (rowOf n (tokRow s)) ⟨2816 + g.val, by omega⟩) + gb (ix2 0 g)

/-- The lanes of a head's input and forget gates. -/
def igLane (h : Fin 4) : Fin 128 := ⟨h.val, by omega⟩
def fgLane (h : Fin 4) : Fin 128 := ⟨8 + h.val, by omega⟩

/-- A head's key and value at a token. -/
def key (n : Fin 16) (h : Fin 4) (d : Fin 128) (s : Fin 4) : EReal :=
  z (ix2 (rowOf n (tokRow s)) ⟨1280 + h.val * 128 + d.val, by omega⟩) * Ideal.ofBits .f32 0x3DB504F3#32
def value (n : Fin 16) (h : Fin 4) (e : Fin 128) (s : Fin 4) : EReal :=
  z (ix2 (rowOf n (tokRow s)) ⟨1792 + h.val * 128 + e.val, by omega⟩)

/-- A head's input gates, forget gates, keys and values as the body forms them, eight rows for each sequence. -/
def igV : Fin 4 → FVec Ideal S16x8x1 .f32
  | 0 => k0_pay103 (k0_pay92 z gb)
  | 1 => k0_pay125 (k0_pay92 z gb) k0_pay100
  | 2 => k0_pay147 (k0_pay92 z gb) k0_pay100
  | 3 => k0_pay170 (k0_pay92 z gb) k0_pay100
def lfV : Fin 4 → FVec Ideal S16x8x1 .f32
  | 0 => k0_pay104 (k0_pay94 z gb) (k0_pay96 z gb) (k0_pay97 z gb) (k0_pay98 z gb)
  | 1 => k0_pay126 (logs z gb) k0_pay100
  | 2 => k0_pay148 (logs z gb) k0_pay100
  | 3 => k0_pay171 (logs z gb) k0_pay100
def keyV : Fin 4 → FVec Ideal S16x8x128 .f32
  | 0 => k0_pay193 (k0_pay192 z)
  | 1 => k0_pay197 z
  | 2 => k0_pay201 z
  | 3 => k0_pay205 z
def valV : Fin 4 → FVec Ideal S16x8x128 .f32
  | 0 => k0_pay194 z
  | 1 => k0_pay198 z
  | 2 => k0_pay202 z
  | 3 => k0_pay206 z

theorem igV_token (h : Fin 4) (n : Fin 16) (s : Fin 4) : igV z gb h (ix3 n (tokRow s) 0) = gate z gb n (igLane h) s :=
  match h with
  | 0 => (ig0_at _ n _).trans ((select_token n s _ _).trans (gates_at z gb n _ _))
  | 1 => (ig1_at _ n _).trans ((select_token n s _ _).trans (gates_at z gb n _ _))
  | 2 => (ig2_at _ n _).trans ((select_token n s _ _).trans (gates_at z gb n _ _))
  | 3 => (ig3_at _ n _).trans ((select_token n s _ _).trans (gates_at z gb n _ _))

theorem igV_pad (h : Fin 4) (n : Fin 16) (t : Fin 8) (ht : ¬ t.val < 4) : igV z gb h (ix3 n t 0) = (⊥ : EReal) :=
  match h with
  | 0 => (ig0_at _ n _).trans (select_pad n t ht _ _)
  | 1 => (ig1_at _ n _).trans (select_pad n t ht _ _)
  | 2 => (ig2_at _ n _).trans (select_pad n t ht _ _)
  | 3 => (ig3_at _ n _).trans (select_pad n t ht _ _)

theorem lfV_token (h : Fin 4) (n : Fin 16) (s : Fin 4) :
    lfV z gb h (ix3 n (tokRow s) 0) = logSig (gate z gb n (fgLane h) s) :=
  match h with
  | 0 => (lf0_at z gb n _).trans ((select_token n s _ _).trans ((logs_at z gb n _ _).trans (congrArg logSig (gates_at z gb n _ _))))
  | 1 => (lf1_at _ n _).trans ((select_token n s _ _).trans ((logs_at z gb n _ _).trans (congrArg logSig (gates_at z gb n _ _))))
  | 2 => (lf2_at _ n _).trans ((select_token n s _ _).trans ((logs_at z gb n _ _).trans (congrArg logSig (gates_at z gb n _ _))))
  | 3 => (lf3_at _ n _).trans ((select_token n s _ _).trans ((logs_at z gb n _ _).trans (congrArg logSig (gates_at z gb n _ _))))

theorem keyV_token (h : Fin 4) (n : Fin 16) (s : Fin 4) (d : Fin 128) : keyV z h (ix3 n (tokRow s) d) = key z n h d s := by
  unfold key
  match h with
  | 0 => dsimp only [keyV]; pointwise [k0_pay193, k0_pay192, rowOf]
  | 1 => dsimp only [keyV]; pointwise [k0_pay197, rowOf]
  | 2 => dsimp only [keyV]; pointwise [k0_pay201, rowOf]
  | 3 => dsimp only [keyV]; pointwise [k0_pay205, rowOf]

theorem valV_token (h : Fin 4) (n : Fin 16) (s : Fin 4) (e : Fin 128) : valV z h (ix3 n (tokRow s) e) = value z n h e s := by
  unfold value
  match h with
  | 0 => dsimp only [valV]; pointwise [k0_pay194, rowOf]
  | 1 => dsimp only [valV]; pointwise [k0_pay198, rowOf]
  | 2 => dsimp only [valV]; pointwise [k0_pay202, rowOf]
  | 3 => dsimp only [valV]; pointwise [k0_pay206, rowOf]

/-! ## The new memory of a head -/

/-- A head's memory, normaliser and stabiliser after the last token, from the projections and the old ones. -/
def cOf (n : Fin 16) (h : Fin 4) (d e : Fin 128) (m0 c0 : EReal) : EReal :=
  cNew (gate z gb n (igLane h)) (fun s => logSig (gate z gb n (fgLane h) s)) m0 c0 (key z n h d) (value z n h e)
def nOf (n : Fin 16) (h : Fin 4) (d : Fin 128) (m0 n0 : EReal) : EReal :=
  nNew (gate z gb n (igLane h)) (fun s => logSig (gate z gb n (fgLane h) s)) m0 n0 (key z n h d)
def mOf (n : Fin 16) (h : Fin 4) (m0 : EReal) : EReal :=
  mNew (gate z gb n (igLane h)) (fun s => logSig (gate z gb n (fgLane h) s)) m0

/-- A head's weights of the old memory and of the rows, and its stabiliser, as the body forms them. -/
def oldH (h : Fin 4) (m0 : FVec Ideal S16x1x1 .f32) : FVec Ideal S16x1x1 .f32 := oldV (igV z gb h) (lfV z gb h) m0
def tokH (h : Fin 4) (m0 : FVec Ideal S16x1x1 .f32) : FVec Ideal S16x8x1 .f32 := tokV (igV z gb h) (lfV z gb h) m0
def mH (h : Fin 4) (m0 : FVec Ideal S16x1x1 .f32) : FVec Ideal S16x1x1 .f32 := mV (igV z gb h) (lfV z gb h) m0

theorem oldH_at (h : Fin 4) (m0 : FVec Ideal S16x1x1 .f32) (n : Fin 16) :
    oldH z gb h m0 (ix3 n 0 0)
      = oldWeight (gate z gb n (igLane h)) (fun s => logSig (gate z gb n (fgLane h) s)) (m0 (ix3 n 0 0)) := by
  unfold oldH; rw [oldV_at]; simp only [igV_token, lfV_token]
theorem tokH_token (h : Fin 4) (m0 : FVec Ideal S16x1x1 .f32) (n : Fin 16) (s : Fin 4) :
    tokH z gb h m0 (ix3 n (tokRow s) 0)
      = tokWeight (gate z gb n (igLane h)) (fun s => logSig (gate z gb n (fgLane h) s)) (m0 (ix3 n 0 0)) s := by
  unfold tokH; rw [tokV_token]; simp only [igV_token, lfV_token]
theorem tokH_pad (h : Fin 4) (m0 : FVec Ideal S16x1x1 .f32) (n : Fin 16) (t : Fin 8) (ht : ¬ t.val < 4) :
    tokH z gb h m0 (ix3 n t 0) = (0 : EReal) := tokV_pad _ _ _ _ _ (igV_pad z gb h n t ht)

/-- The stored memory. -/
theorem c_store (h : Fin 4) (m0 : FVec Ideal S16x1x1 .f32) (c0 : FVec Ideal S16x1x128x128 .f32) (n : Fin 16) (d e : Fin 128) :
    k0_pay248 (F := Ideal) (oldH z gb h m0) (tokH z gb h m0) (keyV z h) (valV z h) c0 (ix4 n 0 d e)
      = cOf z gb n h d e (m0 (ix3 n 0 0)) (c0 (ix4 n 0 d e)) := by
  rw [cStore_at, oldH_at, sum_tokens _ fun t ht => by rw [tokH_pad z gb h m0 n t ht, mul_zero, zero_mul]]
  unfold cOf cNew
  simp only [tokH_token, keyV_token, valV_token, mul_comm (key z n h d _)]

/-- The stored normaliser. -/
theorem n_store (h : Fin 4) (m0 : FVec Ideal S16x1x1 .f32) (n0 : FVec Ideal S16x1x128 .f32) (n : Fin 16) (d : Fin 128) :
    k0_pay253 (F := Ideal) (oldH z gb h m0) (tokH z gb h m0) (keyV z h) n0 (ix3 n 0 d)
      = nOf z gb n h d (m0 (ix3 n 0 0)) (n0 (ix3 n 0 d)) := by
  rw [nStore_at, oldH_at, sum_tokens _ fun t ht => by rw [tokH_pad z gb h m0 n t ht, mul_zero]]
  unfold nOf nNew
  simp only [tokH_token, keyV_token, mul_comm (key z n h d _)]

/-- The stored stabiliser. -/
theorem m_store (h : Fin 4) (m0 : FVec Ideal S16x1x1 .f32) (n : Fin 16) (l : Fin 128) :
    k0_pay246 (F := Ideal) (mH z gb h m0) (ix3 n 0 l) = mOf z gb n h (m0 (ix3 n 0 0)) := by
  rw [mStore_at]; unfold mH mOf; rw [mV_at]; simp only [igV_token, lfV_token]

end Cert.SampleProof

end
-- ==== Proof.SamplePiece.lean ====
module

public import proofs.«01_k».proof.Proof.SampleBlock

@[expose] public section

set_option maxRecDepth 16384

/-! What the sample mixer's body leaves of one block of sixteen sequences: the memories, normalisers and
    stabilisers as functions of the block's inputs, and each head's store as its part of them. -/

noncomputable section

namespace Cert.SampleProof

open Cert.SampleIdeal Cert.SampleIdeal.Gen
open Idealize.ShloMosaic Idealize.ShloMosaic.Tactic Idealize.ShloMosaic.TcCoe
open scoped BigOperators

/-! ## The block's results as functions of its inputs -/

/-- The block's projections. -/
def zOf (x0 : Vec Ideal S16x8x1024 .f32) (x8 : Vec Ideal S1024x512 .bf16) (x9 : Vec Ideal S1024x2824 .bf16)
    (x10 : Vec Ideal S1024x128 .bf16) (x14 : Vec Ideal S1x1024 .f32) : FVec Ideal S128x2944 .f32 :=
  k0_pay2 x0 x14 x8 (View.ld x9 (Rect.unit (s := S1024x2824) ![0, 512] S1024x2304.size inb_S1024x2824_S1024x2304_0_512)) x10

/-- The memories and the stabilisers the block leaves, from its projections, gate biases and old state. -/
def cBlock (z : FVec Ideal S128x2944 .f32) (gb : FVec Ideal S1x128 .f32) (x5 : Vec Ideal S16x4x1 .f32)
    (x3 : Vec Ideal S16x4x128x128 .f32) : Vec Ideal S16x4x128x128 .f32 := fun y =>
  cOf z gb (y 0) (y 1) (y 2) (y 3) (x5 (ix3 (y 0) (y 1) 0)) (x3 y)
def nBlock (z : FVec Ideal S128x2944 .f32) (gb : FVec Ideal S1x128 .f32) (x5 : Vec Ideal S16x4x1 .f32)
    (x4 : Vec Ideal S16x4x128 .f32) : Vec Ideal S16x4x128 .f32 := fun y =>
  nOf z gb (y 0) (y 1) (y 2) (x5 (ix3 (y 0) (y 1) 0)) (x4 y)
def mBlock (z : FVec Ideal S128x2944 .f32) (gb : FVec Ideal S1x128 .f32) (x5 : Vec Ideal S16x4x1 .f32) :
    Vec Ideal S16x8x128 .f32 := fun y =>
  if h : (y 1).val < 4 then mOf z gb (y 0) ⟨(y 1).val, h⟩ (x5 (ix3 (y 0) ⟨(y 1).val, h⟩ 0)) else 0

/-- Head `h`'s part of the memories' buffers, as the body's stores write it. -/
theorem c_piece (z : FVec Ideal S128x2944 .f32) (gb : FVec Ideal S1x128 .f32) (x5 : Vec Ideal S16x4x1 .f32)
    (x3 : Vec Ideal S16x4x128x128 .f32) (h : Fin 4)
    (i5 : ∀ a, (![0, h.val, 0] : Fin 3 → ℕ) a + S16x1x1.size a ≤ S16x4x1.size a)
    (i3 : ∀ a, (![0, h.val, 0, 0] : Fin 4 → ℕ) a + S16x1x128x128.size a ≤ S16x4x128x128.size a) (x : S16x1x128x128.Idx) :
    k0_pay248 (F := Ideal) (oldH z gb h (k0_pay102 (View.ld x5 (Rect.unit (s := S16x4x1) ![0, h.val, 0] S16x1x1.size i5))))
        (tokH z gb h (k0_pay102 (View.ld x5 (Rect.unit (s := S16x4x1) ![0, h.val, 0] S16x1x1.size i5)))) (keyV z h) (valV z h)
        (View.ld x3 (Rect.unit (s := S16x4x128x128) ![0, h.val, 0, 0] S16x1x128x128.size i3)) x
      = cBlock z gb x5 x3 ((Rect.unit (s := S16x4x128x128) ![0, h.val, 0, 0] S16x1x128x128.size i3).emb x) := by
  obtain ⟨n, d, e, rfl⟩ : ∃ (n : Fin 16) (d e : Fin 128), x = ix4 n 0 d e :=
    ⟨x 0, x 2, x 3, by funext a; fin_cases a <;> first | rfl | exact Subsingleton.elim (α := Fin 1) _ _⟩
  change _ = cBlock z gb x5 x3 ((Rect.unit (s := S16x4x128x128) ![0, h.val, 0, 0] S16x1x128x128.size i3).toLoadRect.idx (ix4 n 0 d e))
  rw [show (Rect.unit (s := S16x4x128x128) ![0, h.val, 0, 0] S16x1x128x128.size i3).toLoadRect.idx (ix4 n 0 d e) = ix4 n h d e from by
    pointwise []]
  refine (c_store z gb h _ _ n d e).trans ?_
  show _ = cOf z gb n h d e (x5 (ix3 n h 0)) (x3 (ix4 n h d e))
  congr 1
  · pointwise [k0_pay102]
  · pointwise []

theorem n_piece (z : FVec Ideal S128x2944 .f32) (gb : FVec Ideal S1x128 .f32) (x5 : Vec Ideal S16x4x1 .f32)
    (x4 : Vec Ideal S16x4x128 .f32) (h : Fin 4)
    (i5 : ∀ a, (![0, h.val, 0] : Fin 3 → ℕ) a + S16x1x1.size a ≤ S16x4x1.size a)
    (i4 : ∀ a, (![0, h.val, 0] : Fin 3 → ℕ) a + S16x1x128.size a ≤ S16x4x128.size a) (x : S16x1x128.Idx) :
    k0_pay253 (F := Ideal) (oldH z gb h (k0_pay102 (View.ld x5 (Rect.unit (s := S16x4x1) ![0, h.val, 0] S16x1x1.size i5))))
        (tokH z gb h (k0_pay102 (View.ld x5 (Rect.unit (s := S16x4x1) ![0, h.val, 0] S16x1x1.size i5)))) (keyV z h)
        (View.ld x4 (Rect.unit (s := S16x4x128) ![0, h.val, 0] S16x1x128.size i4)) x
      = nBlock z gb x5 x4 ((Rect.unit (s := S16x4x128) ![0, h.val, 0] S16x1x128.size i4).emb x) := by
  obtain ⟨n, d, rfl⟩ : ∃ (n : Fin 16) (d : Fin 128), x = ix3 n 0 d :=
    ⟨x 0, x 2, by funext a; fin_cases a <;> first | rfl | exact Subsingleton.elim (α := Fin 1) _ _⟩
  change _ = nBlock z gb x5 x4 ((Rect.unit (s := S16x4x128) ![0, h.val, 0] S16x1x128.size i4).toLoadRect.idx (ix3 n 0 d))
  rw [show (Rect.unit (s := S16x4x128) ![0, h.val, 0] S16x1x128.size i4).toLoadRect.idx (ix3 n 0 d) = ix3 n h d from by
    pointwise []]
  refine (n_store z gb h _ _ n d).trans ?_
  show _ = nOf z gb n h d (x5 (ix3 n h 0)) (x4 (ix3 n h d))
  congr 1
  · pointwise [k0_pay102]
  · pointwise []

theorem m_piece (z : FVec Ideal S128x2944 .f32) (gb : FVec Ideal S1x128 .f32) (x5 : Vec Ideal S16x4x1 .f32) (h : Fin 4)
    (i5 : ∀ a, (![0, h.val, 0] : Fin 3 → ℕ) a + S16x1x1.size a ≤ S16x4x1.size a)
    (i : ∀ a, (![0, h.val, 0] : Fin 3 → ℕ) a + S16x1x128.size a ≤ S16x8x128.size a) (x : S16x1x128.Idx) :
    k0_pay246 (F := Ideal) (mH z gb h (k0_pay102 (View.ld x5 (Rect.unit (s := S16x4x1) ![0, h.val, 0] S16x1x1.size i5)))) x
      = mBlock z gb x5 ((Rect.unit (s := S16x8x128) ![0, h.val, 0] S16x1x128.size i).emb x) := by
  obtain ⟨n, d, rfl⟩ : ∃ (n : Fin 16) (d : Fin 128), x = ix3 n 0 d :=
    ⟨x 0, x 2, by funext a; fin_cases a <;> first | rfl | exact Subsingleton.elim (α := Fin 1) _ _⟩
  change _ = mBlock z gb x5 ((Rect.unit (s := S16x8x128) ![0, h.val, 0] S16x1x128.size i).toLoadRect.idx (ix3 n 0 d))
  rw [show (Rect.unit (s := S16x8x128) ![0, h.val, 0] S16x1x128.size i).toLoadRect.idx (ix3 n 0 d) = ix3 n ⟨h.val, by omega⟩ d from by
    pointwise []]
  refine (m_store z gb h _ n d).trans ?_
  unfold mBlock
  rw [dif_pos (show ((ix3 n ⟨h.val, by omega⟩ d : S16x8x128.Idx) 1).val < 4 from h.isLt)]
  show _ = mOf z gb n h (x5 (ix3 n h 0))
  congr 1
  pointwise [k0_pay102]

end Cert.SampleProof

end
-- ==== Proof.SampleHost.lean ====
module

public import proofs.«01_k».proof.Proof.SampleFrame
public import proofs.«01_k».proof.Proof.SamplePiece

@[expose] public section

set_option maxRecDepth 16384

/-! The arrays the host prepares for the sample mixer's kernel, read at an index. -/

noncomputable section

namespace Cert.SampleProof

open Cert.SampleIdeal Cert.SampleIdeal.Gen

open Idealize.ShloMosaic Idealize.ShloMosaic.TcCoe Idealize.ShloMosaic.Tactic

/-! ## The host's texts -/

/-- The projection's matrix. -/
def hostW (x : S1x1024x2824.Idx → EReal) : FVec Ideal S1024x2824 .bf16 :=
  truncf .bf16 (shapeCast S1024x2824 x shapeCasts_S1x1024x2824_S1024x2824 : FVec Ideal S1024x2824 .f32) bitsLt_bf16_f32
/-- The gates' columns, spread over 128 lanes. -/
def hostGates (x : S1x1024x2824.Idx → EReal) : FVec Ideal S1024x128 .bf16 :=
  concatenate S1024x128 1
    [⟨S1024x4, extractStridedSlice S1024x4 ![0, 2816] (hostW x) slices_S1024x2824_S1024x4_0_2816⟩,
     ⟨S1024x4, broadcastInDim S1024x4 ![] bcast_S_S1024x4 (constant (F := Ideal) S_ .bf16 0x0000#16)⟩,
     ⟨S1024x4, extractStridedSlice S1024x4 ![0, 2820] (hostW x) slices_S1024x2824_S1024x4_0_2820⟩,
     ⟨S1024x116, broadcastInDim S1024x116 ![] bcast_S_S1024x116 (constant (F := Ideal) S_ .bf16 0x0000#16)⟩]
    concatenates_S1024x4_S1024x4_S1024x4_S1024x116_S1024x128_d1
/-- The gates' biases on the same lanes. -/
def hostBias (x y : S1x4.Idx → EReal) : FVec Ideal S1x128 .f32 :=
  shapeCast S1x128 (concatenate S128 0
    [⟨S4, shapeCast S4 x shapeCasts_S1x4_S4⟩, ⟨S4, broadcastInDim S4 ![] bcast_S_S4 (constant (F := Ideal) S_ .f32 0x00000000#32)⟩,
     ⟨S4, shapeCast S4 y shapeCasts_S1x4_S4⟩, ⟨S116, broadcastInDim S116 ![] bcast_S_S116 (constant (F := Ideal) S_ .f32 0x00000000#32)⟩]
    concatenates_S4_S4_S4_S116_S128_d0 : FVec Ideal S128 .f32) shapeCasts_S128_S1x128
/-- The norm's weight. -/
def hostNorm (x : S1x1024.Idx → EReal) : FVec Ideal S1x1024 .f32 :=
  shapeCast S1x1024 (shapeCast S1024 x shapeCasts_S1x1024_S1024) shapeCasts_S1024_S1x1024
/-- The tokens' rows, four of padding after each sequence's. -/
def hostRows (x : S128x4x1024.Idx → EReal) : FVec Ideal S128x8x1024 .f32 :=
  pad S128x8x1024 ![0, 0, 0] ![0, 4, 0] ![0, 0, 0] x (sitofp .f32 (constantI S_ 32 0#32) : FVec Ideal S_ .f32)
    pads_S128x4x1024_S128x8x1024_000_040_000 h_S_
/-- A cache with its positions last. -/
def hostCache (x : S1x128x128x2x64.Idx → EReal) : FVec Ideal S128x128x128 .f32 :=
  transpose S128x128x128 [0, 2, 1] (shapeCast S128x128x128
    (shapeCast S128x128x2x64 x shapeCasts_S1x128x128x2x64_S128x128x2x64) shapeCasts_S128x128x2x64_S128x128x128)
    transposes_S128x128x128_S128x128x128_0_2_1
/-- The old memories, normalisers and stabilisers. -/
def hostC (x : S1x128x4x128x128.Idx → EReal) : FVec Ideal S128x4x128x128 .f32 :=
  shapeCast S128x4x128x128 x shapeCasts_S1x128x4x128x128_S128x4x128x128
def hostN (x : S1x128x4x128.Idx → EReal) : FVec Ideal S128x4x128 .f32 := shapeCast S128x4x128 x shapeCasts_S1x128x4x128_S128x4x128
def hostM (x : S1x128x4.Idx → EReal) : FVec Ideal S128x4x1 .f32 :=
  broadcastInDim S128x4x1 ![0, 1] bcast_S128x4_S128x4x1_0_1 (shapeCast S128x4 x shapeCasts_S1x128x4_S128x4)

theorem hostW_at (x : S1x1024x2824.Idx → EReal) (k : Fin 1024) (j : Fin 2824) : hostW x (ix2 k j) = x (ix3 0 k j) := by
  pointwise [hostW]
theorem hostGates_i (x : S1x1024x2824.Idx → EReal) (k : Fin 1024) (h : Fin 4) :
    hostGates x (ix2 k (igLane h)) = x (ix3 0 k ⟨2816 + h.val, by omega⟩) := by
  unfold igLane; pointwise [hostGates, hostW]
theorem hostGates_f (x : S1x1024x2824.Idx → EReal) (k : Fin 1024) (h : Fin 4) :
    hostGates x (ix2 k (fgLane h)) = x (ix3 0 k ⟨2820 + h.val, by omega⟩) := by
  unfold fgLane; pointwise [hostGates, hostW]
  rw [dif_neg (by omega), dif_neg (by omega), dif_pos (by omega)]
  congr 2
  exact Fin.ext (by show _ = _; simp only; omega)
theorem hostBias_i (x y : S1x4.Idx → EReal) (h : Fin 4) : hostBias x y (ix2 0 (igLane h)) = x (ix2 0 h) := by
  unfold igLane; pointwise [hostBias]
theorem hostBias_f (x y : S1x4.Idx → EReal) (h : Fin 4) : hostBias x y (ix2 0 (fgLane h)) = y (ix2 0 h) := by
  unfold fgLane; pointwise [hostBias]
  rw [dif_neg (by omega), dif_neg (by omega), dif_pos (by omega)]
  congr 2
  exact Fin.ext (by show _ = _; simp only; omega)
theorem hostNorm_at (x : S1x1024.Idx → EReal) (k : Fin 1024) : hostNorm x (ix2 0 k) = x (ix2 0 k) := by pointwise [hostNorm]
theorem hostRows_at (x : S128x4x1024.Idx → EReal) (n : Fin 128) (t : Fin 4) (k : Fin 1024) :
    hostRows x (ix3 n (tokRow t) k) = x (ix3 n t k) := by
  pointwise [hostRows, tokRow]
theorem hostCache_at (x : S1x128x128x2x64.Idx → EReal) (n : Fin 128) (g : Fin 2) (d : Fin 64) (j : Fin 128) :
    hostCache x (ix3 n ⟨g.val * 64 + d.val, by omega⟩ j) = x (ix5 0 n j g d) := by
  pointwise [hostCache]
theorem hostC_at (x : S1x128x4x128x128.Idx → EReal) (n : Fin 128) (h : Fin 4) (d e : Fin 128) :
    hostC x (ix4 n h d e) = x (ix5 0 n h d e) := by
  pointwise [hostC]
theorem hostN_at (x : S1x128x4x128.Idx → EReal) (n : Fin 128) (h : Fin 4) (d : Fin 128) : hostN x (ix3 n h d) = x (ix4 0 n h d) := by
  pointwise [hostN]
theorem hostM_at (x : S1x128x4.Idx → EReal) (n : Fin 128) (h : Fin 4) : hostM x (ix3 n h 0) = x (ix3 0 n h) := by
  pointwise [hostM]

/-! ## The arrays as the region finds them -/

variable (m : (ℓ : Loc nD τ sig) → Buf (Elt Ideal) ℓ)

set_option maxHeartbeats 4000000 in
theorem V_v1 (c : Dev nD) : V m c main_v1 = hostW (m ((c : Thread nD τ).loc main_arg7)) := by
  unfold V V0; simp only [hostOps0, hostOps0_1, hostOps0_2, List.flatten_cons, List.flatten_nil, List.append_nil, List.cons_append,
      List.nil_append]; after_results_simp <;> rfl
set_option maxHeartbeats 4000000 in
theorem V_v6 (c : Dev nD) : V m c main_v6 = hostGates (m ((c : Thread nD τ).loc main_arg7)) := by
  unfold V V0; simp only [hostOps0, hostOps0_1, hostOps0_2, List.flatten_cons, List.flatten_nil, List.append_nil, List.cons_append,
      List.nil_append]; after_results_simp <;> rfl
set_option maxHeartbeats 4000000 in
theorem V_v12 (c : Dev nD) : V m c main_v12 = hostBias (m ((c : Thread nD τ).loc main_arg11)) (m ((c : Thread nD τ).loc main_arg12)) := by
  unfold V V0; simp only [hostOps0, hostOps0_1, hostOps0_2, List.flatten_cons, List.flatten_nil, List.append_nil, List.cons_append,
      List.nil_append]; after_results_simp <;> rfl
set_option maxHeartbeats 4000000 in
theorem V_v16 (c : Dev nD) : V m c main_v16 = hostNorm (m ((c : Thread nD τ).loc main_arg6)) := by
  unfold V V0; simp only [hostOps0, hostOps0_1, hostOps0_2, List.flatten_cons, List.flatten_nil, List.append_nil, List.cons_append,
      List.nil_append]; after_results_simp <;> rfl
set_option maxHeartbeats 4000000 in
theorem V_v77 (c : Dev nD) : V m c main_v77 = hostRows (m ((c : Thread nD τ).loc main_arg0)) := by
  unfold V V0; simp only [hostOps0, hostOps0_1, hostOps0_2, List.flatten_cons, List.flatten_nil, List.append_nil, List.cons_append,
      List.nil_append]; after_results_simp <;> rfl
set_option maxHeartbeats 4000000 in
theorem V_v83 (c : Dev nD) : V m c main_v83 = hostCache (m ((c : Thread nD τ).loc main_arg2)) := by
  unfold V V0; simp only [hostOps0, hostOps0_1, hostOps0_2, List.flatten_cons, List.flatten_nil, List.append_nil, List.cons_append,
      List.nil_append]; after_results_simp <;> rfl
set_option maxHeartbeats 4000000 in
theorem V_v84 (c : Dev nD) : V m c main_v84 = hostC (m ((c : Thread nD τ).loc main_arg3)) := by
  unfold V V0; simp only [hostOps0, hostOps0_1, hostOps0_2, List.flatten_cons, List.flatten_nil, List.append_nil, List.cons_append,
      List.nil_append]; after_results_simp <;> rfl
set_option maxHeartbeats 4000000 in
theorem V_v85 (c : Dev nD) : V m c main_v85 = hostN (m ((c : Thread nD τ).loc main_arg4)) := by
  unfold V V0; simp only [hostOps0, hostOps0_1, hostOps0_2, List.flatten_cons, List.flatten_nil, List.append_nil, List.cons_append,
      List.nil_append]; after_results_simp <;> rfl
set_option maxHeartbeats 4000000 in
theorem V_v87 (c : Dev nD) : V m c main_v87 = hostM (m ((c : Thread nD τ).loc main_arg5)) := by
  unfold V V0; simp only [hostOps0, hostOps0_1, hostOps0_2, List.flatten_cons, List.flatten_nil, List.append_nil, List.cons_append,
      List.nil_append]; after_results_simp <;> rfl

end Cert.SampleProof

end
-- ==== Proof.SampleCache.lean ====
module

public import proofs.«01_k».proof.Proof.SampleStore

@[expose] public section

set_option maxRecDepth 16384

/-! What the sample mixer's body stores of the value cache: the cache moved back by four places, the tokens' values after it. -/

noncomputable section

namespace Cert.SampleProof

open Cert.SampleIdeal Cert.SampleIdeal.Gen Idealize.ShloMosaic Idealize.ShloMosaic.TcCoe
open scoped BigOperators

/-- One sequence's stored value cache, from the block's values and the sequence's old cache, the values moved by `k` places. -/
def cacheRow (k : BitVec 32) (v : FVec Ideal S128x128 .f32) (c : FVec Ideal S1x128x128 .f32) : FVec Ideal S1x128x128 .f32 :=
  shapeCast S1x128x128 (select k0_pay50
    (dynamicRotate 1 124#32 none (shapeCast S128x128 c shapeCasts_S1x128x128_S128x128) rotates_S128x128_d1)
    (dynamicRotate 1 k none (k0_pay52 (F := Ideal) v) rotates_S128x128_d1)) shapeCasts_S128x128_S1x128x128

theorem cacheRow_at (b : Fin 16) (k : BitVec 32) (hk : k.toNat + 8 * b.val = 124) (v : FVec Ideal S128x128 .f32)
    (c : FVec Ideal S1x128x128 .f32) (d l : Fin 128) :
    cacheRow k v c (ix3 0 d l) = if h : l.val < 124 then c (ix3 0 d ⟨l.val + 4, by omega⟩)
      else v (ix2 ⟨b.val * 8 + (l.val - 124), by omega⟩ d) := by
  have e : cacheRow k v c (ix3 0 d l) = Scalar.select (IntOp.cmpi .slt (BitVec.ofNat 32 l.val) 124#32)
      (c (ix3 0 d ⟨(l.val + 128 - 124) % 128, Nat.mod_lt _ (by decide)⟩))
      (v (ix2 ⟨(l.val + 128 - k.toNat % 128) % 128, Nat.mod_lt _ (by decide)⟩ d)) := by
    pointwise [cacheRow, k0_pay50, k0_pay52]
  have hs : ∀ l : Fin 128, IntOp.cmpi .slt (BitVec.ofNat 32 l.val) 124#32 = if l.val < 124 then 1#1 else 0#1 := by decide
  rw [e, hs]
  by_cases h : l.val < 124
  · rw [if_pos h, dif_pos h]
    refine congrArg c (congrArg (ix3 0 d) (Fin.ext ?_))
    show (l.val + 128 - 124) % 128 = l.val + 4
    omega
  · rw [if_neg h, dif_neg h]
    refine congrArg v (congrArg (fun r => ix2 r d) (Fin.ext ?_))
    show (l.val + 128 - k.toNat % 128) % 128 = b.val * 8 + (l.val - 124)
    omega

/-- A block's value caches, from the block's values and the old caches. -/
def cacheBlock (v : FVec Ideal S128x128 .f32) (c : Vec Ideal S16x128x128 .f32) : Vec Ideal S16x128x128 .f32 := fun y =>
  if h : (y 2).val < 124 then c (ix3 (y 0) (y 1) ⟨(y 2).val + 4, by omega⟩)
  else v (ix2 ⟨(y 0).val * 8 + ((y 2).val - 124), by
    have h0 : (y 0).val < 16 := (y 0).isLt
    have h2 : (y 2).val < 128 := (y 2).isLt
    omega⟩ (y 1))

/-- A sequence's stored value cache is the block's at its place. -/
theorem cacheRow_block (b : ℕ) (k : BitVec 32) (hk : k.toNat + 8 * b = 124) (hb : b < 16) (v : FVec Ideal S128x128 .f32)
    (c : Vec Ideal S16x128x128 .f32) (i : ∀ a, (![b, 0, 0] : Fin 3 → ℕ) a + S1x128x128.size a ≤ S16x128x128.size a)
    (x : S1x128x128.Idx) :
    cacheRow k v (View.ld c (Rect.unit (s := S16x128x128) ![b, 0, 0] S1x128x128.size i)) x
      = cacheBlock v c ((Rect.unit (s := S16x128x128) ![b, 0, 0] S1x128x128.size i).emb x) := by
  obtain ⟨d, l, rfl⟩ : ∃ d l : Fin 128, x = ix3 0 d l :=
    ⟨x 1, x 2, by funext a; fin_cases a <;> first | rfl | exact Subsingleton.elim (α := Fin 1) _ _⟩
  change _ = cacheBlock v c ((Rect.unit (s := S16x128x128) ![b, 0, 0] S1x128x128.size i).toLoadRect.idx (ix3 0 d l))
  rw [show (Rect.unit (s := S16x128x128) ![b, 0, 0] S1x128x128.size i).toLoadRect.idx (ix3 0 d l) = ix3 ⟨b, hb⟩ d l from by
    pointwise []]
  refine (cacheRow_at ⟨b, hb⟩ k hk v _ d l).trans ?_
  unfold cacheBlock
  by_cases h : l.val < 124
  · rw [dif_pos h, dif_pos (show ((ix3 ⟨b, hb⟩ d l : S16x128x128.Idx) 2).val < 124 from h)]
    pointwise []
  · rw [dif_neg h, dif_neg (show ¬ ((ix3 ⟨b, hb⟩ d l : S16x128x128.Idx) 2).val < 124 from h)]
    rfl

end Cert.SampleProof

end
-- ==== Proof.SampleBody.lean ====
module

public import proofs.«01_k».proof.Proof.SampleRun
public import proofs.«01_k».proof.Proof.SamplePiece
public import proofs.«01_k».proof.Proof.SampleCache
public import proofs.«01_k».proof.Proof.FfnBlock

@[expose] public section

set_option maxRecDepth 16384

/-! What the sample mixer's run leaves of one block of sixteen sequences: each piece it writes of the value cache and of the
    memories holds, at its place, one function of the block's inputs. -/

noncomputable section

namespace Cert.SampleProof

open Cert.SampleIdeal Cert.SampleIdeal.Gen
open Idealize.ShloMosaic Idealize.ShloMosaic.Tactic Idealize.ShloMosaic.TcCoe

variable
  (c : Dev nD) (i : grid0.Coords) (arg1 : Memref sig .tc .vmem S16x8x1024 .f32) (harg1 : arg1.IsWhole)
  (arg2 : Memref sig .tc .vmem S16x128x128 .f32) (harg2 : arg2.IsWhole) (arg3 : Memref sig .tc .vmem S16x128x128 .f32)
  (harg3 : arg3.IsWhole) (arg4 : Memref sig .tc .vmem S16x4x128x128 .f32) (harg4 : arg4.IsWhole)
  (arg5 : Memref sig .tc .vmem S16x4x128 .f32) (harg5 : arg5.IsWhole) (arg6 : Memref sig .tc .vmem S16x4x1 .f32)
  (harg6 : arg6.IsWhole) (arg7 : Memref sig .tc .vmem S128x128 .f32) (harg7 : arg7.IsWhole)
  (arg8 : Memref sig .tc .vmem S128x128 .f32) (harg8 : arg8.IsWhole) (arg9 : Memref sig .tc .vmem S1024x512 .bf16)
  (harg9 : arg9.IsWhole) (arg10 : Memref sig .tc .vmem S1024x2824 .bf16) (harg10 : arg10.IsWhole)
  (arg11 : Memref sig .tc .vmem S1024x128 .bf16) (harg11 : arg11.IsWhole) (arg12 : Memref sig .tc .vmem S1024x1024 .bf16)
  (harg12 : arg12.IsWhole) (arg13 : Memref sig .tc .vmem S64x128 .f32) (harg13 : arg13.IsWhole)
  (arg14 : Memref sig .tc .vmem S128x128 .bf16) (harg14 : arg14.IsWhole) (arg15 : Memref sig .tc .vmem S1x1024 .f32)
  (harg15 : arg15.IsWhole) (arg16 : Memref sig .tc .vmem S1x128 .f32) (harg16 : arg16.IsWhole)
  (arg17 : Memref sig .tc .vmem S1x128 .f32) (harg17 : arg17.IsWhole) (arg18 : Memref sig .tc .vmem S1x128 .f32)
  (harg18 : arg18.IsWhole) (arg19 : Memref sig .tc .vmem S4x128 .f32) (harg19 : arg19.IsWhole)
  (arg20 : Memref sig .tc .vmem S16x8x1024 .f32) (harg20 : arg20.IsWhole) (arg21 : Memref sig .tc .vmem S16x128x128 .f32)
  (harg21 : arg21.IsWhole) (arg22 : Memref sig .tc .vmem S16x128x128 .f32) (harg22 : arg22.IsWhole)
  (arg23 : Memref sig .tc .vmem S16x4x128x128 .f32) (harg23 : arg23.IsWhole) (arg24 : Memref sig .tc .vmem S16x4x128 .f32)
  (harg24 : arg24.IsWhole) (arg25 : Memref sig .tc .vmem S16x8x128 .f32) (harg25 : arg25.IsWhole)
  (x0 : Vec Ideal S16x8x1024 .f32) (x1 : Vec Ideal S16x128x128 .f32) (x2 : Vec Ideal S16x128x128 .f32)
  (x3 : Vec Ideal S16x4x128x128 .f32) (x4 : Vec Ideal S16x4x128 .f32) (x5 : Vec Ideal S16x4x1 .f32)
  (x6 : Vec Ideal S128x128 .f32) (x7 : Vec Ideal S128x128 .f32) (x8 : Vec Ideal S1024x512 .bf16)
  (x9 : Vec Ideal S1024x2824 .bf16) (x10 : Vec Ideal S1024x128 .bf16) (x11 : Vec Ideal S1024x1024 .bf16)
  (x12 : Vec Ideal S64x128 .f32) (x13 : Vec Ideal S128x128 .bf16) (x14 : Vec Ideal S1x1024 .f32) (x15 : Vec Ideal S1x128 .f32)
  (x16 : Vec Ideal S1x128 .f32) (x17 : Vec Ideal S1x128 .f32) (x18 : Vec Ideal S4x128 .f32)

/-- The block's projections and gate biases as the run loads them. -/
def zLoad : FVec Ideal S128x2944 .f32 := k0_pay2
  (View.readAt (Elt Ideal) arg1.view (Rect.unit (s := S16x8x1024) ![0, 0, 0] S16x8x1024.size inb_S16x8x1024_S16x8x1024_0_0_0).toLoadRect (harg1.unread x0))
  (View.readAt (Elt Ideal) arg15.view (Rect.unit (s := S1x1024) ![0, 0] S1x1024.size inb_S1x1024_S1x1024_0_0).toLoadRect (harg15.unread x14))
  (View.readAt (Elt Ideal) arg9.view (Rect.unit (s := S1024x512) ![0, 0] S1024x512.size inb_S1024x512_S1024x512_0_0).toLoadRect (harg9.unread x8))
  (View.readAt (Elt Ideal) arg10.view (Rect.unit (s := S1024x2824) ![0, 512] S1024x2304.size inb_S1024x2824_S1024x2304_0_512).toLoadRect (harg10.unread x9))
  (View.readAt (Elt Ideal) arg11.view (Rect.unit (s := S1024x128) ![0, 0] S1024x128.size inb_S1024x128_S1024x128_0_0).toLoadRect (harg11.unread x10))
def gbLoad : FVec Ideal S1x128 .f32 :=
  View.readAt (Elt Ideal) arg18.view (Rect.unit (s := S1x128) ![0, 0] S1x128.size inb_S1x128_S1x128_0_0).toLoadRect (harg18.unread x17)

theorem zLoad_eq : zLoad arg1 harg1 arg9 harg9 arg10 harg10 arg11 harg11 arg15 harg15 x0 x8 x9 x10 x14 = zOf x0 x8 x9 x10 x14 := by
  unfold zLoad zOf
  simp only [View.readAt_eq_ld, harg1.read_unread, harg15.read_unread, harg9.read_unread, harg10.read_unread, harg11.read_unread]
  rw [View.ld_unit_zero (by funext a; fin_cases a <;> rfl) _ x0, View.ld_unit_zero (by funext a; fin_cases a <;> rfl) _ x14,
    View.ld_unit_zero (by funext a; fin_cases a <;> rfl) _ x8, View.ld_unit_zero (by funext a; fin_cases a <;> rfl) _ x10]
theorem gbLoad_eq : gbLoad arg18 harg18 x17 = x17 := by
  unfold gbLoad
  rw [View.readAt_eq_ld, harg18.read_unread]
  exact View.ld_unit_zero (by funext a; fin_cases a <;> rfl) _ x17

/-- Head `h`'s old stabilisers as the run loads them. -/
def mLoad (h : ℕ) (i : ∀ a, (![0, h, 0] : Fin 3 → ℕ) a + S16x1x1.size a ≤ S16x4x1.size a) : FVec Ideal S16x1x1 .f32 := k0_pay102
  (View.readAt (Elt Ideal) arg6.view (Rect.unit (s := S16x4x1) ![0, h, 0] S16x1x1.size i).toLoadRect (harg6.unread x5))

theorem mLoad_eq (h : ℕ) (i : ∀ a, (![0, h, 0] : Fin 3 → ℕ) a + S16x1x1.size a ≤ S16x4x1.size a) :
    mLoad arg6 harg6 x5 h i = k0_pay102 (View.ld x5 (Rect.unit (s := S16x4x1) ![0, h, 0] S16x1x1.size i)) := by
  unfold mLoad; rw [View.readAt_eq_ld, harg6.read_unread]

/-- A head's stored parts, with the run's loads for the block's inputs. -/
theorem c_loaded (h : Fin 4) (i5 : ∀ a, (![0, h.val, 0] : Fin 3 → ℕ) a + S16x1x1.size a ≤ S16x4x1.size a)
    (i3 : ∀ a, (![0, h.val, 0, 0] : Fin 4 → ℕ) a + S16x1x128x128.size a ≤ S16x4x128x128.size a) (x : S16x1x128x128.Idx) :
    k0_pay248 (F := Ideal) (oldH (zLoad arg1 harg1 arg9 harg9 arg10 harg10 arg11 harg11 arg15 harg15 x0 x8 x9 x10 x14) (gbLoad arg18 harg18 x17) h (mLoad arg6 harg6 x5 h.val i5))
        (tokH (zLoad arg1 harg1 arg9 harg9 arg10 harg10 arg11 harg11 arg15 harg15 x0 x8 x9 x10 x14) (gbLoad arg18 harg18 x17) h (mLoad arg6 harg6 x5 h.val i5))
        (keyV (zLoad arg1 harg1 arg9 harg9 arg10 harg10 arg11 harg11 arg15 harg15 x0 x8 x9 x10 x14) h) (valV (zLoad arg1 harg1 arg9 harg9 arg10 harg10 arg11 harg11 arg15 harg15 x0 x8 x9 x10 x14) h)
        (View.readAt (Elt Ideal) arg4.view (Rect.unit (s := S16x4x128x128) ![0, h.val, 0, 0] S16x1x128x128.size i3).toLoadRect (harg4.unread x3)) x
      = cBlock (zOf x0 x8 x9 x10 x14) x17 x5 x3 ((Rect.unit (s := S16x4x128x128) ![0, h.val, 0, 0] S16x1x128x128.size i3).emb x) := by
  rw [zLoad_eq, gbLoad_eq, mLoad_eq, View.readAt_eq_ld, harg4.read_unread]
  exact c_piece _ x17 x5 x3 h i5 i3 x
theorem n_loaded (h : Fin 4) (i5 : ∀ a, (![0, h.val, 0] : Fin 3 → ℕ) a + S16x1x1.size a ≤ S16x4x1.size a)
    (i4 : ∀ a, (![0, h.val, 0] : Fin 3 → ℕ) a + S16x1x128.size a ≤ S16x4x128.size a) (x : S16x1x128.Idx) :
    k0_pay253 (F := Ideal) (oldH (zLoad arg1 harg1 arg9 harg9 arg10 harg10 arg11 harg11 arg15 harg15 x0 x8 x9 x10 x14) (gbLoad arg18 harg18 x17) h (mLoad arg6 harg6 x5 h.val i5))
        (tokH (zLoad arg1 harg1 arg9 harg9 arg10 harg10 arg11 harg11 arg15 harg15 x0 x8 x9 x10 x14) (gbLoad arg18 harg18 x17) h (mLoad arg6 harg6 x5 h.val i5))
        (keyV (zLoad arg1 harg1 arg9 harg9 arg10 harg10 arg11 harg11 arg15 harg15 x0 x8 x9 x10 x14) h)
        (View.readAt (Elt Ideal) arg5.view (Rect.unit (s := S16x4x128) ![0, h.val, 0] S16x1x128.size i4).toLoadRect (harg5.unread x4)) x
      = nBlock (zOf x0 x8 x9 x10 x14) x17 x5 x4 ((Rect.unit (s := S16x4x128) ![0, h.val, 0] S16x1x128.size i4).emb x) := by
  rw [zLoad_eq, gbLoad_eq, mLoad_eq, View.readAt_eq_ld, harg5.read_unread]
  exact n_piece _ x17 x5 x4 h i5 i4 x
theorem m_loaded (h : Fin 4) (i5 : ∀ a, (![0, h.val, 0] : Fin 3 → ℕ) a + S16x1x1.size a ≤ S16x4x1.size a)
    (i : ∀ a, (![0, h.val, 0] : Fin 3 → ℕ) a + S16x1x128.size a ≤ S16x8x128.size a) (x : S16x1x128.Idx) :
    k0_pay246 (F := Ideal) (mH (zLoad arg1 harg1 arg9 harg9 arg10 harg10 arg11 harg11 arg15 harg15 x0 x8 x9 x10 x14) (gbLoad arg18 harg18 x17) h (mLoad arg6 harg6 x5 h.val i5)) x
      = mBlock (zOf x0 x8 x9 x10 x14) x17 x5 ((Rect.unit (s := S16x8x128) ![0, h.val, 0] S16x1x128.size i).emb x) := by
  rw [zLoad_eq, gbLoad_eq, mLoad_eq]
  exact m_piece _ x17 x5 h i5 i x
/-- A sequence's stored value cache, with the run's loads for the block's inputs. -/
theorem cache_loaded (b : ℕ) (k : BitVec 32) (hk : k.toNat + 8 * b = 124) (hb : b < 16)
    (i2 : ∀ a, (![b, 0, 0] : Fin 3 → ℕ) a + S1x128x128.size a ≤ S16x128x128.size a) (x : S1x128x128.Idx) :
    cacheRow k (k0_pay32 (zLoad arg1 harg1 arg9 harg9 arg10 harg10 arg11 harg11 arg15 harg15 x0 x8 x9 x10 x14))
        (View.readAt (Elt Ideal) arg3.view (Rect.unit (s := S16x128x128) ![b, 0, 0] S1x128x128.size i2).toLoadRect (harg3.unread x2)) x
      = cacheBlock (k0_pay32 (zOf x0 x8 x9 x10 x14)) x2 ((Rect.unit (s := S16x128x128) ![b, 0, 0] S1x128x128.size i2).emb x) := by
  rw [zLoad_eq, View.readAt_eq_ld, harg3.read_unread]
  exact cacheRow_block b k hk hb _ x2 i2 x

/-- The normaliser's pieces: each head's store is the one text of a head. -/
theorem n_pieces : ∀ p ∈ (bodyRun (F := Ideal)
      c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 arg24 harg24 arg25 harg25 x0 x1 x2 x3 x4 x5 x6 x7 x8 x9 x10 x11 x12
      x13 x14 x15 x16 x17 x18).2.2.2.2.1, ∀ x, p.2 x = nBlock (zOf x0 x8 x9 x10 x14) x17 x5 x4 (p.1.emb x) := by
  unfold bodyRun; dsimp only
  simp only [List.forall_mem_cons]
  have e := n_loaded arg1 harg1 arg5 harg5 arg6 harg6 arg9 harg9 arg10 harg10 arg11 harg11 arg15 harg15 arg18 harg18
    x0 x4 x5 x8 x9 x10 x14 x17
  exact ⟨e 3 _ _, e 2 _ _, e 1 _ _, e 0 _ _, fun _ h => absurd h List.not_mem_nil⟩

/-- The matrix memory's pieces. -/
theorem c_pieces : ∀ p ∈ (bodyRun (F := Ideal)
      c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 arg24 harg24 arg25 harg25 x0 x1 x2 x3 x4 x5 x6 x7 x8 x9 x10 x11 x12
      x13 x14 x15 x16 x17 x18).2.2.2.1, ∀ x, p.2 x = cBlock (zOf x0 x8 x9 x10 x14) x17 x5 x3 (p.1.emb x) := by
  unfold bodyRun; dsimp only
  simp only [List.forall_mem_cons]
  have e := c_loaded arg1 harg1 arg4 harg4 arg6 harg6 arg9 harg9 arg10 harg10 arg11 harg11 arg15 harg15 arg18 harg18
    x0 x3 x5 x8 x9 x10 x14 x17
  exact ⟨e 3 _ _, e 2 _ _, e 1 _ _, e 0 _ _, fun _ h => absurd h List.not_mem_nil⟩

/-- The value cache's pieces. -/
theorem cache_pieces : ∀ p ∈ (bodyRun (F := Ideal)
      c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 arg24 harg24 arg25 harg25 x0 x1 x2 x3 x4 x5 x6 x7 x8 x9 x10 x11 x12
      x13 x14 x15 x16 x17 x18).2.2.1, ∀ x, p.2 x = cacheBlock (k0_pay32 (zOf x0 x8 x9 x10 x14)) x2 (p.1.emb x) := by
  unfold bodyRun; dsimp only
  simp only [List.forall_mem_cons]
  have e (b k hk hb i2) := cache_loaded arg1 harg1 arg3 harg3 arg9 harg9 arg10 harg10 arg11 harg11 arg15 harg15
    x0 x2 x8 x9 x10 x14 b k hk hb i2
  exact ⟨e 15 4#32 (by decide) (by decide) _, e 14 12#32 (by decide) (by decide) _, e 13 20#32 (by decide) (by decide) _,
    e 12 28#32 (by decide) (by decide) _, e 11 36#32 (by decide) (by decide) _, e 10 44#32 (by decide) (by decide) _,
    e 9 52#32 (by decide) (by decide) _, e 8 60#32 (by decide) (by decide) _, e 7 68#32 (by decide) (by decide) _,
    e 6 76#32 (by decide) (by decide) _, e 5 84#32 (by decide) (by decide) _, e 4 92#32 (by decide) (by decide) _,
    e 3 100#32 (by decide) (by decide) _, e 2 108#32 (by decide) (by decide) _, e 1 116#32 (by decide) (by decide) _,
    e 0 124#32 (by decide) (by decide) _, fun _ h => absurd h List.not_mem_nil⟩

/-- Where later pieces that agree with `G` cover an index, the earlier ones do not matter there. -/
theorem canon_front {s : Shape} {e : EltTy} (G : s.Idx → Elt Ideal e) (L2 : List (View.Piece (Elt Ideal) s e)) :
    ∀ L1 : List (View.Piece (Elt Ideal) s e), (∀ p ∈ L1, ∀ x, p.2 x = G (p.1.emb x)) →
      ∀ y, (∃ p ∈ L1, y ∈ p.1.set) → View.canon (L1 ++ L2) y = G y
  | [], _, _, hc => by obtain ⟨_, hm, _⟩ := hc; exact absurd hm List.not_mem_nil
  | p :: L1, h, y, hc => by
    rw [List.cons_append]
    by_cases hy : y ∈ p.1.set
    · obtain ⟨r, w⟩ := p
      obtain ⟨x, rfl⟩ : ∃ x, r.emb x = y := r.exists_idx_of_mem hy
      rw [View.canon_cons_emb]
      exact h ⟨r, w⟩ List.mem_cons_self x
    · rw [View.canon_cons_of_not_mem p _ hy]
      refine canon_front G L2 L1 (fun q hq => h q (List.mem_cons_of_mem _ hq)) y ?_
      obtain ⟨q, hq, hyq⟩ := hc
      rcases List.mem_cons.mp hq with rfl | hq
      · exact absurd hyq hy
      · exact ⟨q, hq, hyq⟩

/-- The index of a head's row of the stabilisers lies in the store of that head. -/
theorem m_row (h : ℕ) (i : ∀ a, (![0, h, 0] : Fin 3 → ℕ) a + S16x1x128.size a ≤ S16x8x128.size a) (n : Fin 16) (hr : h < 8)
    (l : Fin 128) : (ix3 n ⟨h, hr⟩ l : S16x8x128.Idx) ∈ (Rect.unit (s := S16x8x128) ![0, h, 0] S16x1x128.size i).set := by
  rw [Rect.mem_set_unit]
  intro a
  have hn := n.isLt
  have hl := l.isLt
  fin_cases a
  · exact ⟨Nat.zero_le _, show n.val < 0 + 16 by omega⟩
  · exact ⟨Nat.le_refl _, show h < h + 1 by omega⟩
  · exact ⟨Nat.zero_le _, show l.val < 0 + 128 by omega⟩

/-- The stabiliser's buffer on the four heads' rows. -/
theorem m_canon (n : Fin 16) (h : Fin 4) (l : Fin 128) : View.canon (bodyRun (F := Ideal)
      c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 arg24 harg24 arg25 harg25 x0 x1 x2 x3 x4 x5 x6 x7 x8 x9 x10 x11 x12
      x13 x14 x15 x16 x17 x18).2.2.2.2.2.1 (ix3 n ⟨h.val, by omega⟩ l) = mBlock (zOf x0 x8 x9 x10 x14) x17 x5 (ix3 n ⟨h.val, by omega⟩ l) := by
  unfold bodyRun; dsimp only
  have e := m_loaded arg1 harg1 arg6 harg6 arg9 harg9 arg10 harg10 arg11 harg11 arg15 harg15 arg18 harg18
    x0 x5 x8 x9 x10 x14 x17
  refine canon_front _ [_] [_, _, _, _] ?_ _ ?_
  · simp only [List.forall_mem_cons]
    exact ⟨e 3 _ _, e 2 _ _, e 1 _ _, e 0 _ _, fun _ h => absurd h List.not_mem_nil⟩
  · match h with
    | 3 => exact ⟨_, .head _, m_row 3 inb_S16x8x128_S16x1x128_0_3_0 n (by decide) l⟩
    | 2 => exact ⟨_, .tail _ (.head _), m_row 2 inb_S16x8x128_S16x1x128_0_2_0 n (by decide) l⟩
    | 1 => exact ⟨_, .tail _ (.tail _ (.head _)), m_row 1 inb_S16x8x128_S16x1x128_0_1_0 n (by decide) l⟩
    | 0 => exact ⟨_, .tail _ (.tail _ (.tail _ (.head _))), m_row 0 inb_S16x8x128_S16x1x128_0_0_0 n (by decide) l⟩

end Cert.SampleProof

end
-- ==== Proof.SampleRef.lean ====
module

public import proofs.«01_k».proof.Proof.SampleSpec
public import proofs.«01_k».proof.Proof.Gen.SampleRefIdeal.Run
public import proofs.«01_k».proof.Proof.Gen.SampleRefIdeal.Read

@[expose] public section

set_option maxRecDepth 16384

/-! The reference's results read at an index as the formulas of `SampleSpec`. -/

noncomputable section

namespace Cert.SampleProof

open Idealize.ShloMosaic Idealize.ShloMosaic.TcCoe
open scoped BigOperators

open Cert.SampleRefIdeal Cert.SampleRefIdeal.Gen Cert.SampleRefIdeal.Read

/-- The reference's normalised rows. -/
theorem ref_norm (x0 : S128x4x1024.Idx → EReal) (x6 : S1x1024.Idx → EReal) (n : Fin 128) (t : Fin 4) (k : Fin 1024) :
    val_main_v13 (F := Ideal) x0 x6 (ix3 n t k) = Cert.FfnProof.normRow (fun i => x0 (ix3 n t i)) (fun i => x6 (ix2 0 i)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, Cert.FfnProof.normRow]

/-- The reference's projections. -/
theorem ref_proj (x0 : S128x4x1024.Idx → EReal) (x6 : S1x1024.Idx → EReal) (x7 : S1x1024x2824.Idx → EReal)
    (n : Fin 128) (t : Fin 4) (c : Fin 2824) :
    val_main_v15 (F := Ideal) x0 x6 x7 (ix3 n t c)
      = proj (fun i => x0 (ix3 n t i)) (fun i => x6 (ix2 0 i)) (fun k c => x7 (ix3 0 k c)) c := by
  unfold proj
  simp only [← ref_norm]
  pointwise [val_main_v15, val_main_v14]

/-- The reference's log forget gates. -/
theorem ref_lf (x0 : S128x4x1024.Idx → EReal) (x6 : S1x1024.Idx → EReal) (x7 : S1x1024x2824.Idx → EReal) (x12 : S1x4.Idx → EReal)
    (n : Fin 128) (h t : Fin 4) :
    val_main_v50 (F := Ideal) x0 x6 x7 x12 (ix3 n h t)
      = logSig (val_main_v15 (F := Ideal) x0 x6 x7 (ix3 n t ⟨2820 + h.val, by omega⟩) + x12 (ix2 0 h)) := by
  pointwise [val_main_v50, val_main_v41, val_main_call0_v1, val_main_call0_call0_v11, val_main_call0_call0_v10, val_main_call0_call0_v9,
    val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst,
    val_main_call0_v0, val_main_v40, val_main_v39, val_main_v38, val_main_v37, val_main_v24, logSig]
  rw [if_neg (fun h => h rfl)]
  exact congrArg (fun a => -(_ + Ideal.log1p (Ideal.exp (-a)))) (congrArg (max _) (neg_neg _))

/-- The reference's input gates. -/
theorem ref_ig (x0 : S128x4x1024.Idx → EReal) (x6 : S1x1024.Idx → EReal) (x7 : S1x1024x2824.Idx → EReal) (x11 : S1x4.Idx → EReal)
    (n : Fin 128) (h t : Fin 4) :
    val_main_v49 (F := Ideal) x0 x6 x7 x11 (ix3 n h t)
      = val_main_v15 (F := Ideal) x0 x6 x7 (ix3 n t ⟨2816 + h.val, by omega⟩) + x11 (ix2 0 h) := by
  pointwise [val_main_v49, val_main_v36, val_main_v35, val_main_v34, val_main_v33, val_main_v23]

/-- The reference's keys. -/
theorem ref_key (x0 : S128x4x1024.Idx → EReal) (x6 : S1x1024.Idx → EReal) (x7 : S1x1024x2824.Idx → EReal)
    (n : Fin 128) (h t : Fin 4) (d : Fin 128) :
    val_main_v47 (F := Ideal) x0 x6 x7 (ix4 n h t d)
      = val_main_v15 (F := Ideal) x0 x6 x7 (ix3 n t ⟨1280 + (h.val * 128 + d.val), by omega⟩) * Ideal.ofBits .f32 0x3DB504F3#32 := by
  pointwise [val_main_v47, val_main_v31, val_main_v30, val_main_v29, val_main_v20, val_main_cst_2]

/-- The reference's values. -/
theorem ref_val (x0 : S128x4x1024.Idx → EReal) (x6 : S1x1024.Idx → EReal) (x7 : S1x1024x2824.Idx → EReal)
    (n : Fin 128) (h t : Fin 4) (d : Fin 128) :
    val_main_v48 (F := Ideal) x0 x6 x7 (ix4 n h t d)
      = val_main_v15 (F := Ideal) x0 x6 x7 (ix3 n t ⟨1792 + (h.val * 128 + d.val), by omega⟩) := by
  pointwise [val_main_v48, val_main_v32, val_main_v21]

/-- The window's positions in row-major order are its last coordinate. -/
theorem window_pos (hN : (⟨3, ![1, 1, 4]⟩ : Shape).numel = 4) (k : Fin 4) :
    (Shape.rowMajor (⟨3, ![1, 1, 4]⟩ : Shape)).symm (k.cast hN.symm) = ix3 0 0 k := by
  rw [Equiv.symm_apply_eq]
  apply Fin.ext
  rw [Shape.rowMajor_val_three]
  simp

/-- A place of a window of four that ends at `t`: an element up to `t`, or nothing before the first. -/
theorem window_term (x : S128x4x4.Idx → EReal) (n : Fin 128) (h t k : Fin 4)
    (hN : (⟨3, ![1, 1, 4]⟩ : Shape).numel = 4) (p : Fin 3 → Nat)
    (hp : ∀ a, p a = ((ix3 n h t : S128x4x4.Idx) a).val * (![1, 1, 1] : Fin 3 → Nat) a
      + ((Shape.rowMajor (⟨3, ![1, 1, 4]⟩ : Shape)).symm (k.cast hN.symm) a).val)
    [Decidable (∀ a, (![0, 0, 3] : Fin 3 → Nat) a ≤ p a ∧ p a - (![0, 0, 3] : Fin 3 → Nat) a < S128x4x4.size a)] :
    (if hin : ∀ a, (![0, 0, 3] : Fin 3 → Nat) a ≤ p a ∧ p a - (![0, 0, 3] : Fin 3 → Nat) a < S128x4x4.size a
      then x (fun a => ⟨p a - (![0, 0, 3] : Fin 3 → Nat) a, (hin a).2⟩) else 0)
      = if hk : 3 ≤ t.val + k.val then x (ix3 n h ⟨t.val + k.val - 3, by omega⟩) else 0 := by
  have h0 : p 0 = n.val := by rw [hp 0, window_pos hN]; simp
  have h1 : p 1 = h.val := by rw [hp 1, window_pos hN]; simp
  have h2 : p 2 = t.val + k.val := by rw [hp 2, window_pos hN]; simp
  by_cases hk : 3 ≤ t.val + k.val
  · rw [dif_pos hk, dif_pos (fun a => by
      fin_cases a
      · exact ⟨Nat.zero_le _, by show p 0 - 0 < 128; omega⟩
      · exact ⟨Nat.zero_le _, by show p 1 - 0 < 4; omega⟩
      · exact ⟨by show 3 ≤ p 2; omega, by show p 2 - 3 < 4; omega⟩)]
    congr 1
    funext a
    fin_cases a <;> apply Fin.ext
    · show p 0 - 0 = n.val; omega
    · show p 1 - 0 = h.val; omega
    · show p 2 - 3 = t.val + k.val - 3; omega
  · rw [dif_neg hk, dif_neg]
    intro hin
    have := (hin 2).1
    change 3 ≤ p 2 at this
    omega

/-- A window of four that ends at each place, summed, is the running sum. -/
theorem window_sum (x : S128x4x4.Idx → EReal) (v : S_.Idx → EReal) (hv : ∀ i, v i = 0) (n : Fin 128) (h t : Fin 4) :
    Host.reduceWindowAdd (F := Ideal) (φ := .f32) ![1, 1, 4] ![1, 1, 1] ![0, 0, 3] ![0, 0, 0] x v
        reduceWindows_S128x4x4_S128x4x4_w1s1p0_0_w1s1p0_0_w4s1p3_0 h_S_ (ix3 n h t)
      = runSum (fun s => x (ix3 n h s)) t := by
  have hN : (⟨3, ![1, 1, 4]⟩ : Shape).numel = 4 := by decide
  have e : List.finRange (⟨3, ![1, 1, 4]⟩ : Shape).numel
      = [(0 : Fin 4).cast hN.symm, (1 : Fin 4).cast hN.symm, (2 : Fin 4).cast hN.symm, (3 : Fin 4).cast hN.symm] := by
    rfl
  unfold Host.reduceWindowAdd
  rw [Ideal.hostReduceWindowAdd_def]
  unfold Ideal.hostReduceWindowAdd Host.reduceWindow
  dsimp only
  rw [hv]
  erw [e]
  simp only [List.foldl]
  have w (k : Fin 4) := fun d => @window_term x n h t k hN _ (fun _ => rfl) d
  refine Eq.trans (congr (congrArg HAdd.hAdd (congr (congrArg HAdd.hAdd (congr (congrArg HAdd.hAdd
    (congrArg (0 + ·) (w 0 _))) (w 1 _))) (w 2 _))) (w 3 _)) ?_
  unfold runSum
  rw [Fin.sum_univ_four]
  fin_cases t <;> simp

section results

variable (x0 : S128x4x1024.Idx → EReal) (x2 : S1x128x128x2x64.Idx → EReal) (x3 : S1x128x4x128x128.Idx → EReal)
  (x4 : S1x128x4x128.Idx → EReal) (x5 : S1x128x4.Idx → EReal) (x6 : S1x1024.Idx → EReal) (x7 : S1x1024x2824.Idx → EReal)
  (x11 x12 : S1x4.Idx → EReal) (n : Fin 128) (h : Fin 4)

/-- The reference's running sums of the log forget gates. -/
theorem ref_run (t : Fin 4) :
    val_main_v51 (F := Ideal) x0 x6 x7 x12 (ix3 n h t) = runSum (fun s => val_main_v50 (F := Ideal) x0 x6 x7 x12 (ix3 n h s)) t := by
  refine window_sum _ _ (fun i => ?_) n h t
  exact Ideal.ofBits_zero_f32

/-- The reference's log weights on the last token's row, which no mask touches. -/
theorem ref_logWeight (s : Fin 4) :
    val_main_v60 (F := Ideal) x0 x6 x7 x11 x12 (ix4 n h 3 s)
      = logWeight (fun s => val_main_v49 (F := Ideal) x0 x6 x7 x11 (ix3 n h s)) (fun s => val_main_v50 (F := Ideal) x0 x6 x7 x12 (ix3 n h s)) s := by
  unfold logWeight
  simp only [← ref_run]
  pointwise [val_main_v60, val_main_call3_v1, val_main_v46, val_main_call1_v4, val_main_call1_v2, val_main_call1_v0, val_main_call1_v1,
    val_main_call1_c, val_main_call1_v3, val_main_v45, val_main_c, val_main_v59, val_main_v58, val_main_v57, val_main_v56, val_main_v55,
    val_main_v54, val_main_v53, val_main_v52]
  fin_cases s <;> rfl

/-- The reference's stabiliser after the last token. -/
theorem ref_m :
    val_main_v67 (F := Ideal) x0 x5 x6 x7 x11 x12 (ix2 n h)
      = mNew (fun s => val_main_v49 (F := Ideal) x0 x6 x7 x11 (ix3 n h s)) (fun s => val_main_v50 (F := Ideal) x0 x6 x7 x12 (ix3 n h s))
          (x5 (ix3 0 n h)) := by
  unfold mNew
  simp only [← ref_logWeight, ← ref_run]
  pointwise [val_main_v67, val_main_v66, val_main_v65, val_main_v64, val_main_v63, val_main_v62, val_main_v61, val_main_v44, val_main_cst_4]
  have e : (Finset.univ : Finset (Fin 4)) = {0, 1, 2, 3} := by decide
  have f (y : Fin 4 → EReal) : (Finset.univ : Finset (Fin 4)).fold max (Ideal.ofBits FTy.f32 0xFF800000#32) y
      = max (y 0) (max (y 1) (max (y 2) (y 3))) := by
    rw [e, Finset.fold_insert (by decide), Finset.fold_insert (by decide), Finset.fold_insert (by decide), Finset.fold_singleton,
      show Ideal.ofBits .f32 0xFF800000#32 = ⊥ by simp [Ideal.ofBits, Ideal.ieee]]
    simp
  rw [f]
  simp only [max_assoc]

/-- The old memory's weight in the reference. -/
theorem ref_oldWeight :
    val_main_v72 (F := Ideal) x0 x5 x6 x7 x11 x12 (ix2 n h)
      = oldWeight (fun s => val_main_v49 (F := Ideal) x0 x6 x7 x11 (ix3 n h s)) (fun s => val_main_v50 (F := Ideal) x0 x6 x7 x12 (ix3 n h s))
          (x5 (ix3 0 n h)) := by
  unfold oldWeight
  simp only [← ref_m, ← ref_run]
  pointwise [val_main_v72, val_main_v71, val_main_v70, val_main_v69, val_main_v68, val_main_v44]

/-- The tokens' weights in the reference. -/
theorem ref_tokWeight (s : Fin 4) :
    val_main_v80 (F := Ideal) x0 x5 x6 x7 x11 x12 (ix3 n h s)
      = tokWeight (fun s => val_main_v49 (F := Ideal) x0 x6 x7 x11 (ix3 n h s)) (fun s => val_main_v50 (F := Ideal) x0 x6 x7 x12 (ix3 n h s))
          (x5 (ix3 0 n h)) s := by
  unfold tokWeight logWeight
  simp only [← ref_m, ← ref_run]
  pointwise [val_main_v80, val_main_v79, val_main_v78, val_main_v77, val_main_v76, val_main_v75, val_main_v74, val_main_v73]

/-- The reference's matrix memory. -/
theorem ref_c (d e : Fin 128) :
    val_main_v95 (F := Ideal) x0 x3 x5 x6 x7 x11 x12 (ix5 0 n h d e)
      = cNew (fun s => val_main_v49 (F := Ideal) x0 x6 x7 x11 (ix3 n h s)) (fun s => val_main_v50 (F := Ideal) x0 x6 x7 x12 (ix3 n h s))
          (x5 (ix3 0 n h)) (x3 (ix5 0 n h d e)) (fun s => val_main_v47 (F := Ideal) x0 x6 x7 (ix4 n h s d))
          (fun s => val_main_v48 (F := Ideal) x0 x6 x7 (ix4 n h s e)) := by
  unfold cNew
  simp only [← ref_oldWeight, ← ref_tokWeight]
  pointwise [val_main_v95, val_main_v88, val_main_v87, val_main_v86, val_main_v85, val_main_v84, val_main_v83, val_main_v82, val_main_v81,
    val_main_v42]

/-- The reference's normaliser. -/
theorem ref_n (d : Fin 128) :
    val_main_v96 (F := Ideal) x0 x4 x5 x6 x7 x11 x12 (ix4 0 n h d)
      = nNew (fun s => val_main_v49 (F := Ideal) x0 x6 x7 x11 (ix3 n h s)) (fun s => val_main_v50 (F := Ideal) x0 x6 x7 x12 (ix3 n h s))
          (x5 (ix3 0 n h)) (x4 (ix4 0 n h d)) (fun s => val_main_v47 (F := Ideal) x0 x6 x7 (ix4 n h s d)) := by
  unfold nNew
  simp only [← ref_oldWeight, ← ref_tokWeight]
  pointwise [val_main_v96, val_main_v93, val_main_v92, val_main_v91, val_main_v90, val_main_v89, val_main_v43]

/-- The reference's value cache: the old one moved by four places, then the new tokens' values. -/
theorem ref_cache (j : Fin 128) (g : Fin 2) (d : Fin 64) :
    val_main_v94 (F := Ideal) x0 x2 x6 x7 (ix5 0 n j g d)
      = if hj : j.val < 124 then x2 (ix5 0 n ⟨j.val + 4, by omega⟩ g d)
        else val_main_v15 (F := Ideal) x0 x6 x7 (ix3 n ⟨j.val - 124, by omega⟩ ⟨640 + (g.val * 64 + d.val), by omega⟩) := by
  pointwise [val_main_v94, val_main_v28, val_main_v27, val_main_v26, val_main_v25, val_main_v18]
  by_cases hj : j.val < 124
  · rw [dif_pos hj, dif_pos (by omega)]
    exact congrArg (fun i => x2 (ix5 0 n i g d)) (Fin.ext (Nat.add_comm 4 _))
  · rw [dif_neg hj, dif_neg (by omega)]
    congr 2; exact Fin.ext (by show 4 + j.val - 128 = j.val - 124; omega)

end results

end Cert.SampleProof

end
-- ==== Proof.SamplePoint.lean ====
module

public import proofs.«01_k».proof.Proof.SampleHost
public import proofs.«01_k».proof.Proof.SampleBody
public import proofs.«01_k».proof.Proof.SampleRef

@[expose] public section

set_option maxRecDepth 16384

/-! What a point of the sample mixer's grid leaves: the reference's values at the point's sixteen sequences. -/

noncomputable section

namespace Cert.SampleProof

open Cert.SampleIdeal Cert.SampleIdeal.Gen
open Idealize.ShloMosaic Idealize.ShloMosaic.TcCoe Idealize.ShloMosaic.Tactic
open Cert.SampleRefIdeal.Read (val_main_v15 val_main_v47 val_main_v48 val_main_v49 val_main_v50 val_main_v67 val_main_v94 val_main_v95
  val_main_v96 val_main_v97)
open scoped BigOperators

variable (m : (ℓ : Loc nD τ sig) → Buf (Elt Ideal) ℓ)

/-! ## The windows' places -/

/-- Sequence `n` of point `t`'s sixteen. -/
def seqAt (t : Fin cfg0.N) (n : Fin 16) : Fin 128 :=
  ⟨t.val * 16 + n.val, by have := t.isLt; have h : cfg0.N = 8 := N_0; have := n.isLt; omega⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
theorem idx3 : ∀ t : Fin cfg0.N, win0_3.index t (0 : Fin 4) = t.val ∧ win0_3.index t (1 : Fin 4) = 0 ∧ win0_3.index t (2 : Fin 4) = 0 ∧ win0_3.index t (3 : Fin 4) = 0 :=
  (by decide +kernel : ∀ t : Fin grid0.N, win0_3.index t (0 : Fin 4) = t.val ∧ win0_3.index t (1 : Fin 4) = 0 ∧ win0_3.index t (2 : Fin 4) = 0 ∧ win0_3.index t (3 : Fin 4) = 0)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, win0_5.index t (0 : Fin 3) = t.val ∧ win0_5.index t (1 : Fin 3) = 0 ∧ win0_5.index t (2 : Fin 3) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem idx17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)

theorem emb0 (t : Fin cfg0.N) (n : Fin 16) (a : Fin 8) (b : Fin 1024) : ((cfg0.win 0).blk t).view.emb (ix3 n a b) = ix3 (seqAt t n) a b := by
  obtain ⟨e0, e1, e2⟩ := idx0 t
  funext i; apply Fin.ext
  match i with
  | ⟨0, _⟩ => show win0_0.index t (0 : Fin 3) * 16 + 1 * n.val = t.val * 16 + n.val; omega
  | ⟨1, _⟩ => show win0_0.index t (1 : Fin 3) * 8 + 1 * a.val = a.val; omega
  | ⟨2, _⟩ => show win0_0.index t (2 : Fin 3) * 1024 + 1 * b.val = b.val; omega
theorem emb2 (t : Fin cfg0.N) (n : Fin 16) (a b : Fin 128) : ((cfg0.win 2).blk t).view.emb (ix3 n a b) = ix3 (seqAt t n) a b := by
  obtain ⟨e0, e1, e2⟩ := idx2 t
  funext i; apply Fin.ext
  match i with
  | ⟨0, _⟩ => show win0_2.index t (0 : Fin 3) * 16 + 1 * n.val = t.val * 16 + n.val; omega
  | ⟨1, _⟩ => show win0_2.index t (1 : Fin 3) * 128 + 1 * a.val = a.val; omega
  | ⟨2, _⟩ => show win0_2.index t (2 : Fin 3) * 128 + 1 * b.val = b.val; omega
theorem emb3 (t : Fin cfg0.N) (n : Fin 16) (h : Fin 4) (a b : Fin 128) :
    ((cfg0.win 3).blk t).view.emb (ix4 n h a b) = ix4 (seqAt t n) h a b := by
  obtain ⟨e0, e1, e2, e3⟩ := idx3 t
  funext i; apply Fin.ext
  match i with
  | ⟨0, _⟩ => show win0_3.index t (0 : Fin 4) * 16 + 1 * n.val = t.val * 16 + n.val; omega
  | ⟨1, _⟩ => show win0_3.index t (1 : Fin 4) * 4 + 1 * h.val = h.val; omega
  | ⟨2, _⟩ => show win0_3.index t (2 : Fin 4) * 128 + 1 * a.val = a.val; omega
  | ⟨3, _⟩ => show win0_3.index t (3 : Fin 4) * 128 + 1 * b.val = b.val; omega
theorem emb4 (t : Fin cfg0.N) (n : Fin 16) (h : Fin 4) (a : Fin 128) : ((cfg0.win 4).blk t).view.emb (ix3 n h a) = ix3 (seqAt t n) h a := by
  obtain ⟨e0, e1, e2⟩ := idx4 t
  funext i; apply Fin.ext
  match i with
  | ⟨0, _⟩ => show win0_4.index t (0 : Fin 3) * 16 + 1 * n.val = t.val * 16 + n.val; omega
  | ⟨1, _⟩ => show win0_4.index t (1 : Fin 3) * 4 + 1 * h.val = h.val; omega
  | ⟨2, _⟩ => show win0_4.index t (2 : Fin 3) * 128 + 1 * a.val = a.val; omega
theorem emb5 (t : Fin cfg0.N) (n : Fin 16) (h : Fin 4) (a : Fin 1) : ((cfg0.win 5).blk t).view.emb (ix3 n h a) = ix3 (seqAt t n) h a := by
  obtain ⟨e0, e1, e2⟩ := idx5 t
  funext i; apply Fin.ext
  match i with
  | ⟨0, _⟩ => show win0_5.index t (0 : Fin 3) * 16 + 1 * n.val = t.val * 16 + n.val; omega
  | ⟨1, _⟩ => show win0_5.index t (1 : Fin 3) * 4 + 1 * h.val = h.val; omega
  | ⟨2, _⟩ => show win0_5.index t (2 : Fin 3) * 1 + 1 * a.val = a.val; omega
theorem emb9 (t : Fin cfg0.N) (a : Fin 1024) (b : Fin 2824) : ((cfg0.win 9).blk t).view.emb (ix2 a b) = ix2 a b := by
  obtain ⟨e0, e1⟩ := idx9 t
  funext i; apply Fin.ext
  match i with
  | ⟨0, _⟩ => show win0_9.index t (0 : Fin 2) * 1024 + 1 * a.val = a.val; omega
  | ⟨1, _⟩ => show win0_9.index t (1 : Fin 2) * 2824 + 1 * b.val = b.val; omega
theorem emb10 (t : Fin cfg0.N) (a : Fin 1024) (b : Fin 128) : ((cfg0.win 10).blk t).view.emb (ix2 a b) = ix2 a b := by
  obtain ⟨e0, e1⟩ := idx10 t
  funext i; apply Fin.ext
  match i with
  | ⟨0, _⟩ => show win0_10.index t (0 : Fin 2) * 1024 + 1 * a.val = a.val; omega
  | ⟨1, _⟩ => show win0_10.index t (1 : Fin 2) * 128 + 1 * b.val = b.val; omega
theorem emb14 (t : Fin cfg0.N) (a : Fin 1) (b : Fin 1024) : ((cfg0.win 14).blk t).view.emb (ix2 a b) = ix2 a b := by
  obtain ⟨e0, e1⟩ := idx14 t
  funext i; apply Fin.ext
  match i with
  | ⟨0, _⟩ => show win0_14.index t (0 : Fin 2) * 1 + 1 * a.val = a.val; omega
  | ⟨1, _⟩ => show win0_14.index t (1 : Fin 2) * 1024 + 1 * b.val = b.val; omega
theorem emb17 (t : Fin cfg0.N) (a : Fin 1) (b : Fin 128) : ((cfg0.win 17).blk t).view.emb (ix2 a b) = ix2 a b := by
  obtain ⟨e0, e1⟩ := idx17 t
  funext i; apply Fin.ext
  match i with
  | ⟨0, _⟩ => show win0_17.index t (0 : Fin 2) * 1 + 1 * a.val = a.val; omega
  | ⟨1, _⟩ => show win0_17.index t (1 : Fin 2) * 128 + 1 * b.val = b.val; omega

/-! ## The input blocks -/

theorem iblk0_at (c : Dev nD) (t : Fin cfg0.N) (n : Fin 16) (s : Fin 4) (k : Fin 1024) :
    (iblk m c 0 t : S16x8x1024.Idx → EReal) (ix3 n (tokRow s) k) = m ((c : Thread nD τ).loc main_arg0) (ix3 (seqAt t n) s k) := by
  show V m c main_v77 (((cfg0.win 0).blk t).view.emb (ix3 n (tokRow s) k)) = _
  rw [emb0]; exact (congrFun (V_v77 m c) _).trans (hostRows_at _ _ s k)
theorem iblk2_at (c : Dev nD) (t : Fin cfg0.N) (n : Fin 16) (g : Fin 2) (d : Fin 64) (j : Fin 128) :
    (iblk m c 2 t : S16x128x128.Idx → EReal) (ix3 n ⟨g.val * 64 + d.val, by omega⟩ j)
      = m ((c : Thread nD τ).loc main_arg2) (ix5 0 (seqAt t n) j g d) := by
  show V m c main_v83 (((cfg0.win 2).blk t).view.emb (ix3 n ⟨g.val * 64 + d.val, by omega⟩ j)) = _
  rw [emb2]; exact (congrFun (V_v83 m c) _).trans (hostCache_at _ _ g d j)
theorem iblk3_at (c : Dev nD) (t : Fin cfg0.N) (n : Fin 16) (h : Fin 4) (d e : Fin 128) :
    (iblk m c 3 t : S16x4x128x128.Idx → EReal) (ix4 n h d e) = m ((c : Thread nD τ).loc main_arg3) (ix5 0 (seqAt t n) h d e) := by
  show V m c main_v84 (((cfg0.win 3).blk t).view.emb (ix4 n h d e)) = _
  rw [emb3]; exact (congrFun (V_v84 m c) _).trans (hostC_at _ _ h d e)
theorem iblk4_at (c : Dev nD) (t : Fin cfg0.N) (n : Fin 16) (h : Fin 4) (d : Fin 128) :
    (iblk m c 4 t : S16x4x128.Idx → EReal) (ix3 n h d) = m ((c : Thread nD τ).loc main_arg4) (ix4 0 (seqAt t n) h d) := by
  show V m c main_v85 (((cfg0.win 4).blk t).view.emb (ix3 n h d)) = _
  rw [emb4]; exact (congrFun (V_v85 m c) _).trans (hostN_at _ _ h d)
theorem iblk5_at (c : Dev nD) (t : Fin cfg0.N) (n : Fin 16) (h : Fin 4) :
    (iblk m c 5 t : S16x4x1.Idx → EReal) (ix3 n h 0) = m ((c : Thread nD τ).loc main_arg5) (ix3 0 (seqAt t n) h) := by
  show V m c main_v87 (((cfg0.win 5).blk t).view.emb (ix3 n h 0)) = _
  rw [emb5]; exact (congrFun (V_v87 m c) _).trans (hostM_at _ _ h)
theorem iblk9_at (c : Dev nD) (t : Fin cfg0.N) (k : Fin 1024) (j : Fin 2824) :
    (iblk m c 9 t : S1024x2824.Idx → EReal) (ix2 k j) = m ((c : Thread nD τ).loc main_arg7) (ix3 0 k j) := by
  show V m c main_v1 (((cfg0.win 9).blk t).view.emb (ix2 k j)) = _
  rw [emb9]; exact (congrFun (V_v1 m c) _).trans (hostW_at _ k j)
theorem iblk10_i (c : Dev nD) (t : Fin cfg0.N) (k : Fin 1024) (h : Fin 4) :
    (iblk m c 10 t : S1024x128.Idx → EReal) (ix2 k (igLane h)) = m ((c : Thread nD τ).loc main_arg7) (ix3 0 k ⟨2816 + h.val, by omega⟩) := by
  show V m c main_v6 (((cfg0.win 10).blk t).view.emb (ix2 k (igLane h))) = _
  rw [emb10]; exact (congrFun (V_v6 m c) _).trans (hostGates_i _ k h)
theorem iblk10_f (c : Dev nD) (t : Fin cfg0.N) (k : Fin 1024) (h : Fin 4) :
    (iblk m c 10 t : S1024x128.Idx → EReal) (ix2 k (fgLane h)) = m ((c : Thread nD τ).loc main_arg7) (ix3 0 k ⟨2820 + h.val, by omega⟩) := by
  show V m c main_v6 (((cfg0.win 10).blk t).view.emb (ix2 k (fgLane h))) = _
  rw [emb10]; exact (congrFun (V_v6 m c) _).trans (hostGates_f _ k h)
theorem iblk14_at (c : Dev nD) (t : Fin cfg0.N) (k : Fin 1024) :
    (iblk m c 14 t : S1x1024.Idx → EReal) (ix2 0 k) = m ((c : Thread nD τ).loc main_arg6) (ix2 0 k) := by
  show V m c main_v16 (((cfg0.win 14).blk t).view.emb (ix2 0 k)) = _
  rw [emb14]; exact (congrFun (V_v16 m c) _).trans (hostNorm_at _ k)
theorem iblk17_i (c : Dev nD) (t : Fin cfg0.N) (h : Fin 4) :
    (iblk m c 17 t : S1x128.Idx → EReal) (ix2 0 (igLane h)) = m ((c : Thread nD τ).loc main_arg11) (ix2 0 h) := by
  show V m c main_v12 (((cfg0.win 17).blk t).view.emb (ix2 0 (igLane h))) = _
  rw [emb17]; exact (congrFun (V_v12 m c) _).trans (hostBias_i _ _ h)
theorem iblk17_f (c : Dev nD) (t : Fin cfg0.N) (h : Fin 4) :
    (iblk m c 17 t : S1x128.Idx → EReal) (ix2 0 (fgLane h)) = m ((c : Thread nD τ).loc main_arg12) (ix2 0 h) := by
  show V m c main_v12 (((cfg0.win 17).blk t).view.emb (ix2 0 (fgLane h))) = _
  rw [emb17]; exact (congrFun (V_v12 m c) _).trans (hostBias_f _ _ h)

/-! ## The projections -/

/-- The columns of the projection's matrix that the body loads past the first 512. -/
theorem ld_w (x9 : Vec Ideal S1024x2824 .bf16) (k : Fin 1024) (j : Fin 2304) :
    View.ld x9 (Rect.unit (s := S1024x2824) ![0, 512] S1024x2304.size inb_S1024x2824_S1024x2304_0_512) (ix2 k j)
      = x9 (ix2 k ⟨512 + j.val, by omega⟩) := by
  pointwise []

/-- A block's projections are the formula's, at a column that is neither a query's nor a gate's. -/
theorem zOf_mid (x0 : Vec Ideal S16x8x1024 .f32) (x8 : Vec Ideal S1024x512 .bf16) (x9 : Vec Ideal S1024x2824 .bf16)
    (x10 : Vec Ideal S1024x128 .bf16) (x14 : Vec Ideal S1x1024 .f32) (n : Fin 16) (t : Fin 8) (j : Fin 2824) (h1 : 512 ≤ j.val)
    (h2 : j.val < 2816) :
    zOf x0 x8 x9 x10 x14 (ix2 (rowOf n t) ⟨j.val, by omega⟩)
      = proj (fun i => x0 (ix3 n t i)) (fun i => x14 (ix2 0 i)) (fun k c => x9 (ix2 k c)) j := by
  have e : (⟨j.val, by omega⟩ : Fin 2944) = ⟨512 + (⟨j.val - 512, by omega⟩ : Fin 2304).val, by show 512 + (j.val - 512) < 2944; omega⟩ :=
    Fin.ext (show j.val = 512 + (j.val - 512) by omega)
  have e' : (⟨512 + (⟨j.val - 512, by omega⟩ : Fin 2304).val, by show 512 + (j.val - 512) < 2824; omega⟩ : Fin 2824) = j :=
    Fin.ext (show 512 + (j.val - 512) = j.val by omega)
  rw [e]
  unfold zOf proj
  rw [z_mid]
  refine Finset.sum_congr rfl fun k _ => congrArg _ ?_
  rw [ld_w, e']

/-- A gate's column of the projections likewise, where the gates' matrix holds column `j` in lane `g`. -/
theorem zOf_gate (x0 : Vec Ideal S16x8x1024 .f32) (x8 : Vec Ideal S1024x512 .bf16) (x9 : Vec Ideal S1024x2824 .bf16)
    (x10 : Vec Ideal S1024x128 .bf16) (x14 : Vec Ideal S1x1024 .f32) (n : Fin 16) (t : Fin 8) (g : Fin 128) (j : Fin 2824)
    (W : Fin 1024 → Fin 2824 → EReal) (hW : ∀ k, x10 (ix2 k g) = W k j) :
    zOf x0 x8 x9 x10 x14 (ix2 (rowOf n t) ⟨2816 + g.val, by omega⟩) = proj (fun i => x0 (ix3 n t i)) (fun i => x14 (ix2 0 i)) W j := by
  unfold zOf proj
  rw [z_gate]
  exact Finset.sum_congr rfl fun k _ => congrArg _ (hW k)

/-- Point `t`'s projections. -/
def zt (c : Dev nD) (t : Fin cfg0.N) : FVec Ideal S128x2944 .f32 :=
  zOf (iblk m c 0 t) (iblk m c 8 t) (iblk m c 9 t) (iblk m c 10 t) (iblk m c 14 t)

/-- The reference's projections of the kernel's arguments, and what it makes of them. -/
def rProj (c : Dev nD) : Cert.SampleRefIdeal.S128x4x2824.Idx → EReal :=
  val_main_v15 (F := Ideal) (m ((c : Thread nD τ).loc main_arg0)) (m ((c : Thread nD τ).loc main_arg6)) (m ((c : Thread nD τ).loc main_arg7))

theorem zt_mid (c : Dev nD) (t : Fin cfg0.N) (n : Fin 16) (s : Fin 4) (j : Fin 2824) (h1 : 512 ≤ j.val) (h2 : j.val < 2816) :
    zt m c t (ix2 (rowOf n (tokRow s)) ⟨j.val, by omega⟩) = rProj m c (ix3 (seqAt t n) s j) := by
  unfold zt rProj
  rw [zOf_mid _ _ _ _ _ _ _ _ h1 h2, ref_proj]
  simp only [iblk0_at, iblk14_at, iblk9_at]
theorem zt_i (c : Dev nD) (t : Fin cfg0.N) (n : Fin 16) (s h : Fin 4) :
    zt m c t (ix2 (rowOf n (tokRow s)) ⟨2816 + (igLane h).val, by have := (igLane h).isLt; omega⟩)
      = rProj m c (ix3 (seqAt t n) s ⟨2816 + h.val, by omega⟩) := by
  unfold zt rProj
  rw [zOf_gate _ _ _ _ _ _ _ (igLane h) ⟨2816 + h.val, by omega⟩ (fun k j => m ((c : Thread nD τ).loc main_arg7) (ix3 0 k j))
    (fun k => iblk10_i m c t k h), ref_proj]
  simp only [iblk0_at, iblk14_at]
theorem zt_f (c : Dev nD) (t : Fin cfg0.N) (n : Fin 16) (s h : Fin 4) :
    zt m c t (ix2 (rowOf n (tokRow s)) ⟨2816 + (fgLane h).val, by have := (fgLane h).isLt; omega⟩)
      = rProj m c (ix3 (seqAt t n) s ⟨2820 + h.val, by omega⟩) := by
  unfold zt rProj
  rw [zOf_gate _ _ _ _ _ _ _ (fgLane h) ⟨2820 + h.val, by omega⟩ (fun k j => m ((c : Thread nD τ).loc main_arg7) (ix3 0 k j))
    (fun k => iblk10_f m c t k h), ref_proj]
  simp only [iblk0_at, iblk14_at]

/-! ## The gates, keys and values -/

theorem gate_i (c : Dev nD) (t : Fin cfg0.N) (n : Fin 16) (h s : Fin 4) :
    gate (zt m c t) (iblk m c 17 t) n (igLane h) s
      = val_main_v49 (F := Ideal) (m ((c : Thread nD τ).loc main_arg0)) (m ((c : Thread nD τ).loc main_arg6))
          (m ((c : Thread nD τ).loc main_arg7)) (m ((c : Thread nD τ).loc main_arg11)) (ix3 (seqAt t n) h s) := by
  unfold gate
  rw [ref_ig, zt_i, iblk17_i]; rfl
theorem gate_f (c : Dev nD) (t : Fin cfg0.N) (n : Fin 16) (h s : Fin 4) :
    logSig (gate (zt m c t) (iblk m c 17 t) n (fgLane h) s)
      = val_main_v50 (F := Ideal) (m ((c : Thread nD τ).loc main_arg0)) (m ((c : Thread nD τ).loc main_arg6))
          (m ((c : Thread nD τ).loc main_arg7)) (m ((c : Thread nD τ).loc main_arg12)) (ix3 (seqAt t n) h s) := by
  unfold gate
  rw [ref_lf, zt_f, iblk17_f]; rfl
theorem key_at (c : Dev nD) (t : Fin cfg0.N) (n : Fin 16) (h : Fin 4) (d : Fin 128) (s : Fin 4) :
    key (zt m c t) n h d s
      = val_main_v47 (F := Ideal) (m ((c : Thread nD τ).loc main_arg0)) (m ((c : Thread nD τ).loc main_arg6))
          (m ((c : Thread nD τ).loc main_arg7)) (ix4 (seqAt t n) h s d) := by
  unfold key
  rw [ref_key]
  have e := zt_mid m c t n s ⟨1280 + (h.val * 128 + d.val), by omega⟩ (by show 512 ≤ 1280 + (h.val * 128 + d.val); omega)
    (by show 1280 + (h.val * 128 + d.val) < 2816; omega)
  simp only [← Nat.add_assoc] at e ⊢
  rw [e]; rfl
theorem value_at (c : Dev nD) (t : Fin cfg0.N) (n : Fin 16) (h : Fin 4) (d : Fin 128) (s : Fin 4) :
    value (zt m c t) n h d s
      = val_main_v48 (F := Ideal) (m ((c : Thread nD τ).loc main_arg0)) (m ((c : Thread nD τ).loc main_arg6))
          (m ((c : Thread nD τ).loc main_arg7)) (ix4 (seqAt t n) h s d) := by
  unfold value
  rw [ref_val]
  have e := zt_mid m c t n s ⟨1792 + (h.val * 128 + d.val), by omega⟩ (by show 512 ≤ 1792 + (h.val * 128 + d.val); omega)
    (by show 1792 + (h.val * 128 + d.val) < 2816; omega)
  simp only [← Nat.add_assoc] at e ⊢
  rw [e]; rfl

/-! ## What a point leaves -/

theorem left22_eq (c : Dev nD) (t : Fin cfg0.N) :
    left22 m c t = cBlock (zt m c t) (iblk m c 17 t) (iblk m c 5 t) (iblk m c 3 t) := by
  unfold left22
  rw [View.read_writes_eq_canon _ _ _ (covered22 m c t)]
  funext y
  refine Cert.FfnProof.canon_eq_of_pieces _ _ ?_ y (covered22 m c t y)
  unfold pieces22 zt
  apply c_pieces
theorem left23_eq (c : Dev nD) (t : Fin cfg0.N) :
    left23 m c t = nBlock (zt m c t) (iblk m c 17 t) (iblk m c 5 t) (iblk m c 4 t) := by
  unfold left23
  rw [View.read_writes_eq_canon _ _ _ (covered23 m c t)]
  funext y
  refine Cert.FfnProof.canon_eq_of_pieces _ _ ?_ y (covered23 m c t y)
  unfold pieces23 zt
  apply n_pieces
theorem left21_eq (c : Dev nD) (t : Fin cfg0.N) : left21 m c t = cacheBlock (k0_pay32 (zt m c t)) (iblk m c 2 t) := by
  unfold left21
  rw [View.read_writes_eq_canon _ _ _ (covered21 m c t)]
  funext y
  refine Cert.FfnProof.canon_eq_of_pieces _ _ ?_ y (covered21 m c t y)
  unfold pieces21 zt
  apply cache_pieces
theorem left24_row (c : Dev nD) (t : Fin cfg0.N) (n : Fin 16) (h : Fin 4) (l : Fin 128) :
    left24 m c t (ix3 n ⟨h.val, by omega⟩ l) = mOf (zt m c t) (iblk m c 17 t) n h ((iblk m c 5 t : S16x4x1.Idx → EReal) (ix3 n h 0)) := by
  unfold left24
  rw [View.read_writes_eq_canon _ _ _ (covered24 m c t)]
  have e : View.canon (pieces24 m c t) (ix3 n ⟨h.val, by omega⟩ l)
      = mBlock (zt m c t) (iblk m c 17 t) (iblk m c 5 t) (ix3 n ⟨h.val, by omega⟩ l) := by
    unfold pieces24 zt
    apply m_canon
  rw [e]
  unfold mBlock
  rw [dif_pos (show ((ix3 n ⟨h.val, by omega⟩ l : S16x8x128.Idx) 1).val < 4 from h.isLt)]
  rfl

/-- The memories a point leaves are the reference's. -/
theorem left22_at (c : Dev nD) (t : Fin cfg0.N) (n : Fin 16) (h : Fin 4) (d e : Fin 128) :
    left22 m c t (ix4 n h d e)
      = val_main_v95 (F := Ideal) (m ((c : Thread nD τ).loc main_arg0)) (m ((c : Thread nD τ).loc main_arg3))
          (m ((c : Thread nD τ).loc main_arg5)) (m ((c : Thread nD τ).loc main_arg6)) (m ((c : Thread nD τ).loc main_arg7))
          (m ((c : Thread nD τ).loc main_arg11)) (m ((c : Thread nD τ).loc main_arg12)) (ix5 0 (seqAt t n) h d e) := by
  rw [left22_eq, ref_c]
  show cOf (zt m c t) (iblk m c 17 t) n h d e ((iblk m c 5 t : S16x4x1.Idx → EReal) (ix3 n h 0))
    ((iblk m c 3 t : S16x4x128x128.Idx → EReal) (ix4 n h d e)) = _
  rw [iblk5_at, iblk3_at]
  unfold cOf
  congr 1
  · funext s; exact gate_i m c t n h s
  · funext s; exact gate_f m c t n h s
  · funext s; exact key_at m c t n h d s
  · funext s; exact value_at m c t n h e s
/-- The normalisers likewise, -/
theorem left23_at (c : Dev nD) (t : Fin cfg0.N) (n : Fin 16) (h : Fin 4) (d : Fin 128) :
    left23 m c t (ix3 n h d)
      = val_main_v96 (F := Ideal) (m ((c : Thread nD τ).loc main_arg0)) (m ((c : Thread nD τ).loc main_arg4))
          (m ((c : Thread nD τ).loc main_arg5)) (m ((c : Thread nD τ).loc main_arg6)) (m ((c : Thread nD τ).loc main_arg7))
          (m ((c : Thread nD τ).loc main_arg11)) (m ((c : Thread nD τ).loc main_arg12)) (ix4 0 (seqAt t n) h d) := by
  rw [left23_eq, ref_n]
  show nOf (zt m c t) (iblk m c 17 t) n h d ((iblk m c 5 t : S16x4x1.Idx → EReal) (ix3 n h 0))
    ((iblk m c 4 t : S16x4x128.Idx → EReal) (ix3 n h d)) = _
  rw [iblk5_at, iblk4_at]
  unfold nOf
  congr 1
  · funext s; exact gate_i m c t n h s
  · funext s; exact gate_f m c t n h s
  · funext s; exact key_at m c t n h d s
/-- the stabilisers in their four rows, -/
theorem left24_at (c : Dev nD) (t : Fin cfg0.N) (n : Fin 16) (h : Fin 4) (l : Fin 128) :
    left24 m c t (ix3 n ⟨h.val, by omega⟩ l)
      = val_main_v67 (F := Ideal) (m ((c : Thread nD τ).loc main_arg0))
          (m ((c : Thread nD τ).loc main_arg5)) (m ((c : Thread nD τ).loc main_arg6)) (m ((c : Thread nD τ).loc main_arg7))
          (m ((c : Thread nD τ).loc main_arg11)) (m ((c : Thread nD τ).loc main_arg12)) (ix2 (seqAt t n) h) := by
  rw [left24_row, ref_m, iblk5_at]
  unfold mOf
  congr 1
  · funext s; exact gate_i m c t n h s
  · funext s; exact gate_f m c t n h s

/-- The block's values of the value cache. -/
theorem v_at (z : FVec Ideal S128x2944 .f32) (r a : Fin 128) : k0_pay32 (F := Ideal) z (ix2 r a) = z (ix2 r ⟨640 + a.val, by omega⟩) := by
  pointwise [k0_pay32]
/-- and the value caches. -/
theorem left21_at (c : Dev nD) (t : Fin cfg0.N) (n : Fin 16) (g : Fin 2) (d : Fin 64) (j : Fin 128) :
    left21 m c t (ix3 n ⟨g.val * 64 + d.val, by omega⟩ j)
      = val_main_v94 (F := Ideal) (m ((c : Thread nD τ).loc main_arg0)) (m ((c : Thread nD τ).loc main_arg2))
          (m ((c : Thread nD τ).loc main_arg6)) (m ((c : Thread nD τ).loc main_arg7)) (ix5 0 (seqAt t n) j g d) := by
  rw [left21_eq, ref_cache]
  unfold cacheBlock
  by_cases hj : j.val < 124
  · rw [dif_pos hj, dif_pos (show ((ix3 n ⟨g.val * 64 + d.val, by omega⟩ j : S16x128x128.Idx) 2).val < 124 from hj)]
    exact iblk2_at m c t n g d ⟨j.val + 4, by omega⟩
  · rw [dif_neg hj, dif_neg (show ¬ ((ix3 n ⟨g.val * 64 + d.val, by omega⟩ j : S16x128x128.Idx) 2).val < 124 from hj)]
    have e := zt_mid m c t n ⟨j.val - 124, by omega⟩ ⟨640 + (g.val * 64 + d.val), by omega⟩
      (by show 512 ≤ 640 + (g.val * 64 + d.val); omega) (by show 640 + (g.val * 64 + d.val) < 2816; omega)
    exact (v_at _ _ _).trans e

end Cert.SampleProof

end
-- ==== Proof.SampleValue.lean ====
module

public import proofs.«01_k».proof.Proof.SamplePoint

@[expose] public section

set_option maxRecDepth 16384

/-! The arrays the sample mixer leaves, as the reference's results of the same arguments. -/

noncomputable section

namespace Cert.SampleProof

open Cert.SampleIdeal Cert.SampleIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window cellOf)
open Cert.SampleRefIdeal.Read (val_main_v15 val_main_v47 val_main_v48 val_main_v49 val_main_v50 val_main_v67 val_main_v94 val_main_v95
  val_main_v96 val_main_v97)

variable (m : (ℓ : Loc nD τ sig) → Buf (Elt Ideal) ℓ) (ρ : Dev nD → PrngReg)

/-! ## The results -/

/-- The reference's value cache, memories, normalisers and stabilisers of the kernel's arguments. -/
def resV (c : Dev nD) : S1x128x128x2x64.Idx → EReal :=
  val_main_v94 (F := Ideal) (m ((c : Thread nD τ).loc main_arg0)) (m ((c : Thread nD τ).loc main_arg2))
    (m ((c : Thread nD τ).loc main_arg6)) (m ((c : Thread nD τ).loc main_arg7))
def resC (c : Dev nD) : S1x128x4x128x128.Idx → EReal :=
  val_main_v95 (F := Ideal) (m ((c : Thread nD τ).loc main_arg0)) (m ((c : Thread nD τ).loc main_arg3))
    (m ((c : Thread nD τ).loc main_arg5)) (m ((c : Thread nD τ).loc main_arg6)) (m ((c : Thread nD τ).loc main_arg7))
    (m ((c : Thread nD τ).loc main_arg11)) (m ((c : Thread nD τ).loc main_arg12))
def resN (c : Dev nD) : S1x128x4x128.Idx → EReal :=
  val_main_v96 (F := Ideal) (m ((c : Thread nD τ).loc main_arg0)) (m ((c : Thread nD τ).loc main_arg4))
    (m ((c : Thread nD τ).loc main_arg5)) (m ((c : Thread nD τ).loc main_arg6)) (m ((c : Thread nD τ).loc main_arg7))
    (m ((c : Thread nD τ).loc main_arg11)) (m ((c : Thread nD τ).loc main_arg12))
def resM (c : Dev nD) : S1x128x4.Idx → EReal :=
  val_main_v97 (F := Ideal) (m ((c : Thread nD τ).loc main_arg0))
    (m ((c : Thread nD τ).loc main_arg5)) (m ((c : Thread nD τ).loc main_arg6)) (m ((c : Thread nD τ).loc main_arg7))
    (m ((c : Thread nD τ).loc main_arg11)) (m ((c : Thread nD τ).loc main_arg12))

theorem ref_m_shape (x0 : S128x4x1024.Idx → EReal) (x5 : S1x128x4.Idx → EReal) (x6 : S1x1024.Idx → EReal) (x7 : S1x1024x2824.Idx → EReal)
    (x11 x12 : S1x4.Idx → EReal) (n : Fin 128) (h : Fin 4) :
    val_main_v97 (F := Ideal) x0 x5 x6 x7 x11 x12 (ix3 0 n h) = val_main_v67 (F := Ideal) x0 x5 x6 x7 x11 x12 (ix2 n h) := by
  pointwise [val_main_v97]

/-! ## The result windows' places -/

theorem idx21 : ∀ t : Fin cfg0.N, win0_21.index t (0 : Fin 3) = t.val ∧ win0_21.index t (1 : Fin 3) = 0 ∧ win0_21.index t (2 : Fin 3) = 0 :=
  (by decide +kernel : ∀ t : Fin grid0.N, win0_21.index t (0 : Fin 3) = t.val ∧ win0_21.index t (1 : Fin 3) = 0 ∧ win0_21.index t (2 : Fin 3) = 0)
theorem idx22 : ∀ t : Fin cfg0.N, win0_22.index t (0 : Fin 4) = t.val ∧ win0_22.index t (1 : Fin 4) = 0 ∧ win0_22.index t (2 : Fin 4) = 0 ∧ win0_22.index t (3 : Fin 4) = 0 :=
  (by decide +kernel : ∀ t : Fin grid0.N, win0_22.index t (0 : Fin 4) = t.val ∧ win0_22.index t (1 : Fin 4) = 0 ∧ win0_22.index t (2 : Fin 4) = 0 ∧ win0_22.index t (3 : Fin 4) = 0)
theorem idx23 : ∀ t : Fin cfg0.N, win0_23.index t (0 : Fin 3) = t.val ∧ win0_23.index t (1 : Fin 3) = 0 ∧ win0_23.index t (2 : Fin 3) = 0 :=
  (by decide +kernel : ∀ t : Fin grid0.N, win0_23.index t (0 : Fin 3) = t.val ∧ win0_23.index t (1 : Fin 3) = 0 ∧ win0_23.index t (2 : Fin 3) = 0)
theorem idx24 : ∀ t : Fin cfg0.N, win0_24.index t (0 : Fin 3) = t.val ∧ win0_24.index t (1 : Fin 3) = 0 ∧ win0_24.index t (2 : Fin 3) = 0 :=
  (by decide +kernel : ∀ t : Fin grid0.N, win0_24.index t (0 : Fin 3) = t.val ∧ win0_24.index t (1 : Fin 3) = 0 ∧ win0_24.index t (2 : Fin 3) = 0)

theorem emb21 (t : Fin cfg0.N) (n : Fin 16) (a b : Fin 128) : ((cfg0.win 21).blk t).view.emb (ix3 n a b) = ix3 (seqAt t n) a b := by
  obtain ⟨e0, e1, e2⟩ := idx21 t
  funext i; apply Fin.ext
  match i with
  | ⟨0, _⟩ => show win0_21.index t (0 : Fin 3) * 16 + 1 * n.val = t.val * 16 + n.val; omega
  | ⟨1, _⟩ => show win0_21.index t (1 : Fin 3) * 128 + 1 * a.val = a.val; omega
  | ⟨2, _⟩ => show win0_21.index t (2 : Fin 3) * 128 + 1 * b.val = b.val; omega
theorem emb22 (t : Fin cfg0.N) (n : Fin 16) (h : Fin 4) (a b : Fin 128) :
    ((cfg0.win 22).blk t).view.emb (ix4 n h a b) = ix4 (seqAt t n) h a b := by
  obtain ⟨e0, e1, e2, e3⟩ := idx22 t
  funext i; apply Fin.ext
  match i with
  | ⟨0, _⟩ => show win0_22.index t (0 : Fin 4) * 16 + 1 * n.val = t.val * 16 + n.val; omega
  | ⟨1, _⟩ => show win0_22.index t (1 : Fin 4) * 4 + 1 * h.val = h.val; omega
  | ⟨2, _⟩ => show win0_22.index t (2 : Fin 4) * 128 + 1 * a.val = a.val; omega
  | ⟨3, _⟩ => show win0_22.index t (3 : Fin 4) * 128 + 1 * b.val = b.val; omega
theorem emb23 (t : Fin cfg0.N) (n : Fin 16) (h : Fin 4) (a : Fin 128) : ((cfg0.win 23).blk t).view.emb (ix3 n h a) = ix3 (seqAt t n) h a := by
  obtain ⟨e0, e1, e2⟩ := idx23 t
  funext i; apply Fin.ext
  match i with
  | ⟨0, _⟩ => show win0_23.index t (0 : Fin 3) * 16 + 1 * n.val = t.val * 16 + n.val; omega
  | ⟨1, _⟩ => show win0_23.index t (1 : Fin 3) * 4 + 1 * h.val = h.val; omega
  | ⟨2, _⟩ => show win0_23.index t (2 : Fin 3) * 128 + 1 * a.val = a.val; omega
theorem emb24 (t : Fin cfg0.N) (n : Fin 16) (h : Fin 8) (a : Fin 128) : ((cfg0.win 24).blk t).view.emb (ix3 n h a) = ix3 (seqAt t n) h a := by
  obtain ⟨e0, e1, e2⟩ := idx24 t
  funext i; apply Fin.ext
  match i with
  | ⟨0, _⟩ => show win0_24.index t (0 : Fin 3) * 16 + 1 * n.val = t.val * 16 + n.val; omega
  | ⟨1, _⟩ => show win0_24.index t (1 : Fin 3) * 8 + 1 * h.val = h.val; omega
  | ⟨2, _⟩ => show win0_24.index t (2 : Fin 3) * 128 + 1 * a.val = a.val; omega

/-- Every sequence is some point's. -/
theorem seqAt_onto (n : Fin 128) : ∃ (t : Fin cfg0.N) (r : Fin 16), seqAt t r = n := by
  have h : cfg0.N = 8 := N_0
  have := n.isLt
  exact ⟨⟨n.val / 16, by omega⟩, ⟨n.val % 16, by omega⟩, Fin.ext (show n.val / 16 * 16 + n.val % 16 = n.val by omega)⟩

/-! ## The region's result arrays -/

/-- The region's arrays: the value caches with their positions last, the memories and the normalisers; -/
def arrV (c : Dev nD) : S128x128x128.Idx → EReal := fun y =>
  resV m c (ix5 0 (y 0) (y 2) ⟨(y 1).val / 64, by have : (y 1).val < 128 := (y 1).isLt; omega⟩ ⟨(y 1).val % 64, by omega⟩)
def arrC (c : Dev nD) : S128x4x128x128.Idx → EReal := fun y => resC m c (ix5 0 (y 0) (y 1) (y 2) (y 3))
def arrN (c : Dev nD) : S128x4x128.Idx → EReal := fun y => resN m c (ix4 0 (y 0) (y 1) (y 2))
/-- the stabilisers in the first four rows, and in the others, which no result reads, what the points left there. -/
def arrM (c : Dev nD) : S128x8x128.Idx → EReal := fun y =>
  if h : (y 1).val < 4 then resM m c (ix3 0 (y 0) ⟨(y 1).val, h⟩)
  else left24 m c ⟨(y 0).val / 16, by have : (y 0).val < 128 := (y 0).isLt; have h : cfg0.N = 8 := N_0; omega⟩
    (ix3 ⟨(y 0).val % 16, by omega⟩ (y 1) (y 2))

theorem flushed21_eq (c : Dev nD) (t : Fin cfg0.N) :
    (dats m 0 c).flushed 21 t = ((cfg0.win 21).blk t).view.read (Elt Ideal) (arrV m c) := by
  funext y
  show (dats m 0 c).after 21 t y = arrV m c (((cfg0.win 21).blk t).view.emb y)
  rw [after_21]
  obtain ⟨n, a, j, rfl⟩ : ∃ (n : Fin 16) (a j : Fin 128), y = ix3 n a j := ⟨y 0, y 1, y 2, by funext a; fin_cases a <;> rfl⟩
  rw [emb21]
  have e : a = ⟨(⟨a.val / 64, by omega⟩ : Fin 2).val * 64 + (⟨a.val % 64, by omega⟩ : Fin 64).val, by
      show a.val / 64 * 64 + a.val % 64 < 128; omega⟩ := Fin.ext (show a.val = a.val / 64 * 64 + a.val % 64 by omega)
  refine (congrArg (fun a => left21 m c t (ix3 n a j)) e).trans ?_
  exact left21_at m c t n ⟨a.val / 64, by omega⟩ ⟨a.val % 64, by omega⟩ j
theorem flushed22_eq (c : Dev nD) (t : Fin cfg0.N) :
    (dats m 0 c).flushed 22 t = ((cfg0.win 22).blk t).view.read (Elt Ideal) (arrC m c) := by
  funext y
  show (dats m 0 c).after 22 t y = arrC m c (((cfg0.win 22).blk t).view.emb y)
  rw [after_22]
  obtain ⟨n, h, d, e, rfl⟩ : ∃ (n : Fin 16) (h : Fin 4) (d e : Fin 128), y = ix4 n h d e :=
    ⟨y 0, y 1, y 2, y 3, by funext a; fin_cases a <;> rfl⟩
  rw [emb22]; exact left22_at m c t n h d e
theorem flushed23_eq (c : Dev nD) (t : Fin cfg0.N) :
    (dats m 0 c).flushed 23 t = ((cfg0.win 23).blk t).view.read (Elt Ideal) (arrN m c) := by
  funext y
  show (dats m 0 c).after 23 t y = arrN m c (((cfg0.win 23).blk t).view.emb y)
  rw [after_23]
  obtain ⟨n, h, d, rfl⟩ : ∃ (n : Fin 16) (h : Fin 4) (d : Fin 128), y = ix3 n h d := ⟨y 0, y 1, y 2, by funext a; fin_cases a <;> rfl⟩
  rw [emb23]; exact left23_at m c t n h d
theorem flushed24_eq (c : Dev nD) (t : Fin cfg0.N) :
    (dats m 0 c).flushed 24 t = ((cfg0.win 24).blk t).view.read (Elt Ideal) (arrM m c) := by
  funext y
  show (dats m 0 c).after 24 t y = arrM m c (((cfg0.win 24).blk t).view.emb y)
  rw [after_24]
  obtain ⟨n, r, l, rfl⟩ : ∃ (n : Fin 16) (r : Fin 8) (l : Fin 128), y = ix3 n r l := ⟨y 0, y 1, y 2, by funext a; fin_cases a <;> rfl⟩
  rw [emb24]
  unfold arrM
  by_cases h : r.val < 4
  · rw [dif_pos (show ((ix3 (seqAt t n) r l : S128x8x128.Idx) 1).val < 4 from h)]
    exact (left24_at m c t n ⟨r.val, h⟩ l).trans (ref_m_shape _ _ _ _ _ _ _ _).symm
  · rw [dif_neg (show ¬ ((ix3 (seqAt t n) r l : S128x8x128.Idx) 1).val < 4 from h)]
    have et : t = ⟨((ix3 (seqAt t n) r l : S128x8x128.Idx) 0).val / 16, by
        show (t.val * 16 + n.val) / 16 < _; have := t.isLt; omega⟩ := Fin.ext (show t.val = (t.val * 16 + n.val) / 16 by omega)
    have en : n = ⟨((ix3 (seqAt t n) r l : S128x8x128.Idx) 0).val % 16, by omega⟩ :=
      Fin.ext (show n.val = (t.val * 16 + n.val) % 16 by omega)
    exact congr (congrArg (left24 m c) et) (congrArg (fun n => ix3 n r l) en)

theorem reached21 (i : S128x128x128.Idx) : ∃ t : Fin cfg0.N, (cfg0.win 21).flush t = true ∧ i ∈ ((cfg0.win 21).blk t).view.set := by
  obtain ⟨t, n, e⟩ := seqAt_onto (i 0)
  have h := ((cfg0.win 21).blk t).view.emb_mem_set (ix3 n (i 1) (i 2))
  have h' := (emb21 t n (i 1) (i 2)) ▸ h
  have e' : ix3 (seqAt t n) (i 1) (i 2) = i := by rw [e]; funext a; fin_cases a <;> rfl
  exact ⟨t, flush0_21 t, e' ▸ h'⟩
theorem reached22 (i : S128x4x128x128.Idx) : ∃ t : Fin cfg0.N, (cfg0.win 22).flush t = true ∧ i ∈ ((cfg0.win 22).blk t).view.set := by
  obtain ⟨t, n, e⟩ := seqAt_onto (i 0)
  have h := ((cfg0.win 22).blk t).view.emb_mem_set (ix4 n (i 1) (i 2) (i 3))
  have h' := (emb22 t n (i 1) (i 2) (i 3)) ▸ h
  have e' : ix4 (seqAt t n) (i 1) (i 2) (i 3) = i := by rw [e]; funext a; fin_cases a <;> rfl
  exact ⟨t, flush0_22 t, e' ▸ h'⟩
theorem reached23 (i : S128x4x128.Idx) : ∃ t : Fin cfg0.N, (cfg0.win 23).flush t = true ∧ i ∈ ((cfg0.win 23).blk t).view.set := by
  obtain ⟨t, n, e⟩ := seqAt_onto (i 0)
  have h := ((cfg0.win 23).blk t).view.emb_mem_set (ix3 n (i 1) (i 2))
  have h' := (emb23 t n (i 1) (i 2)) ▸ h
  have e' : ix3 (seqAt t n) (i 1) (i 2) = i := by rw [e]; funext a; fin_cases a <;> rfl
  exact ⟨t, flush0_23 t, e' ▸ h'⟩
theorem reached24 (i : S128x8x128.Idx) : ∃ t : Fin cfg0.N, (cfg0.win 24).flush t = true ∧ i ∈ ((cfg0.win 24).blk t).view.set := by
  obtain ⟨t, n, e⟩ := seqAt_onto (i 0)
  have h := ((cfg0.win 24).blk t).view.emb_mem_set (ix3 n (i 1) (i 2))
  have h' := (emb24 t n (i 1) (i 2)) ▸ h
  have e' : ix3 (seqAt t n) (i 1) (i 2) = i := by rw [e]; funext a; fin_cases a <;> rfl
  exact ⟨t, flush0_24 t, e' ▸ h'⟩
theorem final21 (c : Dev nD) : (dats m 0 c).arrAt 21 cfg0.N = arrV m c :=
  (dats m 0 c).arrAt_eq_of_cover 21 (arrV m c) (fun t _ => flushed21_eq m c t) reached21
theorem final22 (c : Dev nD) : (dats m 0 c).arrAt 22 cfg0.N = arrC m c :=
  (dats m 0 c).arrAt_eq_of_cover 22 (arrC m c) (fun t _ => flushed22_eq m c t) reached22
theorem final23 (c : Dev nD) : (dats m 0 c).arrAt 23 cfg0.N = arrN m c :=
  (dats m 0 c).arrAt_eq_of_cover 23 (arrN m c) (fun t _ => flushed23_eq m c t) reached23
theorem final24 (c : Dev nD) : (dats m 0 c).arrAt 24 cfg0.N = arrM m c :=
  (dats m 0 c).arrAt_eq_of_cover 24 (arrM m c) (fun t _ => flushed24_eq m c t) reached24

/-! ## The lines after the region -/

theorem tailV (x : S128x128x128.Idx → EReal) (n j : Fin 128) (g : Fin 2) (d : Fin 64) :
    (shapeCast S1x128x128x2x64 (transpose S128x128x128 [0, 2, 1] x transposes_S128x128x128_S128x128x128_0_2_1)
      shapeCasts_S128x128x128_S1x128x128x2x64 : FVec Ideal S1x128x128x2x64 .f32) (ix5 0 n j g d)
      = x (ix3 n ⟨g.val * 64 + d.val, by omega⟩ j) := by
  pointwise []
theorem tailC (x : S128x4x128x128.Idx → EReal) (n : Fin 128) (h : Fin 4) (d e : Fin 128) :
    (shapeCast S1x128x4x128x128 x shapeCasts_S128x4x128x128_S1x128x4x128x128 : FVec Ideal S1x128x4x128x128 .f32) (ix5 0 n h d e)
      = x (ix4 n h d e) := by
  pointwise []
theorem tailN (x : S128x4x128.Idx → EReal) (n : Fin 128) (h : Fin 4) (d : Fin 128) :
    (shapeCast S1x128x4x128 x shapeCasts_S128x4x128_S1x128x4x128 : FVec Ideal S1x128x4x128 .f32) (ix4 0 n h d) = x (ix3 n h d) := by
  pointwise []
theorem tailM (x : S128x8x128.Idx → EReal) (n : Fin 128) (h : Fin 4) :
    (shapeCast S1x128x4 (shapeCast S128x4 (extractStridedSlice S128x4x1 ![0, 0, 0] x slices_S128x8x128_S128x4x1_0_0_0)
      shapeCasts_S128x4x1_S128x4 : FVec Ideal S128x4 .f32) shapeCasts_S128x4_S1x128x4 : FVec Ideal S1x128x4 .f32) (ix3 0 n h)
      = x (ix3 n ⟨h.val, by omega⟩ 0) := by
  pointwise []

/-- The region's array of a window, as the lines after the region find it. -/
theorem exit_arr (c : Dev nD) (w : Fin cfg0.W) :
    Pipeline.withArrays cfg0.spec c (V0 m c) (fun w => (dats m 0 c).arrAt w cfg0.N) (Proc.devRef .tc (Pipeline.arrRef cfg0.spec w))
      = (dats m 0 c).arrAt w cfg0.N :=
  Pipeline.withArrays_arr cfg0.spec (by decide) c (V0 m c) _ w

theorem W_v92 (c : Dev nD) : Pipeline.afterTail₀ cfgs (dats m) 0 (V0 m) [hostOps1] c main_v92 = resV m c := by
  have e : Pipeline.afterTail₀ cfgs (dats m) 0 (V0 m) [hostOps1] c main_v92
      = shapeCast S1x128x128x2x64 (transpose S128x128x128 [0, 2, 1] (arrV m c) transposes_S128x128x128_S128x128x128_0_2_1)
        shapeCasts_S128x128x128_S1x128x128x2x64 := by
    rw [← final21, ← exit_arr]
    unfold Pipeline.afterTail₀
    simp only [hostOps1, List.flatten_cons, List.flatten_nil, List.append_nil]
    after_results_simp <;> rfl
  rw [e]
  funext y
  obtain ⟨n, j, g, d, rfl⟩ : ∃ (n j : Fin 128) (g : Fin 2) (d : Fin 64), y = ix5 0 n j g d :=
    ⟨y 1, y 2, y 3, y 4, by funext a; fin_cases a <;> first | rfl | exact Subsingleton.elim (α := Fin 1) _ _⟩
  refine (tailV _ n j g d).trans ?_
  show resV m c (ix5 0 n j ⟨(g.val * 64 + d.val) / 64, _⟩ ⟨(g.val * 64 + d.val) % 64, _⟩) = _
  congr 2
  · exact Fin.ext (show (g.val * 64 + d.val) / 64 = g.val by omega)
  · exact Fin.ext (show (g.val * 64 + d.val) % 64 = d.val by omega)
theorem W_v93 (c : Dev nD) : Pipeline.afterTail₀ cfgs (dats m) 0 (V0 m) [hostOps1] c main_v93 = resC m c := by
  have e : Pipeline.afterTail₀ cfgs (dats m) 0 (V0 m) [hostOps1] c main_v93
      = shapeCast S1x128x4x128x128 (arrC m c) shapeCasts_S128x4x128x128_S1x128x4x128x128 := by
    rw [← final22, ← exit_arr]
    unfold Pipeline.afterTail₀
    simp only [hostOps1, List.flatten_cons, List.flatten_nil, List.append_nil]
    after_results_simp <;> rfl
  rw [e]
  funext y
  obtain ⟨n, h, d, e, rfl⟩ : ∃ (n : Fin 128) (h : Fin 4) (d e : Fin 128), y = ix5 0 n h d e :=
    ⟨y 1, y 2, y 3, y 4, by funext a; fin_cases a <;> first | rfl | exact Subsingleton.elim (α := Fin 1) _ _⟩
  exact tailC _ n h d e
theorem W_v94 (c : Dev nD) : Pipeline.afterTail₀ cfgs (dats m) 0 (V0 m) [hostOps1] c main_v94 = resN m c := by
  have e : Pipeline.afterTail₀ cfgs (dats m) 0 (V0 m) [hostOps1] c main_v94
      = shapeCast S1x128x4x128 (arrN m c) shapeCasts_S128x4x128_S1x128x4x128 := by
    rw [← final23, ← exit_arr]
    unfold Pipeline.afterTail₀
    simp only [hostOps1, List.flatten_cons, List.flatten_nil, List.append_nil]
    after_results_simp <;> rfl
  rw [e]
  funext y
  obtain ⟨n, h, d, rfl⟩ : ∃ (n : Fin 128) (h : Fin 4) (d : Fin 128), y = ix4 0 n h d :=
    ⟨y 1, y 2, y 3, by funext a; fin_cases a <;> first | rfl | exact Subsingleton.elim (α := Fin 1) _ _⟩
  exact tailN _ n h d
theorem W_v95 (c : Dev nD) : Pipeline.afterTail₀ cfgs (dats m) 0 (V0 m) [hostOps1] c main_v95 = resM m c := by
  have e : Pipeline.afterTail₀ cfgs (dats m) 0 (V0 m) [hostOps1] c main_v95
      = shapeCast S1x128x4 (shapeCast S128x4 (extractStridedSlice S128x4x1 ![0, 0, 0] (arrM m c) slices_S128x8x128_S128x4x1_0_0_0)
        shapeCasts_S128x4x1_S128x4) shapeCasts_S128x4_S1x128x4 := by
    rw [← final24, ← exit_arr]
    unfold Pipeline.afterTail₀
    simp only [hostOps1, List.flatten_cons, List.flatten_nil, List.append_nil]
    after_results_simp <;> rfl
  rw [e]
  funext y
  obtain ⟨n, h, rfl⟩ : ∃ (n : Fin 128) (h : Fin 4), y = ix3 0 n h :=
    ⟨y 1, y 2, by funext a; fin_cases a <;> first | rfl | exact Subsingleton.elim (α := Fin 1) _ _⟩
  refine (tailM _ n h).trans ?_
  unfold arrM
  rw [dif_pos (show ((ix3 n ⟨h.val, by omega⟩ 0 : S128x8x128.Idx) 1).val < 4 from h.isLt)]
  rfl

/-- Every execution of the kernel ends with the reference's four results, its arguments unchanged. -/
theorem run_results : θ_run defs (onTc (τ := τ) (main (F := Ideal))) ⟨m, fun _ => 0, ρ⟩ (fun r => ∀ c : Dev nD,
      r.2.mem ((c : Thread nD τ).loc main_v92) = resV m c
      ∧ r.2.mem ((c : Thread nD τ).loc main_v93) = resC m c
      ∧ r.2.mem ((c : Thread nD τ).loc main_v94) = resN m c
      ∧ r.2.mem ((c : Thread nD τ).loc main_v95) = resM m c) :=
  (θ_run defs _ _).mono (fun _ h c =>
    ⟨(((h c).2 main_v92 (Pipeline.mem_restRefs_of main_v92 (by decide) (by decide))).trans (W_v92 m c)),
      (((h c).2 main_v93 (Pipeline.mem_restRefs_of main_v93 (by decide) (by decide))).trans (W_v93 m c)),
      (((h c).2 main_v94 (Pipeline.mem_restRefs_of main_v94 (by decide) (by decide))).trans (W_v94 m c)),
      (((h c).2 main_v95 (Pipeline.mem_restRefs_of main_v95 (by decide) (by decide))).trans (W_v95 m c))⟩) (run m ρ)

end Cert.SampleProof

end
-- ==== Proof.SampleKey.lean ====
module

public import proofs.«01_k».proof.Proof.SampleSpec

@[expose] public section

/-! The new keys of the attention as formulas over the extended reals: a head's key normalised, then turned by its position's
    angles; and which of the layer's values are finite. -/

noncomputable section

namespace Cert.SampleProof

open Idealize.ShloMosaic
open scoped BigOperators

/-! ## The formulas -/

/-- A head's key over its root mean square, times the norm's weight. -/
def normKey (k g : Fin 64 → EReal) (d : Fin 64) : EReal :=
  k d * Ideal.rsqrt (Ideal.div (∑ i : Fin 64, k i * k i) (Ideal.ofBits .f32 0x42800000#32) + Ideal.ofBits .f32 0x358637BD#32) * g d

/-- Token `t`'s angle in plane `i`: its position after the 16384 tokens before, times 10000 to the power `-i/32`. -/
def angle (t : ℕ) (i : Fin 32) : EReal :=
  (FloatOps.sitofp (F := Ideal) .f32 (BitVec.ofNat 32 t) + Ideal.ofBits .f32 0x46800000#32)
    * Ideal.pow (Ideal.ofBits .f32 0x461C4000#32)
        (Ideal.div (-(FloatOps.sitofp (F := Ideal) .f32 (BitVec.ofNat 32 i.val))) (Ideal.ofBits .f32 0x42000000#32))

/-- A vector turned in the planes of its elements `i` and `i + 32`. -/
def turned (y : Fin 64 → EReal) (a : Fin 32 → EReal) (d : Fin 64) : EReal :=
  if h : d.val < 32 then
    y d * Ideal.cos (a ⟨d.val, h⟩) - y ⟨d.val + 32, by omega⟩ * Ideal.sin (a ⟨d.val, h⟩)
  else y d * Ideal.cos (a ⟨d.val - 32, by omega⟩) + y ⟨d.val - 32, by omega⟩ * Ideal.sin (a ⟨d.val - 32, by omega⟩)

/-! ## Finite values -/

/-- An extended real that is a real number. -/
def IsFinite (x : EReal) : Prop := ∃ r : ℝ, x = r

/-- A sum of real numbers, in the extended reals. -/
theorem real_sum {n : ℕ} (g : Fin n → ℝ) : ((∑ i, g i : ℝ) : EReal) = ∑ i, (g i : EReal) := by
  induction n with
  | zero => simp
  | succ n ih => rw [Fin.sum_univ_succ, Fin.sum_univ_succ, EReal.coe_add, ih]

/-- Products and sums of finite values are finite. -/
theorem IsFinite.mul {x y : EReal} (hx : IsFinite x) (hy : IsFinite y) : IsFinite (x * y) := by
  obtain ⟨a, rfl⟩ := hx
  obtain ⟨b, rfl⟩ := hy
  exact ⟨a * b, (EReal.coe_mul a b).symm⟩

theorem IsFinite.sum {n : ℕ} {f : Fin n → EReal} (h : ∀ i, IsFinite (f i)) : IsFinite (∑ i, f i) := by
  choose g hg using h
  refine ⟨∑ i, g i, ?_⟩
  rw [real_sum]
  exact Finset.sum_congr rfl fun i _ => hg i

/-- A finite value less itself is zero. -/
theorem IsFinite.sub_self {x : EReal} (hx : IsFinite x) : x - x = 0 := by
  obtain ⟨a, rfl⟩ := hx
  rw [← EReal.coe_sub, _root_.sub_self, EReal.coe_zero]

/-- A value whose size is below infinity is finite. -/
theorem isFinite_of_abs_lt {x : EReal} (h : max x (-x) < ⊤) : IsFinite x := by
  induction x using EReal.rec with
  | bot => simp at h
  | coe r => exact ⟨r, rfl⟩
  | top => simp at h

theorem eps_pos : ∃ e : ℝ, 0 < e ∧ Ideal.ofBits .f32 0x358637BD#32 = (e : EReal) := by
  refine ⟨_, ?_, by simp [Ideal.ofBits, Ideal.ieee, -EReal.coe_mul]; rfl⟩
  positivity
theorem len_row : Ideal.ofBits .f32 0x44800000#32 = ((1024 : ℝ) : EReal) := by
  simp [Ideal.ofBits, Ideal.ieee, -EReal.coe_mul]; norm_num
theorem len_key : Ideal.ofBits .f32 0x42800000#32 = ((64 : ℝ) : EReal) := by
  simp [Ideal.ofBits, Ideal.ieee, -EReal.coe_mul]; norm_num
theorem inv_len_key : Ideal.ofBits .f32 0x3C800000#32 = ((1 / 64 : ℝ) : EReal) := by
  simp [Ideal.ofBits, Ideal.ieee, -EReal.coe_mul]; norm_num
theorem infinity : Ideal.ofBits .f32 0x7F800000#32 = (⊤ : EReal) := by simp [Ideal.ofBits, Ideal.ieee]

/-- A square is not negative, and infinite if its root is. -/
theorem square_nonneg (x : EReal) : 0 ≤ x * x := by
  induction x using EReal.rec with
  | bot => simp
  | coe r => rw [← EReal.coe_mul]; exact EReal.coe_nonneg.mpr (mul_self_nonneg r)
  | top => simp
theorem square_top {x : EReal} (h : ¬ IsFinite x) : x * x = ⊤ := by
  induction x using EReal.rec with
  | bot => simp
  | coe r => exact absurd ⟨r, rfl⟩ h
  | top => simp

/-- A row under the norm is finite where the norm's weight is: a row with an infinite element becomes zero. -/
theorem IsFinite.normRow {w : Fin 1024 → EReal} (x : Fin 1024 → EReal) (hw : ∀ i, IsFinite (w i)) (k : Fin 1024) :
    IsFinite (Cert.FfnProof.normRow x w k) := by
  unfold Cert.FfnProof.normRow
  obtain ⟨e, he, hE⟩ := eps_pos
  rw [hE, len_row, Ideal.div_coe (by norm_num : (1024 : ℝ) ≠ 0)]
  by_cases hx : ∀ i, IsFinite (x i)
  · refine ((hx k).mul ?_).mul (hw k)
    choose g hg using hx
    have s : ∑ i : Fin 1024, x i * x i = ((∑ i : Fin 1024, g i * g i : ℝ) : EReal) := by
      rw [real_sum]
      exact Finset.sum_congr rfl fun i _ => by rw [hg i, EReal.coe_mul]
    have p : 0 < (∑ i : Fin 1024, g i * g i) * (1 / 1024) + e :=
      add_pos_of_nonneg_of_pos (mul_nonneg (Finset.sum_nonneg fun i _ => mul_self_nonneg (g i)) (by norm_num)) he
    rw [s, ← EReal.coe_mul, ← EReal.coe_add]
    refine ⟨(Real.sqrt ((∑ i : Fin 1024, g i * g i) * (1 / 1024) + e))⁻¹, ?_⟩
    show (if _ < (0 : ℝ) then _ else if _ = (0 : ℝ) then _ else _ : EReal) = _
    rw [if_neg (not_lt.mpr p.le), if_neg p.ne']
  · obtain ⟨i, hi⟩ := not_forall.mp hx
    have s : ∑ i : Fin 1024, x i * x i = ⊤ :=
      top_le_iff.mp ((square_top hi).symm.le.trans
        (Finset.single_le_sum (f := fun i => x i * x i) (fun j _ => square_nonneg (x j)) (Finset.mem_univ i)))
    rw [s, EReal.top_mul_coe_of_pos (by norm_num), EReal.top_add_coe]
    refine ⟨0, ?_⟩
    show x k * (0 : EReal) * w k = _
    rw [mul_zero, zero_mul, EReal.coe_zero]

/-- So are a row's projections by a finite column. -/
theorem IsFinite.proj {w : Fin 1024 → EReal} {W : Fin 1024 → Fin 2824 → EReal} {c : Fin 2824} (x : Fin 1024 → EReal)
    (hw : ∀ i, IsFinite (w i)) (hW : ∀ k, IsFinite (W k c)) : IsFinite (proj x w W c) :=
  IsFinite.sum fun k => (IsFinite.normRow x hw k).mul (hW k)

/-- A mean over a key by the multiplication with 1/64. -/
theorem mean_key (x : EReal) : x * Ideal.ofBits .f32 0x3C800000#32 = Ideal.div x (Ideal.ofBits .f32 0x42800000#32) := by
  rw [len_key, inv_len_key, Ideal.div_coe (by norm_num : (64 : ℝ) ≠ 0)]

end Cert.SampleProof

end
-- ==== Proof.SampleKeyBody.lean ====
module

public import proofs.«01_k».proof.Proof.SampleKey
public import proofs.«01_k».proof.Proof.SampleCache

@[expose] public section

set_option maxRecDepth 16384

/-! The new keys as the sample mixer's body computes them, read at an index. -/

noncomputable section

namespace Cert.SampleProof

open Cert.SampleIdeal Cert.SampleIdeal.Gen Idealize.ShloMosaic Idealize.ShloMosaic.TcCoe
open scoped BigOperators

/-- The table of the two heads' lanes. -/
def headTable : FVec Ideal S128x128 .bf16 := fun i => FloatOps.ofBits .bf16 (lit0 (S128x128.rowMajor i))

/-- Its rows are of two kinds, -/
theorem table_row (i : ℕ) (h : i / 128 < 128) : lit0t i = if i / 128 < 64 then lit0t0_0 i else lit0t0_64 i := by
  unfold lit0t
  generalize i / 128 = q at *
  interval_cases q <;> rfl
/-- the first head's -/
theorem table_first (i : ℕ) : lit0t0_0 i = if i % 128 < 64 then 0x3F80#16 else 0x0000#16 := by
  unfold lit0t0_0
  have h := Nat.mod_lt i (show 128 > 0 by decide)
  generalize i % 128 = q at *
  interval_cases q <;> rfl
/-- and the second's. -/
theorem table_second (i : ℕ) : lit0t0_64 i = if i % 128 < 64 then 0x0000#16 else 0x3F80#16 := by
  unfold lit0t0_64
  have h := Nat.mod_lt i (show 128 > 0 by decide)
  generalize i % 128 = q at *
  interval_cases q <;> rfl
theorem headWords (k l : Fin 128) : lit0 ⟨k.val * 128 + l.val, by omega⟩ = if k.val / 64 = l.val / 64 then 0x3F80#16 else 0x0000#16 := by
  show lit0t (k.val * 128 + l.val) = _
  rw [table_row _ (by omega), table_first, table_second, show (k.val * 128 + l.val) / 128 = k.val by omega,
    show (k.val * 128 + l.val) % 128 = l.val by omega]
  by_cases hk : k.val < 64 <;> by_cases hl : l.val < 64
  · rw [if_pos hk, if_pos hl, if_pos (by omega)]
  · rw [if_pos hk, if_neg hl, if_neg (by omega)]
  · rw [if_neg hk, if_pos hl, if_neg (by omega)]
  · rw [if_neg hk, if_neg hl, if_pos (by omega)]

/-- The table is one where the lanes are of the same head. -/
theorem headTable_at (k l : Fin 128) : headTable (ix2 k l) = if k.val / 64 = l.val / 64 then (1 : EReal) else 0 := by
  have e : headTable (ix2 k l) = FloatOps.ofBits (F := Ideal) .bf16 (lit0 ⟨k.val * 128 + l.val, by omega⟩) := by
    unfold headTable
    congr 2
    apply Fin.ext
    rw [Shape.rowMajor_val_two]
    rfl
  rw [e, headWords]
  split
  · exact Ideal.ofBits_one_bf16
  · exact Ideal.ofBits_zero_bf16

/-- A sum over the lanes of a head. -/
theorem head_sum (f : Fin 128 → EReal) (l : Fin 128) :
    ∑ k : Fin 128, f k * headTable (ix2 k l) = ∑ e : Fin 64, f ⟨l.val / 64 * 64 + e.val, by omega⟩ := by
  simp only [headTable_at, mul_ite, mul_one, mul_zero]
  rw [← Finset.sum_filter]
  refine (Finset.sum_bij (fun (e : Fin 64) _ => (⟨l.val / 64 * 64 + e.val, by omega⟩ : Fin 128)) ?_ ?_ ?_ ?_).symm
  · intro e _
    simp only [Finset.mem_filter, Finset.mem_univ, true_and]
    omega
  · intro a _ b _ h
    have := congrArg Fin.val h
    apply Fin.ext
    simp only at this
    omega
  · intro k hk
    simp only [Finset.mem_filter, Finset.mem_univ, true_and] at hk
    exact ⟨⟨k.val - l.val / 64 * 64, by omega⟩, Finset.mem_univ _, Fin.ext (by simp only; omega)⟩
  · intro e _
    rfl

/-- The block's keys before their norm. -/
theorem k_at (z : FVec Ideal S128x2944 .f32) (r a : Fin 128) : k0_pay26 (F := Ideal) z (ix2 r a) = z (ix2 r ⟨512 + a.val, by omega⟩) := by
  pointwise [k0_pay26]

/-- The block's new keys, from its projections, the tables of cosines and sines, the heads' lanes and the norm's weight. -/
def keyNew (z : FVec Ideal S128x2944 .f32) (x6 x7 : Vec Ideal S128x128 .f32) (x16 : Vec Ideal S1x128 .f32) (x13 : Vec Ideal S128x128 .bf16) :
    FVec Ideal S128x128 .f32 :=
  k0_pay31 (iota .tc S128x128 32 [1] iota_S128x128_d1_w32) (k0_pay4 x6) (k0_pay5 x7) (k0_pay26 z) (k0_pay27 x16) (k0_pay29 z) (k0_pay30 z)
    x13 x13

/-- The keys under their norm. -/
def keyNorm (z : FVec Ideal S128x2944 .f32) (x16 : Vec Ideal S1x128 .f32) (x13 : Vec Ideal S128x128 .bf16) (r l : Fin 128) : EReal :=
  z (ix2 r ⟨512 + l.val, by omega⟩)
    * Ideal.rsqrt ((∑ k : Fin 128, (z (ix2 r ⟨512 + k.val, by omega⟩) * z (ix2 r ⟨512 + k.val, by omega⟩)) * x13 (ix2 k l)
          + ∑ k : Fin 128, (z (ix2 r ⟨512 + k.val, by omega⟩) * z (ix2 r ⟨512 + k.val, by omega⟩)
              - z (ix2 r ⟨512 + k.val, by omega⟩) * z (ix2 r ⟨512 + k.val, by omega⟩)) * x13 (ix2 k l))
        * Ideal.ofBits .f32 0x3C800000#32 + Ideal.ofBits .f32 0x358637BD#32)
    * x16 (ix2 0 l)

/-- The new keys at an index: the normalised key by the cosine, and its partner's by the signed sine. -/
theorem keyNew_at (z : FVec Ideal S128x2944 .f32) (x6 x7 : Vec Ideal S128x128 .f32) (x16 : Vec Ideal S1x128 .f32)
    (x13 : Vec Ideal S128x128 .bf16) (r l : Fin 128) :
    keyNew z x6 x7 x16 x13 (ix2 r l)
      = keyNorm z x16 x13 r l * x6 (ix2 r l)
        + Scalar.select (IntOp.cmpi .ne (IntOp.andi (BitVec.ofNat 32 l.val) 32#32) 0#32)
            (keyNorm z x16 x13 r ⟨(l.val + 128 - 32) % 128, Nat.mod_lt _ (by decide)⟩)
            (keyNorm z x16 x13 r ⟨(l.val + 128 - 96) % 128, Nat.mod_lt _ (by decide)⟩) * x7 (ix2 r l) := by
  unfold keyNorm
  pointwise [keyNew, k0_pay31, k0_pay4, k0_pay5, k0_pay26, k0_pay27, k0_pay28, k0_pay29, k0_pay30]

end Cert.SampleProof

end
-- ==== Proof.SampleKeyHost.lean ====
module

public import proofs.«01_k».proof.Proof.SampleKeyBody
public import proofs.«01_k».proof.Proof.SampleHost

@[expose] public section

set_option maxRecDepth 16384

/-! The tables the host prepares for the new keys, read at an index. -/

noncomputable section

namespace Cert.SampleProof

open Cert.SampleIdeal Cert.SampleIdeal.Gen

open Idealize.ShloMosaic Idealize.ShloMosaic.TcCoe Idealize.ShloMosaic.Tactic

/-! ## The host's texts -/

/-- The positions' angles. -/
def hostAngle : FVec Ideal S8x32 .f32 :=
  mulf
    (broadcastInDim S8x32 ![0, 1] bcast_S8x1_S8x32_0_1 (broadcastInDim S8x1 ![0] bcast_S8_S8x1_0
      (addf (sitofp .f32 (iotaInDim S8 32 0)) (broadcastInDim S8 ![] bcast_S_S8 (constant (F := Ideal) S_ .f32 0x46800000#32)))))
    (broadcastInDim S8x32 ![0, 1] bcast_S1x32_S8x32_0_1 (broadcastInDim S1x32 ![1] bcast_S32_S1x32_1
      (Host.powf (broadcastInDim S32 ![] bcast_S_S32 (constant (F := Ideal) S_ .f32 0x461C4000#32))
        (Host.divf (Host.negf (sitofp .f32 (iotaInDim S32 32 0)))
          (broadcastInDim S32 ![] bcast_S_S32 (constant (F := Ideal) S_ .f32 0x42000000#32))))))
/-- The cosines, for each head's half lanes and each sequence. -/
def hostCos : FVec Ideal S128x128 .f32 :=
  shapeCast S128x128 (broadcastInDim S16x8x1x128 ![0, 1, 2, 3] bcast_S1x8x1x128_S16x8x1x128_0_1_2_3
    (shapeCast S1x8x1x128 (shapeCast S8x128 (broadcastInDim S1x8x4x32 ![0, 1, 2, 3] bcast_S1x8x1x32_S1x8x4x32_0_1_2_3
      (shapeCast S1x8x1x32 (Host.cos hostAngle : FVec Ideal S8x32 .f32) shapeCasts_S8x32_S1x8x1x32 : FVec Ideal S1x8x1x32 .f32))
      shapeCasts_S1x8x4x32_S8x128 : FVec Ideal S8x128 .f32) shapeCasts_S8x128_S1x8x1x128 : FVec Ideal S1x8x1x128 .f32))
    shapeCasts_S16x8x1x128_S128x128
/-- The sines, negated on a head's first half. -/
def hostSin : FVec Ideal S128x128 .f32 :=
  shapeCast S128x128 (broadcastInDim S16x8x1x128 ![0, 1, 2, 3] bcast_S1x8x1x128_S16x8x1x128_0_1_2_3
    (shapeCast S1x8x1x128 (shapeCast S8x128 (broadcastInDim S1x8x2x64 ![0, 1, 2, 3] bcast_S1x8x1x64_S1x8x2x64_0_1_2_3
      (shapeCast S1x8x1x64 (concatenate S8x64 1 [⟨S8x32, (Host.negf (Host.sin hostAngle) : FVec Ideal S8x32 .f32)⟩,
          ⟨S8x32, (Host.sin hostAngle : FVec Ideal S8x32 .f32)⟩] concatenates_S8x32_S8x32_S8x64_d1 : FVec Ideal S8x64 .f32)
        shapeCasts_S8x64_S1x8x1x64 : FVec Ideal S1x8x1x64 .f32))
      shapeCasts_S1x8x2x64_S8x128 : FVec Ideal S8x128 .f32) shapeCasts_S8x128_S1x8x1x128 : FVec Ideal S1x8x1x128 .f32))
    shapeCasts_S16x8x1x128_S128x128
/-- The keys' norm's weight, once for each head. -/
def hostKeyNorm (x : S1x64.Idx → EReal) : FVec Ideal S1x128 .f32 :=
  shapeCast S1x128 (shapeCast S128 (broadcastInDim S2x64 ![0, 1] bcast_S1x64_S2x64_0_1
    (shapeCast S1x64 (shapeCast S64 x shapeCasts_S1x64_S64 : FVec Ideal S64 .f32) shapeCasts_S64_S1x64 : FVec Ideal S1x64 .f32))
    shapeCasts_S2x64_S128 : FVec Ideal S128 .f32) shapeCasts_S128_S1x128

theorem hostAngle_at (t : Fin 8) (i : Fin 32) : hostAngle (ix2 t i) = angle t.val i := by
  pointwise [hostAngle, angle]
theorem hostCos_at (n : Fin 16) (t : Fin 8) (l : Fin 128) :
    hostCos (ix2 (rowOf n t) l) = Ideal.cos (angle t.val ⟨l.val % 32, Nat.mod_lt _ (by decide)⟩) := by
  rw [← hostAngle_at]
  unfold rowOf
  pointwise [hostCos]
theorem hostSin_at (n : Fin 16) (t : Fin 8) (l : Fin 128) :
    hostSin (ix2 (rowOf n t) l)
      = if l.val % 64 < 32 then -(Ideal.sin (angle t.val ⟨l.val % 32, Nat.mod_lt _ (by decide)⟩))
        else Ideal.sin (angle t.val ⟨l.val % 32, Nat.mod_lt _ (by decide)⟩) := by
  rw [← hostAngle_at]
  unfold rowOf
  pointwise [hostSin]
  by_cases h : l.val % 64 < 32
  · rw [dif_pos h, if_pos h]
    exact congrArg (fun i => -(Ideal.sin (hostAngle (ix2 t i)))) (Fin.ext (by show l.val % 64 = l.val % 32; omega))
  · rw [dif_neg h, if_neg h]
    exact congrArg (fun i => Ideal.sin (hostAngle (ix2 t i))) (Fin.ext (by show l.val % 64 - 32 = l.val % 32; omega))
theorem hostKeyNorm_at (x : S1x64.Idx → EReal) (g : Fin 2) (d : Fin 64) :
    hostKeyNorm x (ix2 0 ⟨g.val * 64 + d.val, by omega⟩) = x (ix2 0 d) := by
  pointwise [hostKeyNorm]

/-! ## The arrays as the region finds them -/

variable (m : (ℓ : Loc nD τ sig) → Buf (Elt Ideal) ℓ)

set_option maxHeartbeats 4000000 in
theorem V_cst (c : Dev nD) : V m c main_cst = headTable := by
  unfold V V0; simp only [hostOps0, hostOps0_1, hostOps0_2, List.flatten_cons, List.flatten_nil, List.append_nil, List.cons_append,
      List.nil_append]; after_results_simp <;> rfl
set_option maxHeartbeats 4000000 in
theorem V_v26 (c : Dev nD) : V m c main_v26 = hostKeyNorm (m ((c : Thread nD τ).loc main_arg9)) := by
  unfold V V0; simp only [hostOps0, hostOps0_1, hostOps0_2, List.flatten_cons, List.flatten_nil, List.append_nil, List.cons_append,
      List.nil_append]; after_results_simp <;> rfl
set_option maxHeartbeats 4000000 in
theorem V_v73 (c : Dev nD) : V m c main_v73 = hostCos := by
  unfold V V0; simp only [hostOps0, hostOps0_1, hostOps0_2, List.flatten_cons, List.flatten_nil, List.append_nil, List.cons_append,
      List.nil_append]; after_results_simp <;> rfl
set_option maxHeartbeats 4000000 in
theorem V_v76 (c : Dev nD) : V m c main_v76 = hostSin := by
  unfold V V0; simp only [hostOps0, hostOps0_1, hostOps0_2, List.flatten_cons, List.flatten_nil, List.append_nil, List.cons_append,
      List.nil_append]; after_results_simp <;> rfl
set_option maxHeartbeats 4000000 in
theorem V_v80 (c : Dev nD) : V m c main_v80 = hostCache (m ((c : Thread nD τ).loc main_arg1)) := by
  unfold V V0; simp only [hostOps0, hostOps0_1, hostOps0_2, List.flatten_cons, List.flatten_nil, List.append_nil, List.cons_append,
      List.nil_append]; after_results_simp <;> rfl

end Cert.SampleProof

end
-- ==== Proof.SampleKeyTurn.lean ====
module

public import proofs.«01_k».proof.Proof.SampleKeyBody

@[expose] public section

set_option maxRecDepth 16384

/-! The new keys of the sample mixer's body are the formulas of `SampleKey`, where the keys before their norm are finite. -/

noncomputable section

namespace Cert.SampleProof

open Cert.SampleIdeal Cert.SampleIdeal.Gen Idealize.ShloMosaic Idealize.ShloMosaic.TcCoe
open scoped BigOperators

variable (z : FVec Ideal S128x2944 .f32) (x6 x7 : Vec Ideal S128x128 .f32) (x16 : Vec Ideal S1x128 .f32) (gain : Fin 64 → EReal)
  (a : Fin 32 → EReal) (r : Fin 128) (g : Fin 2)

/-- A head's keys under their norm. The squares the body keeps beside their rounded ones are zero over the reals. -/
theorem keyNorm_head (hz : ∀ k : Fin 128, IsFinite (z (ix2 r ⟨512 + k.val, by omega⟩)))
    (hg : ∀ d : Fin 64, x16 (ix2 0 ⟨g.val * 64 + d.val, by omega⟩) = gain d) (d : Fin 64) :
    keyNorm z x16 headTable r ⟨g.val * 64 + d.val, by omega⟩
      = normKey (fun e => z (ix2 r ⟨512 + (g.val * 64 + e.val), by omega⟩)) gain d := by
  unfold keyNorm normKey
  simp only [fun k => ((hz k).mul (hz k)).sub_self, zero_mul, Finset.sum_const_zero, add_zero]
  rw [head_sum, mean_key, hg]
  simp only [show (g.val * 64 + d.val) / 64 = g.val by omega]

/-- Which of a head's halves a lane is in. -/
theorem half_bit : ∀ l : Fin 128, IntOp.cmpi .ne (IntOp.andi (BitVec.ofNat 32 l.val) 32#32) 0#32
    = if l.val % 64 < 32 then 0#1 else 1#1 := by decide

/-- The body's new keys are the turned ones. -/
theorem keyNew_turned (hz : ∀ k : Fin 128, IsFinite (z (ix2 r ⟨512 + k.val, by omega⟩)))
    (hg : ∀ d : Fin 64, x16 (ix2 0 ⟨g.val * 64 + d.val, by omega⟩) = gain d)
    (h6 : ∀ l : Fin 128, x6 (ix2 r l) = Ideal.cos (a ⟨l.val % 32, Nat.mod_lt _ (by decide)⟩))
    (h7 : ∀ l : Fin 128, x7 (ix2 r l) = if l.val % 64 < 32 then -(Ideal.sin (a ⟨l.val % 32, Nat.mod_lt _ (by decide)⟩))
      else Ideal.sin (a ⟨l.val % 32, Nat.mod_lt _ (by decide)⟩)) (d : Fin 64) :
    keyNew z x6 x7 x16 headTable (ix2 r ⟨g.val * 64 + d.val, by omega⟩)
      = turned (normKey (fun e => z (ix2 r ⟨512 + (g.val * 64 + e.val), by omega⟩)) gain) a d := by
  have K := keyNorm_head z x16 gain r g hz hg
  rw [keyNew_at, K, h6, h7, half_bit]
  unfold turned
  by_cases hd : d.val < 32
  · have hl : (g.val * 64 + d.val) % 64 < 32 := by omega
    rw [dif_pos hd, if_pos hl, if_pos hl]
    have ea : (⟨(g.val * 64 + d.val) % 32, Nat.mod_lt _ (by decide)⟩ : Fin 32) = ⟨d.val, hd⟩ := Fin.ext (by simp only; omega)
    have ep : (⟨(g.val * 64 + d.val + 128 - 96) % 128, Nat.mod_lt _ (by decide)⟩ : Fin 128)
        = ⟨g.val * 64 + (⟨d.val + 32, by omega⟩ : Fin 64).val, by simp only; omega⟩ := Fin.ext (by simp only; omega)
    show _ + keyNorm z x16 headTable r ⟨(g.val * 64 + d.val + 128 - 96) % 128, _⟩ * _ = _
    rw [ep, K, ea, mul_neg]
    rfl
  · have hl : ¬ (g.val * 64 + d.val) % 64 < 32 := by omega
    rw [dif_neg hd, if_neg hl, if_neg hl]
    have ea : (⟨(g.val * 64 + d.val) % 32, Nat.mod_lt _ (by decide)⟩ : Fin 32) = ⟨d.val - 32, by omega⟩ := Fin.ext (by simp only; omega)
    have ep : (⟨(g.val * 64 + d.val + 128 - 32) % 128, Nat.mod_lt _ (by decide)⟩ : Fin 128)
        = ⟨g.val * 64 + (⟨d.val - 32, by omega⟩ : Fin 64).val, by simp only; omega⟩ := Fin.ext (by simp only; omega)
    show _ + keyNorm z x16 headTable r ⟨(g.val * 64 + d.val + 128 - 32) % 128, _⟩ * _ = _
    rw [ep, K, ea]

end Cert.SampleProof

end
-- ==== Proof.SampleKeyPiece.lean ====
module

public import proofs.«01_k».proof.Proof.SampleBody
public import proofs.«01_k».proof.Proof.SampleKeyBody

@[expose] public section

set_option maxRecDepth 16384

/-! What the sample mixer's run leaves of one block's key cache: each piece it writes holds, at its place, the old keys moved
    along and the block's new keys. -/

noncomputable section

namespace Cert.SampleProof

open Cert.SampleIdeal Cert.SampleIdeal.Gen
open Idealize.ShloMosaic Idealize.ShloMosaic.Tactic Idealize.ShloMosaic.TcCoe

variable
  (c : Dev nD) (i : grid0.Coords) (arg1 : Memref sig .tc .vmem S16x8x1024 .f32) (harg1 : arg1.IsWhole)
  (arg2 : Memref sig .tc .vmem S16x128x128 .f32) (harg2 : arg2.IsWhole) (arg3 : Memref sig .tc .vmem S16x128x128 .f32)
  (harg3 : arg3.IsWhole) (arg4 : Memref sig .tc .vmem S16x4x128x128 .f32) (harg4 : arg4.IsWhole)
  (arg5 : Memref sig .tc .vmem S16x4x128 .f32) (harg5 : arg5.IsWhole) (arg6 : Memref sig .tc .vmem S16x4x1 .f32)
  (harg6 : arg6.IsWhole) (arg7 : Memref sig .tc .vmem S128x128 .f32) (harg7 : arg7.IsWhole)
  (arg8 : Memref sig .tc .vmem S128x128 .f32) (harg8 : arg8.IsWhole) (arg9 : Memref sig .tc .vmem S1024x512 .bf16)
  (harg9 : arg9.IsWhole) (arg10 : Memref sig .tc .vmem S1024x2824 .bf16) (harg10 : arg10.IsWhole)
  (arg11 : Memref sig .tc .vmem S1024x128 .bf16) (harg11 : arg11.IsWhole) (arg12 : Memref sig .tc .vmem S1024x1024 .bf16)
  (harg12 : arg12.IsWhole) (arg13 : Memref sig .tc .vmem S64x128 .f32) (harg13 : arg13.IsWhole)
  (arg14 : Memref sig .tc .vmem S128x128 .bf16) (harg14 : arg14.IsWhole) (arg15 : Memref sig .tc .vmem S1x1024 .f32)
  (harg15 : arg15.IsWhole) (arg16 : Memref sig .tc .vmem S1x128 .f32) (harg16 : arg16.IsWhole)
  (arg17 : Memref sig .tc .vmem S1x128 .f32) (harg17 : arg17.IsWhole) (arg18 : Memref sig .tc .vmem S1x128 .f32)
  (harg18 : arg18.IsWhole) (arg19 : Memref sig .tc .vmem S4x128 .f32) (harg19 : arg19.IsWhole)
  (arg20 : Memref sig .tc .vmem S16x8x1024 .f32) (harg20 : arg20.IsWhole) (arg21 : Memref sig .tc .vmem S16x128x128 .f32)
  (harg21 : arg21.IsWhole) (arg22 : Memref sig .tc .vmem S16x128x128 .f32) (harg22 : arg22.IsWhole)
  (arg23 : Memref sig .tc .vmem S16x4x128x128 .f32) (harg23 : arg23.IsWhole) (arg24 : Memref sig .tc .vmem S16x4x128 .f32)
  (harg24 : arg24.IsWhole) (arg25 : Memref sig .tc .vmem S16x8x128 .f32) (harg25 : arg25.IsWhole)
  (x0 : Vec Ideal S16x8x1024 .f32) (x1 : Vec Ideal S16x128x128 .f32) (x2 : Vec Ideal S16x128x128 .f32)
  (x3 : Vec Ideal S16x4x128x128 .f32) (x4 : Vec Ideal S16x4x128 .f32) (x5 : Vec Ideal S16x4x1 .f32)
  (x6 : Vec Ideal S128x128 .f32) (x7 : Vec Ideal S128x128 .f32) (x8 : Vec Ideal S1024x512 .bf16)
  (x9 : Vec Ideal S1024x2824 .bf16) (x10 : Vec Ideal S1024x128 .bf16) (x11 : Vec Ideal S1024x1024 .bf16)
  (x12 : Vec Ideal S64x128 .f32) (x13 : Vec Ideal S128x128 .bf16) (x14 : Vec Ideal S1x1024 .f32) (x15 : Vec Ideal S1x128 .f32)
  (x16 : Vec Ideal S1x128 .f32) (x17 : Vec Ideal S1x128 .f32) (x18 : Vec Ideal S4x128 .f32)

/-- The block's new keys as the run loads what they are made of. -/
def keyLoad : FVec Ideal S128x128 .f32 := keyNew (zLoad arg1 harg1 arg9 harg9 arg10 harg10 arg11 harg11 arg15 harg15 x0 x8 x9 x10 x14)
  (View.readAt (Elt Ideal) arg7.view (Rect.unit (s := S128x128) ![0, 0] S128x128.size inb_S128x128_S128x128_0_0).toLoadRect (harg7.unread x6))
  (View.readAt (Elt Ideal) arg8.view (Rect.unit (s := S128x128) ![0, 0] S128x128.size inb_S128x128_S128x128_0_0).toLoadRect (harg8.unread x7))
  (View.readAt (Elt Ideal) arg17.view (Rect.unit (s := S1x128) ![0, 0] S1x128.size inb_S1x128_S1x128_0_0).toLoadRect (harg17.unread x16))
  (View.readAt (Elt Ideal) arg14.view (Rect.unit (s := S128x128) ![0, 0] S128x128.size inb_S128x128_S128x128_0_0).toLoadRect (harg14.unread x13))

theorem keyLoad_eq : keyLoad arg1 harg1 arg7 harg7 arg8 harg8 arg9 harg9 arg10 harg10 arg11 harg11 arg14 harg14 arg15 harg15 arg17 harg17
      x0 x6 x7 x8 x9 x10 x13 x14 x16 = keyNew (zOf x0 x8 x9 x10 x14) x6 x7 x16 x13 := by
  unfold keyLoad
  rw [zLoad_eq]
  simp only [View.readAt_eq_ld, harg7.read_unread, harg8.read_unread, harg17.read_unread, harg14.read_unread]
  rw [View.ld_unit_zero (by funext a; fin_cases a <;> rfl) _ x6, View.ld_unit_zero (by funext a; fin_cases a <;> rfl) _ x7,
    View.ld_unit_zero (by funext a; fin_cases a <;> rfl) _ x16, View.ld_unit_zero (by funext a; fin_cases a <;> rfl) _ x13]

/-- A sequence's stored key cache, with the run's loads for the block's inputs. -/
theorem key_loaded (b : ℕ) (k : BitVec 32) (hk : k.toNat + 8 * b = 124) (hb : b < 16)
    (i2 : ∀ a, (![b, 0, 0] : Fin 3 → ℕ) a + S1x128x128.size a ≤ S16x128x128.size a) (x : S1x128x128.Idx) :
    cacheRow k (keyLoad arg1 harg1 arg7 harg7 arg8 harg8 arg9 harg9 arg10 harg10 arg11 harg11 arg14 harg14 arg15 harg15 arg17 harg17
          x0 x6 x7 x8 x9 x10 x13 x14 x16)
        (View.readAt (Elt Ideal) arg2.view (Rect.unit (s := S16x128x128) ![b, 0, 0] S1x128x128.size i2).toLoadRect (harg2.unread x1)) x
      = cacheBlock (keyNew (zOf x0 x8 x9 x10 x14) x6 x7 x16 x13) x1
          ((Rect.unit (s := S16x128x128) ![b, 0, 0] S1x128x128.size i2).emb x) := by
  rw [keyLoad_eq, View.readAt_eq_ld, harg2.read_unread]
  exact cacheRow_block b k hk hb _ x1 i2 x

/-- The key cache's pieces. -/
theorem key_pieces : ∀ p ∈ (bodyRun (F := Ideal)
      c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19
      arg20 harg20 arg21 harg21 arg22 harg22 arg23 harg23 arg24 harg24 arg25 harg25 x0 x1 x2 x3 x4 x5 x6 x7 x8 x9 x10 x11 x12
      x13 x14 x15 x16 x17 x18).2.1, ∀ x, p.2 x = cacheBlock (keyNew (zOf x0 x8 x9 x10 x14) x6 x7 x16 x13) x1 (p.1.emb x) := by
  unfold bodyRun; dsimp only
  simp only [List.forall_mem_cons]
  have e (b k hk hb i2) := key_loaded arg1 harg1 arg2 harg2 arg7 harg7 arg8 harg8 arg9 harg9 arg10 harg10 arg11 harg11
    arg14 harg14 arg15 harg15 arg17 harg17 x0 x1 x6 x7 x8 x9 x10 x13 x14 x16 b k hk hb i2
  exact ⟨e 15 4#32 (by decide) (by decide) _, e 14 12#32 (by decide) (by decide) _, e 13 20#32 (by decide) (by decide) _,
    e 12 28#32 (by decide) (by decide) _, e 11 36#32 (by decide) (by decide) _, e 10 44#32 (by decide) (by decide) _,
    e 9 52#32 (by decide) (by decide) _, e 8 60#32 (by decide) (by decide) _, e 7 68#32 (by decide) (by decide) _,
    e 6 76#32 (by decide) (by decide) _, e 5 84#32 (by decide) (by decide) _, e 4 92#32 (by decide) (by decide) _,
    e 3 100#32 (by decide) (by decide) _, e 2 108#32 (by decide) (by decide) _, e 1 116#32 (by decide) (by decide) _,
    e 0 124#32 (by decide) (by decide) _, fun _ h => absurd h List.not_mem_nil⟩

end Cert.SampleProof

end
-- ==== Proof.SampleKeyRef.lean ====
module

public import proofs.«01_k».proof.Proof.SampleKey
public import proofs.«01_k».proof.Proof.SampleRef

@[expose] public section

set_option maxRecDepth 16384

/-! The reference's new key cache read at an index as the formulas of `SampleKey`. -/

noncomputable section

namespace Cert.SampleProof

open Idealize.ShloMosaic Idealize.ShloMosaic.TcCoe
open scoped BigOperators

open Cert.SampleRefIdeal Cert.SampleRefIdeal.Gen Cert.SampleRefIdeal.Read

variable (x0 : S128x4x1024.Idx → EReal) (x1 : S1x128x128x2x64.Idx → EReal) (x6 : S1x1024.Idx → EReal)
  (x7 : S1x1024x2824.Idx → EReal) (x9 : S1x64.Idx → EReal) (n : Fin 128)

/-- The reference's normalised keys. -/
theorem ref_normKey (t : Fin 4) (g : Fin 2) (d : Fin 64) :
    val_main_v115 (F := Ideal) x0 x6 x7 x9 (ix4 n t g d)
      = normKey (fun e => val_main_v15 (F := Ideal) x0 x6 x7 (ix3 n t ⟨512 + (g.val * 64 + e.val), by omega⟩)) (fun e => x9 (ix2 0 e)) d := by
  pointwise [val_main_v115, val_main_v114, val_main_v113, val_main_v112, val_main_v111, val_main_v110, val_main_v109, val_main_v108,
    val_main_v107, val_main_v106, val_main_v105, val_main_v104, val_main_v103, val_main_v102, val_main_v101, val_main_v17,
    val_main_cst_6, val_main_cst_7, val_main_cst_8, normKey]

/-- The reference's angles. -/
theorem ref_angle (t : Fin 4) (i : Fin 32) : val_main_v126 (F := Ideal) (ix2 t i) = angle t.val i := by
  pointwise [val_main_v126, val_main_v125, val_main_v124, val_main_v123, val_main_v122, val_main_v121, val_main_v120, val_main_v119,
    val_main_v118, val_main_v117, val_main_v116, val_main_v100, val_main_v99, val_main_v98, val_main_cst_5, val_main_cst_9,
    val_main_cst_10, angle]

/-- The reference's turned keys. -/
theorem ref_turned (t : Fin 4) (g : Fin 2) (d : Fin 64) :
    val_main_v147 (F := Ideal) x0 x6 x7 x9 (ix4 n t g d)
      = turned (fun e => val_main_v115 (F := Ideal) x0 x6 x7 x9 (ix4 n t g e)) (angle t.val) d := by
  unfold turned
  simp only [← ref_angle]
  pointwise [val_main_v147, val_main_v146, val_main_v145, val_main_v144, val_main_v143, val_main_v142, val_main_v141, val_main_v140,
    val_main_v139, val_main_v138, val_main_v137, val_main_v136, val_main_v135, val_main_v134, val_main_v133, val_main_v132,
    val_main_v131, val_main_v130, val_main_v129, val_main_v128, val_main_v127]
  by_cases hd : d.val < 32
  · rw [dif_pos hd, dif_pos hd]
    simp only [Nat.add_comm 32 d.val]
  · rw [dif_neg hd, dif_neg hd]
    simp only [show 32 + (d.val - 32) = d.val by omega]

/-- The reference's key cache: the old one moved by four places, then the new tokens' keys. -/
theorem ref_keyCache (j : Fin 128) (g : Fin 2) (d : Fin 64) :
    val_main_v151 (F := Ideal) x0 x1 x6 x7 x9 (ix5 0 n j g d)
      = if hj : j.val < 124 then x1 (ix5 0 n ⟨j.val + 4, by omega⟩ g d)
        else val_main_v147 (F := Ideal) x0 x6 x7 x9 (ix4 n ⟨j.val - 124, by omega⟩ g d) := by
  pointwise [val_main_v151, val_main_v150, val_main_v149, val_main_v148]
  by_cases hj : j.val < 124
  · rw [dif_pos hj, dif_pos (by omega)]
    exact congrArg (fun i => x1 (ix5 0 n i g d)) (Fin.ext (Nat.add_comm 4 _))
  · rw [dif_neg hj, dif_neg (by omega)]
    congr 2; exact Fin.ext (by show 4 + j.val - 128 = j.val - 124; omega)

end Cert.SampleProof

end
-- ==== Proof.SampleKeyPoint.lean ====
module

public import proofs.«01_k».proof.Proof.SamplePoint
public import proofs.«01_k».proof.Proof.SampleKeyHost
public import proofs.«01_k».proof.Proof.SampleKeyTurn
public import proofs.«01_k».proof.Proof.SampleKeyPiece
public import proofs.«01_k».proof.Proof.SampleKeyRef

@[expose] public section

set_option maxRecDepth 16384

/-! What a point of the sample mixer's grid leaves of the key caches: the reference's, where the projected keys are finite. -/

noncomputable section

namespace Cert.SampleProof

open Cert.SampleIdeal Cert.SampleIdeal.Gen
open Idealize.ShloMosaic Idealize.ShloMosaic.TcCoe Idealize.ShloMosaic.Tactic
open Cert.SampleRefIdeal.Read (val_main_v15 val_main_v115 val_main_v147 val_main_v151)
open scoped BigOperators

variable (m : (ℓ : Loc nD τ sig) → Buf (Elt Ideal) ℓ)

/-! ## The windows' places -/

theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)

theorem emb1 (t : Fin cfg0.N) (n : Fin 16) (a b : Fin 128) : ((cfg0.win 1).blk t).view.emb (ix3 n a b) = ix3 (seqAt t n) a b := by
  obtain ⟨e0, e1, e2⟩ := idx1 t
  funext i; apply Fin.ext
  match i with
  | ⟨0, _⟩ => show win0_1.index t (0 : Fin 3) * 16 + 1 * n.val = t.val * 16 + n.val; omega
  | ⟨1, _⟩ => show win0_1.index t (1 : Fin 3) * 128 + 1 * a.val = a.val; omega
  | ⟨2, _⟩ => show win0_1.index t (2 : Fin 3) * 128 + 1 * b.val = b.val; omega
theorem emb6 (t : Fin cfg0.N) (a b : Fin 128) : ((cfg0.win 6).blk t).view.emb (ix2 a b) = ix2 a b := by
  obtain ⟨e0, e1⟩ := idx6 t
  funext i; apply Fin.ext
  match i with
  | ⟨0, _⟩ => show win0_6.index t (0 : Fin 2) * 128 + 1 * a.val = a.val; omega
  | ⟨1, _⟩ => show win0_6.index t (1 : Fin 2) * 128 + 1 * b.val = b.val; omega
theorem emb7 (t : Fin cfg0.N) (a b : Fin 128) : ((cfg0.win 7).blk t).view.emb (ix2 a b) = ix2 a b := by
  obtain ⟨e0, e1⟩ := idx7 t
  funext i; apply Fin.ext
  match i with
  | ⟨0, _⟩ => show win0_7.index t (0 : Fin 2) * 128 + 1 * a.val = a.val; omega
  | ⟨1, _⟩ => show win0_7.index t (1 : Fin 2) * 128 + 1 * b.val = b.val; omega
theorem emb13 (t : Fin cfg0.N) (a b : Fin 128) : ((cfg0.win 13).blk t).view.emb (ix2 a b) = ix2 a b := by
  obtain ⟨e0, e1⟩ := idx13 t
  funext i; apply Fin.ext
  match i with
  | ⟨0, _⟩ => show win0_13.index t (0 : Fin 2) * 128 + 1 * a.val = a.val; omega
  | ⟨1, _⟩ => show win0_13.index t (1 : Fin 2) * 128 + 1 * b.val = b.val; omega
theorem emb16 (t : Fin cfg0.N) (a : Fin 1) (b : Fin 128) : ((cfg0.win 16).blk t).view.emb (ix2 a b) = ix2 a b := by
  obtain ⟨e0, e1⟩ := idx16 t
  funext i; apply Fin.ext
  match i with
  | ⟨0, _⟩ => show win0_16.index t (0 : Fin 2) * 1 + 1 * a.val = a.val; omega
  | ⟨1, _⟩ => show win0_16.index t (1 : Fin 2) * 128 + 1 * b.val = b.val; omega

/-! ## The input blocks -/

theorem iblk1_at (c : Dev nD) (t : Fin cfg0.N) (n : Fin 16) (g : Fin 2) (d : Fin 64) (j : Fin 128) :
    (iblk m c 1 t : S16x128x128.Idx → EReal) (ix3 n ⟨g.val * 64 + d.val, by omega⟩ j)
      = m ((c : Thread nD τ).loc main_arg1) (ix5 0 (seqAt t n) j g d) := by
  show V m c main_v80 (((cfg0.win 1).blk t).view.emb (ix3 n ⟨g.val * 64 + d.val, by omega⟩ j)) = _
  rw [emb1]; exact (congrFun (V_v80 m c) _).trans (hostCache_at _ _ g d j)
theorem iblk6_at (c : Dev nD) (t : Fin cfg0.N) (n : Fin 16) (s : Fin 8) (l : Fin 128) :
    (iblk m c 6 t : S128x128.Idx → EReal) (ix2 (rowOf n s) l) = Ideal.cos (angle s.val ⟨l.val % 32, Nat.mod_lt _ (by decide)⟩) := by
  show V m c main_v73 (((cfg0.win 6).blk t).view.emb (ix2 (rowOf n s) l)) = _
  rw [emb6]; exact (congrFun (V_v73 m c) _).trans (hostCos_at n s l)
theorem iblk7_at (c : Dev nD) (t : Fin cfg0.N) (n : Fin 16) (s : Fin 8) (l : Fin 128) :
    (iblk m c 7 t : S128x128.Idx → EReal) (ix2 (rowOf n s) l)
      = if l.val % 64 < 32 then -(Ideal.sin (angle s.val ⟨l.val % 32, Nat.mod_lt _ (by decide)⟩))
        else Ideal.sin (angle s.val ⟨l.val % 32, Nat.mod_lt _ (by decide)⟩) := by
  show V m c main_v76 (((cfg0.win 7).blk t).view.emb (ix2 (rowOf n s) l)) = _
  rw [emb7]; exact (congrFun (V_v76 m c) _).trans (hostSin_at n s l)
theorem iblk13_eq (c : Dev nD) (t : Fin cfg0.N) : (iblk m c 13 t : S128x128.Idx → EReal) = headTable := by
  funext y
  obtain ⟨a, b, rfl⟩ : ∃ a b : Fin 128, y = ix2 a b := ⟨y 0, y 1, by funext a; fin_cases a <;> rfl⟩
  show V m c main_cst (((cfg0.win 13).blk t).view.emb (ix2 a b)) = _
  rw [emb13]; exact congrFun (V_cst m c) _
theorem iblk16_at (c : Dev nD) (t : Fin cfg0.N) (g : Fin 2) (d : Fin 64) :
    (iblk m c 16 t : S1x128.Idx → EReal) (ix2 0 ⟨g.val * 64 + d.val, by omega⟩) = m ((c : Thread nD τ).loc main_arg9) (ix2 0 d) := by
  show V m c main_v26 (((cfg0.win 16).blk t).view.emb (ix2 0 ⟨g.val * 64 + d.val, by omega⟩)) = _
  rw [emb16]; exact (congrFun (V_v26 m c) _).trans (hostKeyNorm_at _ g d)

/-! ## What a point leaves -/

theorem left20_eq (c : Dev nD) (t : Fin cfg0.N) :
    left20 m c t = cacheBlock (keyNew (zt m c t) (iblk m c 6 t) (iblk m c 7 t) (iblk m c 16 t) (iblk m c 13 t)) (iblk m c 1 t) := by
  unfold left20
  rw [View.read_writes_eq_canon _ _ _ (covered20 m c t)]
  funext y
  refine Cert.FfnProof.canon_eq_of_pieces _ _ ?_ y (covered20 m c t y)
  unfold pieces20 zt
  apply key_pieces

/-- Where the norm's weight and the key columns of the projection's matrix are finite, -/
def Tame (c : Dev nD) : Prop :=
  (∀ i, IsFinite ((m ((c : Thread nD τ).loc main_arg6) : S1x1024.Idx → EReal) i))
    ∧ ∀ (k : Fin 1024) (l : Fin 128),
      IsFinite ((m ((c : Thread nD τ).loc main_arg7) : S1x1024x2824.Idx → EReal) (ix3 0 k ⟨512 + l.val, by omega⟩))

/-- the projected keys are. -/
theorem Tame.proj {c : Dev nD} (h : Tame m c) (n : Fin 128) (s : Fin 4) (l : Fin 128) :
    IsFinite (rProj m c (ix3 n s ⟨512 + l.val, by omega⟩)) := by
  unfold rProj
  rw [ref_proj]
  exact IsFinite.proj _ (fun i => h.1 _) (fun k => h.2 k l)

/-- A point's new keys are then the reference's. -/
theorem new_key_at {c : Dev nD} (hf : Tame m c) (t : Fin cfg0.N) (n : Fin 16) (s : Fin 4) (g : Fin 2) (d : Fin 64) :
    keyNew (zt m c t) (iblk m c 6 t) (iblk m c 7 t) (iblk m c 16 t) (iblk m c 13 t) (ix2 (rowOf n (tokRow s)) ⟨g.val * 64 + d.val, by omega⟩)
      = val_main_v147 (F := Ideal) (m ((c : Thread nD τ).loc main_arg0)) (m ((c : Thread nD τ).loc main_arg6))
          (m ((c : Thread nD τ).loc main_arg7)) (m ((c : Thread nD τ).loc main_arg9)) (ix4 (seqAt t n) s g d) := by
  have Z (k : Fin 128) : zt m c t (ix2 (rowOf n (tokRow s)) ⟨512 + k.val, by omega⟩)
      = rProj m c (ix3 (seqAt t n) s ⟨512 + k.val, by omega⟩) :=
    zt_mid m c t n s ⟨512 + k.val, by omega⟩ (by show 512 ≤ 512 + k.val; omega) (by show 512 + k.val < 2816; omega)
  rw [iblk13_eq]
  refine (keyNew_turned _ _ _ _ (fun e => m ((c : Thread nD τ).loc main_arg9) (ix2 0 e)) (angle s.val) _ g
    (fun k => by rw [Z]; exact hf.proj m _ _ _) (fun e => iblk16_at m c t g e) (fun l => iblk6_at m c t n (tokRow s) l)
    (fun l => iblk7_at m c t n (tokRow s) l) d).trans ?_
  rw [ref_turned]
  congr 1
  funext e
  rw [ref_normKey]
  congr 1
  funext e'
  exact Z ⟨g.val * 64 + e'.val, by omega⟩

/-- The key caches a point leaves are the reference's: at the old keys' places always, at the new ones' then. -/
theorem left20_at {c : Dev nD} (t : Fin cfg0.N) (n : Fin 16) (g : Fin 2) (d : Fin 64) (j : Fin 128) (hf : j.val < 124 ∨ Tame m c) :
    left20 m c t (ix3 n ⟨g.val * 64 + d.val, by omega⟩ j)
      = val_main_v151 (F := Ideal) (m ((c : Thread nD τ).loc main_arg0)) (m ((c : Thread nD τ).loc main_arg1))
          (m ((c : Thread nD τ).loc main_arg6)) (m ((c : Thread nD τ).loc main_arg7)) (m ((c : Thread nD τ).loc main_arg9))
          (ix5 0 (seqAt t n) j g d) := by
  rw [left20_eq, ref_keyCache]
  unfold cacheBlock
  by_cases hj : j.val < 124
  · rw [dif_pos hj, dif_pos (show ((ix3 n ⟨g.val * 64 + d.val, by omega⟩ j : S16x128x128.Idx) 2).val < 124 from hj)]
    exact iblk1_at m c t n g d ⟨j.val + 4, by omega⟩
  · rw [dif_neg hj, dif_neg (show ¬ ((ix3 n ⟨g.val * 64 + d.val, by omega⟩ j : S16x128x128.Idx) 2).val < 124 from hj)]
    exact new_key_at m (hf.resolve_left hj) t n ⟨j.val - 124, by omega⟩ g d

end Cert.SampleProof

end
-- ==== Proof.SampleKeyValue.lean ====
module

public import proofs.«01_k».proof.Proof.SampleValue
public import proofs.«01_k».proof.Proof.SampleKeyPoint

@[expose] public section

set_option maxRecDepth 16384

/-! The key caches the sample mixer leaves, as the reference's where the projected keys are finite. -/

noncomputable section

namespace Cert.SampleProof

open Cert.SampleIdeal Cert.SampleIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window cellOf)
open Cert.SampleRefIdeal.Read (val_main_v151)

variable (m : (ℓ : Loc nD τ sig) → Buf (Elt Ideal) ℓ) (ρ : Dev nD → PrngReg)

/-- The reference's key cache of the kernel's arguments. -/
def resK (c : Dev nD) : S1x128x128x2x64.Idx → EReal :=
  val_main_v151 (F := Ideal) (m ((c : Thread nD τ).loc main_arg0)) (m ((c : Thread nD τ).loc main_arg1))
    (m ((c : Thread nD τ).loc main_arg6)) (m ((c : Thread nD τ).loc main_arg7)) (m ((c : Thread nD τ).loc main_arg9))

theorem idx20 : ∀ t : Fin cfg0.N, win0_20.index t (0 : Fin 3) = t.val ∧ win0_20.index t (1 : Fin 3) = 0 ∧ win0_20.index t (2 : Fin 3) = 0 :=
  (by decide +kernel : ∀ t : Fin grid0.N, win0_20.index t (0 : Fin 3) = t.val ∧ win0_20.index t (1 : Fin 3) = 0 ∧ win0_20.index t (2 : Fin 3) = 0)
theorem emb20 (t : Fin cfg0.N) (n : Fin 16) (a b : Fin 128) : ((cfg0.win 20).blk t).view.emb (ix3 n a b) = ix3 (seqAt t n) a b := by
  obtain ⟨e0, e1, e2⟩ := idx20 t
  funext i; apply Fin.ext
  match i with
  | ⟨0, _⟩ => show win0_20.index t (0 : Fin 3) * 16 + 1 * n.val = t.val * 16 + n.val; omega
  | ⟨1, _⟩ => show win0_20.index t (1 : Fin 3) * 128 + 1 * a.val = a.val; omega
  | ⟨2, _⟩ => show win0_20.index t (2 : Fin 3) * 128 + 1 * b.val = b.val; omega

/-- The region's key caches, with their positions last: what each sequence's point left. -/
def arrK (c : Dev nD) : S128x128x128.Idx → EReal := fun y =>
  left20 m c ⟨(y 0).val / 16, by have : (y 0).val < 128 := (y 0).isLt; have h : cfg0.N = 8 := N_0; omega⟩
    (ix3 ⟨(y 0).val % 16, by omega⟩ (y 1) (y 2))

theorem arrK_at (c : Dev nD) (t : Fin cfg0.N) (n : Fin 16) (a j : Fin 128) :
    arrK m c (ix3 (seqAt t n) a j) = left20 m c t (ix3 n a j) := by
  unfold arrK
  have et : t = ⟨((ix3 (seqAt t n) a j : S128x128x128.Idx) 0).val / 16, by
      show (t.val * 16 + n.val) / 16 < _; have := t.isLt; omega⟩ := Fin.ext (show t.val = (t.val * 16 + n.val) / 16 by omega)
  have en : n = ⟨((ix3 (seqAt t n) a j : S128x128x128.Idx) 0).val % 16, by omega⟩ :=
    Fin.ext (show n.val = (t.val * 16 + n.val) % 16 by omega)
  exact (congr (congrArg (left20 m c) et) (congrArg (fun n => ix3 n a j) en)).symm

theorem flushed20_eq (c : Dev nD) (t : Fin cfg0.N) :
    (dats m 0 c).flushed 20 t = ((cfg0.win 20).blk t).view.read (Elt Ideal) (arrK m c) := by
  funext y
  show (dats m 0 c).after 20 t y = arrK m c (((cfg0.win 20).blk t).view.emb y)
  rw [after_20]
  obtain ⟨n, a, j, rfl⟩ : ∃ (n : Fin 16) (a j : Fin 128), y = ix3 n a j := ⟨y 0, y 1, y 2, by funext a; fin_cases a <;> rfl⟩
  rw [emb20]
  exact (arrK_at m c t n a j).symm
theorem reached20 (i : S128x128x128.Idx) : ∃ t : Fin cfg0.N, (cfg0.win 20).flush t = true ∧ i ∈ ((cfg0.win 20).blk t).view.set := by
  obtain ⟨t, n, e⟩ := seqAt_onto (i 0)
  have h := ((cfg0.win 20).blk t).view.emb_mem_set (ix3 n (i 1) (i 2))
  have h' := (emb20 t n (i 1) (i 2)) ▸ h
  have e' : ix3 (seqAt t n) (i 1) (i 2) = i := by rw [e]; funext a; fin_cases a <;> rfl
  exact ⟨t, flush0_20 t, e' ▸ h'⟩
theorem final20 (c : Dev nD) : (dats m 0 c).arrAt 20 cfg0.N = arrK m c :=
  (dats m 0 c).arrAt_eq_of_cover 20 (arrK m c) (fun t _ => flushed20_eq m c t) reached20

/-- The kernel's result of the region's key caches. -/
def keyLeft (c : Dev nD) : FVec Ideal S1x128x128x2x64 .f32 :=
  shapeCast S1x128x128x2x64 (transpose S128x128x128 [0, 2, 1] (arrK m c) transposes_S128x128x128_S128x128x128_0_2_1)
    shapeCasts_S128x128x128_S1x128x128x2x64

theorem W_v97 (c : Dev nD) : Pipeline.afterTail₀ cfgs (dats m) 0 (V0 m) [hostOps1] c main_v97 = keyLeft m c := by
  unfold keyLeft
  rw [← final20, ← exit_arr]
  unfold Pipeline.afterTail₀
  simp only [hostOps1, List.flatten_cons, List.flatten_nil, List.append_nil]
  after_results_simp <;> rfl

/-- It is the reference's at the old keys' places, and at the new ones' where the operands of the keys are finite. -/
theorem keyLeft_at {c : Dev nD} (n j : Fin 128) (g : Fin 2) (d : Fin 64) (hf : j.val < 124 ∨ Tame m c) :
    keyLeft m c (ix5 0 n j g d) = resK m c (ix5 0 n j g d) := by
  refine (tailV _ n j g d).trans ?_
  obtain ⟨t, r, rfl⟩ := seqAt_onto n
  exact (arrK_at m c t r _ j).trans (left20_at m t r g d j hf)

/-- Every execution of the kernel ends with those key caches. -/
theorem run_key : θ_run defs (onTc (τ := τ) (main (F := Ideal))) ⟨m, fun _ => 0, ρ⟩ (fun r => ∀ c : Dev nD,
      r.2.mem ((c : Thread nD τ).loc main_v97) = keyLeft m c) :=
  (θ_run defs _ _).mono (fun _ h c =>
    ((h c).2 main_v97 (Pipeline.mem_restRefs_of main_v97 (by decide) (by decide))).trans (W_v97 m c)) (run m ρ)

end Cert.SampleProof

end
-- ==== Proof.SampleKeyMask.lean ====
module

public import proofs.«01_k».proof.On_key_if_finite
public import proofs.«01_k».proof.Proof.SampleKeyPoint
public import Idealize.ShloMosaic.Lib.ReduceAll

@[expose] public section

set_option maxRecDepth 16384

/-! The mask of the key cache's claim: where it is one, the place is an old key's, or the norm's weight and the key columns of the
    projection's matrix are finite. -/

noncomputable section

namespace Cert.SampleProof

open Idealize.ShloMosaic Idealize.ShloMosaic.TcCoe Idealize.ShloMosaic.Tactic

/-- The mask's shape relations. -/
theorem mask_facts : Cert.On_key_if_finite.Facts :=
  ⟨by decide, by decide, by decide, by decide, by decide, by decide, by decide, by decide, by decide, by decide, by decide, by decide,
    by decide⟩

/-- A conjunction of two bits is one only if both are. -/
theorem both_bits : ∀ a b : BitVec 1, IntOp.andi a b = 1#1 → a = 1#1 ∧ b = 1#1 := by decide

/-- A disjunction only if one is. -/
theorem either_bit : ∀ a b : BitVec 1, IntOp.ori a b = 1#1 → a = 1#1 ∨ b = 1#1 := by decide

/-- The positions that the mask names old. -/
theorem old_bit : ∀ j : Fin 128, IntOp.cmpi .slt (BitVec.ofNat 32 j.val) 124#32 = 1#1 → j.val < 124 := by decide

/-- An array whose absolute values are all below infinity is finite. -/
theorem finite_of_all {s t : Shape} {axes : List (Fin s.rank)} [Subsingleton t.Idx] (x : FVec Ideal s .f32) (b : FVec Ideal s .f32)
    (hb : ∀ i, b i = (⊤ : EReal)) {u : Shape} (init : u.Idx → BitVec 1) (h : s.ReducesTo axes t) (hu : 0 < u.numel) (j : t.Idx)
    (e : Host.reduce IntOp.andi (cmpf .olt (Host.absf x) b) init h hu j = 1#1) (i : s.Idx) : IsFinite (x i) := by
  have hi := Host.reduce_andi_all _ init h hu j e i
  have hl : BitVec.ofBool (decide (max (x i) (-(x i)) < b i)) = 1#1 := hi
  rw [hb] at hl
  refine isFinite_of_abs_lt ?_
  by_contra hn
  rw [decide_eq_false hn] at hl
  exact absurd hl (by decide)

variable [Cert.On_key_if_finite.Facts]

instance : Subsingleton Cert.On_key_if_finite.S_.Idx := ⟨fun a b => funext fun i => i.elim0⟩

/-- Where the mask is one at a place of the key cache, the place is an old key's or the operands of the keys are finite. -/
theorem finite_of_mask (x0 : FVec Ideal Cert.On_key_if_finite.S128x4x1024 .f32) (x1 x2 : FVec Ideal Cert.On_key_if_finite.S1x128x128x2x64 .f32)
    (x3 : FVec Ideal Cert.On_key_if_finite.S1x128x4x128x128 .f32) (x4 : FVec Ideal Cert.On_key_if_finite.S1x128x4x128 .f32)
    (x5 : FVec Ideal Cert.On_key_if_finite.S1x128x4 .f32) (x6 : FVec Ideal Cert.On_key_if_finite.S1x1024 .f32)
    (x7 : FVec Ideal Cert.On_key_if_finite.S1x1024x2824 .f32) (x8 x9) (x10) (x11 x12) (x13) (x14) (n j : Fin 128) (g : Fin 2) (d : Fin 64)
    (h : (Cert.On_key_if_finite.fn (F := Ideal) x0 x1 x2 x3 x4 x5 x6 x7 x8 x9 x10 x11 x12 x13 x14).2.2.2.2 (ix5 0 n j g d) = 1#1) :
    j.val < 124 ∨ (∀ i, IsFinite (x6 i)) ∧ ∀ (k : Fin 1024) (l : Fin 128), IsFinite (x7 (ix3 0 k ⟨512 + l.val, by omega⟩)) := by
  rcases either_bit _ _ h with ho | hf
  · exact .inl (old_bit j ho)
  · obtain ⟨h6, h7⟩ := both_bits _ _ hf
    refine .inr ⟨fun i => finite_of_all x6 _ (fun _ => infinity) _ _ _ _ h6 i, fun k l => ?_⟩
    have f := finite_of_all _ _ (fun _ => infinity) _ _ _ _ h7 (ix3 0 k l)
    have e : extractStridedSlice Cert.On_key_if_finite.S1x1024x128 ![0, 0, 512] x7
        Cert.On_key_if_finite.Facts.slices_S1x1024x2824_S1x1024x128_0_0_512 (ix3 0 k l) = x7 (ix3 0 k ⟨512 + l.val, by omega⟩) := by
      pointwise []
    exact e ▸ f

end Cert.SampleProof

end
-- ==== Proof.SampleClaim.lean ====
module

public import proofs.«01_k».proof.Defs
public import proofs.«01_k».proof.Proof.SampleKeyValue
public import proofs.«01_k».proof.Proof.SampleKeyMask
public import proofs.«01_k».proof.Proof.Gen.SampleRefIdeal
public import proofs.«01_k».proof.Proof.Gen.SampleRefIdeal.Run
public import Idealize.ShloMosaic.Lib.Claim

@[expose] public section

set_option maxRecDepth 16384

/-! The sample mixer's claims over the reals. -/

noncomputable section

namespace Cert.SampleProof

open Idealize.ShloMosaic Idealize.ShloMosaic.TcCoe Idealize.SL.Sem

/-- The frame over the reals. -/
theorem frame_ideal : Cert.quiescent_SampleIdeal := fun m ρ _ => frame_any (F := Ideal) m ρ

/-- The reference's frame; it declares no semaphore. -/
theorem frame_reference : Cert.quiescent_SampleRefIdeal := fun m ρ _ =>
  (θ_run Cert.SampleRefIdeal.defs _ _).mono (fun r h => ⟨fun c => (h c).2.2.2.2.2, sem_eq_zero_of_no_sems (by decide) r.2⟩)
    (Cert.SampleRefIdeal.Value.run (F := Ideal) m ρ)

/-- The mask's word is named −∞ over the reals. -/
theorem preserves : Cert.preserves_Sample_SampleIdeal :=
  IdealRules.named_const.statement Cert.SampleIdeal.κ "mask" .f32 _ _ rfl

/-- The kernel's key cache is the reference's where the mask holds. -/
theorem key_on [Cert.On_key_if_finite.Facts] (m : (ℓ : Loc Cert.SampleIdeal.nD Cert.SampleIdeal.τ Cert.SampleIdeal.sig) → Buf (Elt Ideal) ℓ)
    (c : Dev Cert.SampleIdeal.nD) {x0 x1 x2 x3 x4 x5 x8 x9 x10 x11 x12 x13 x14} (i : Cert.SampleIdeal.S1x128x128x2x64.Idx)
    (h : (Cert.On_key_if_finite.fn (F := Ideal) x0 x1 x2 x3 x4 x5
      (m ((c.tc : Thread Cert.SampleIdeal.nD Cert.SampleIdeal.τ).loc Cert.SampleIdeal.main_arg6))
      (m ((c.tc : Thread Cert.SampleIdeal.nD Cert.SampleIdeal.τ).loc Cert.SampleIdeal.main_arg7))
      x8 x9 x10 x11 x12 x13 x14).2.2.2.2 i = 1#1) : keyLeft m c i = resK m c i := by
  obtain ⟨n, j, g, d, rfl⟩ : ∃ (n j : Fin 128) (g : Fin 2) (d : Fin 64), i = ix5 0 n j g d :=
    ⟨i 1, i 2, i 3, i 4, by funext a; fin_cases a <;> first | rfl | exact Subsingleton.elim (α := Fin 1) _ _⟩
  exact keyLeft_at m n j g d (finite_of_mask _ _ _ _ _ _ _ _ _ _ _ _ _ _ _ n j g d h)

/-- Kernel and reference end with equal results, from equal arguments: the key caches where the mask holds, the others anywhere. -/
theorem algebraic [Cert.On_key_if_finite.Facts] : Cert.algebraic_SampleIdeal_SampleRefIdeal_on_key_if_finite := fun m ρ m' ρ' _ hagree =>
  ⟨resV m, resC m, resN m, resM m, resK m,
    (θ_run Cert.SampleIdeal.defs _ _).mono
      (fun _ h c => ⟨fun i _ => congrFun (h.1.1 c).1 i, fun i _ => congrFun (h.1.1 c).2.1 i, fun i _ => congrFun (h.1.1 c).2.2.1 i,
        fun i _ => congrFun (h.1.1 c).2.2.2 i,
        fun i hi => (congrFun (h.1.2 c) i).trans (key_on m c i hi), h.2.1 c⟩)
      (θ_run_and (θ_run_and (run_results m ρ) (run_key m ρ)) (frame_any (F := Ideal) m ρ)),
    (θ_run Cert.SampleRefIdeal.defs _ _).mono (fun r h c => by
      obtain ⟨e0, e1, e2, e3, e4, e5, e6, e7, e8, e9, e10, e11, e12, e13, e14⟩ := hagree c
      refine ⟨fun i _ => congrFun (((h c).1.trans (Cert.SampleRefIdeal.Read.val_main_v94_eq _)).trans ?_) i,
        fun i _ => congrFun (((h c).2.1.trans (Cert.SampleRefIdeal.Read.val_main_v95_eq _)).trans ?_) i,
        fun i _ => congrFun (((h c).2.2.1.trans (Cert.SampleRefIdeal.Read.val_main_v96_eq _)).trans ?_) i,
        fun i _ => congrFun (((h c).2.2.2.1.trans (Cert.SampleRefIdeal.Read.val_main_v97_eq _)).trans ?_) i,
        fun i _ => congrFun (((h c).2.2.2.2.1.trans (Cert.SampleRefIdeal.Read.val_main_v151_eq _)).trans ?_) i, (h c).2.2.2.2.2⟩
      · repeat rw [StableHlo.launchContents_devRef]
        rw [e0, e2, e6, e7]; rfl
      · repeat rw [StableHlo.launchContents_devRef]
        rw [e0, e3, e5, e6, e7, e11, e12]; rfl
      · repeat rw [StableHlo.launchContents_devRef]
        rw [e0, e4, e5, e6, e7, e11, e12]; rfl
      · repeat rw [StableHlo.launchContents_devRef]
        rw [e0, e5, e6, e7, e11, e12]; rfl
      · repeat rw [StableHlo.launchContents_devRef]
        rw [e0, e1, e6, e7, e9]; rfl)
      (Cert.SampleRefIdeal.Value.run (F := Ideal) m' ρ')⟩

end Cert.SampleProof

end
-- ==== Proof.lean ====
module

public import proofs.«01_k».proof.Proof.Gen.Sample
public import proofs.«01_k».proof.Proof.Gen.SampleIdeal
public import proofs.«01_k».proof.Proof.Gen.SampleRefIdeal.Run
public import proofs.«01_k».proof.Proof.Gen.SampleRefIdeal.Read
public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.FfnClaim
public import proofs.«01_k».proof.Proof.SampleWordsClaim
public import proofs.«01_k».proof.Proof.SampleClaim
public import Idealize.ShloMosaic.Adequacy
public import Idealize.ShloMosaic.Init

@[expose] public section

noncomputable section

namespace Cert.Proof

theorem claim : Cert.Claim := ⟨Cert.Ffn.Gen.facts, Cert.FfnIdeal.Gen.facts, Cert.FfnRefIdeal.Gen.facts,
  Cert.Sample.Gen.facts, Cert.SampleIdeal.Gen.facts, Cert.SampleRefIdeal.Gen.facts,
  Cert.SampleProof.mask_facts,
  Cert.FfnProof.frame_kernel, Cert.FfnProof.frame_ideal, Cert.FfnProof.frame_reference,
  Cert.SampleWords.frame_kernel, Cert.SampleProof.frame_ideal, Cert.SampleProof.frame_reference,
  trivial, Cert.FfnProof.algebraic, Cert.SampleProof.preserves, @Cert.SampleProof.algebraic Cert.SampleProof.mask_facts⟩

end Cert.Proof

end
